-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v180) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v215) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v2)) (v2 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v2) = v1 c
          ∧ r.2.mem ((c.tc : Thread Cert.Kernel4Ideal.nD Cert.Kernel4Ideal.τ).loc Cert.Kernel4Ideal.main_v4) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_v43) = v1 c
          ∧ r.2.mem ((c.tc : Thread Cert.Reference4Ideal.nD Cert.Reference4Ideal.τ).loc Cert.Reference4Ideal.main_v45) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S8192x4096 : Shape := ⟨2, ![8192, 4096]⟩
abbrev S4x2x512x8x64 : Shape := ⟨5, ![4, 2, 512, 8, 64]⟩
abbrev S8x15x31 : Shape := ⟨3, ![8, 15, 31]⟩
abbrev S8192x1024 : Shape := ⟨2, ![8192, 1024]⟩
abbrev S_ : Shape := ⟨0, ![]⟩
abbrev S4x1x512x8x64 : Shape := ⟨5, ![4, 1, 512, 8, 64]⟩
abbrev S4x512x8x64 : Shape := ⟨4, ![4, 512, 8, 64]⟩
abbrev S1 : Shape := ⟨1, ![1]⟩
abbrev S3 : Shape := ⟨1, ![3]⟩

class Facts : Prop where
  slices_S8192x4096_S8192x1024_0_2560 : S8192x4096.Slices ![0, 2560] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S4x2x512x8x64_S4x1x512x8x64_0_0_0_0_0 : S4x2x512x8x64.Slices ![0, 0, 0, 0, 0] S4x1x512x8x64
  shapeCasts_S4x1x512x8x64_S4x512x8x64 : S4x1x512x8x64.ShapeCasts S4x512x8x64
  bcast_S_S4x512x8x64 : S_.BroadcastsInDim S4x512x8x64 (![] : Fin 0 → Fin S4x512x8x64.rank)
  reducesTo_S4x512x8x64_S_d0_1_2_3 : S4x512x8x64.ReducesTo [0, 1, 2, 3] S_
  bcast_S_S8x15x31 : S_.BroadcastsInDim S8x15x31 (![] : Fin 0 → Fin S8x15x31.rank)
  reducesTo_S8x15x31_S_d0_1_2 : S8x15x31.ReducesTo [0, 1, 2] S_
  bcast_S_S1 : S_.BroadcastsInDim S1 (![] : Fin 0 → Fin S1.rank)
  concatenates_S1_S1_S1_S3_d0 : Shape.Concatenates [S1, S1, S1] S3 0

variable [Facts]

def fn_part1 {F : FTy → Type} [FloatOps F] (main_v15 : IVec S1 1) (main_v16 : IVec S1 1) (main_v17 : IVec S1 1) : IVec S3 1 :=
  let main_v18 : IVec S3 1 := concatenate S3 0 [⟨S1, main_v15⟩, ⟨S1, main_v16⟩, ⟨S1, main_v17⟩] concatenates_S1_S1_S1_S3_d0
  main_v18

def fn {F : FTy → Type} [FloatOps F] (main_arg0 : FVec F S8192x4096 .f32) (main_arg1 : FVec F S4x2x512x8x64 .f32) (main_arg2 : FVec F S4x2x512x8x64 .f32) (main_arg3 : FVec F S8x15x31 .f32) : IVec S3 1 :=
  let main_v0 : FVec F S8192x1024 .f32 := (extractStridedSlice S8192x1024 ![0, 2560] · slices_S8192x4096_S8192x1024_0_2560) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S4x1x512x8x64 .f32 := (extractStridedSlice S4x1x512x8x64 ![0, 0, 0, 0, 0] · slices_S4x2x512x8x64_S4x1x512x8x64_0_0_0_0_0) main_arg1
  let main_v6 : FVec F S4x512x8x64 .f32 := shapeCast S4x512x8x64 main_v5 shapeCasts_S4x1x512x8x64_S4x512x8x64
  let main_v7 : FVec F S4x512x8x64 .f32 := Host.absf main_v6
  let main_cst_0 : FVec F S_ .f32 := constant S_ .f32 0x7F800000#32
  let main_v8 : FVec F S4x512x8x64 .f32 := broadcastInDim S4x512x8x64 ![] bcast_S_S4x512x8x64 main_cst_0
  let main_v9 : IVec S4x512x8x64 1 := cmpf .olt main_v7 main_v8
  let main_c_1 : IVec S_ 1 := constantI S_ 1 1#1
  let main_v10 : IVec S_ 1 := (fun x v => Host.reduce IntOp.andi x v reducesTo_S4x512x8x64_S_d0_1_2_3 h_S_) main_v9 main_c_1
  let main_v11 : FVec F S8x15x31 .f32 := Host.absf main_arg3
  let main_cst_2 : FVec F S_ .f32 := constant S_ .f32 0x7F800000#32
  let main_v12 : FVec F S8x15x31 .f32 := broadcastInDim S8x15x31 ![] bcast_S_S8x15x31 main_cst_2
  let main_v13 : IVec S8x15x31 1 := cmpf .olt main_v11 main_v12
  let main_c_3 : IVec S_ 1 := constantI S_ 1 1#1
  let main_v14 : IVec S_ 1 := (fun x v => Host.reduce IntOp.andi x v reducesTo_S8x15x31_S_d0_1_2 h_S_) main_v13 main_c_3
  let main_v15 : IVec S1 1 := broadcastInDim S1 ![] bcast_S_S1 main_v4
  let main_v16 : IVec S1 1 := broadcastInDim S1 ![] bcast_S_S1 main_v10
  let main_v17 : IVec S1 1 := broadcastInDim S1 ![] bcast_S_S1 main_v14
  fn_part1 (F := F) main_v15 main_v16 main_v17
-- ==== Kernel.lean ====
abbrev S8192x4096 : Shape := ⟨2, ![8192, 4096]⟩
abbrev S4x2x512x8x64 : Shape := ⟨5, ![4, 2, 512, 8, 64]⟩
abbrev S8x15x31 : Shape := ⟨3, ![8, 15, 31]⟩
abbrev S4x2x512x512 : Shape := ⟨4, ![4, 2, 512, 512]⟩
abbrev S16 : Shape := ⟨1, ![16]⟩
abbrev S_ : Shape := ⟨0, ![]⟩
abbrev S16x1 : Shape := ⟨2, ![16, 1]⟩
abbrev S8 : Shape := ⟨1, ![8]⟩
abbrev S1x8 : Shape := ⟨2, ![1, 8]⟩
abbrev S16x8 : Shape := ⟨2, ![16, 8]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S16x1x8x1 : Shape := ⟨4, ![16, 1, 8, 1]⟩
abbrev S1x64x1x64 : Shape := ⟨4, ![1, 64, 1, 64]⟩
abbrev S16x64x8x64 : Shape := ⟨4, ![16, 64, 8, 64]⟩
abbrev S16x64x8x64x1 : Shape := ⟨5, ![16, 64, 8, 64, 1]⟩
abbrev S16x64x8x64x2 : Shape := ⟨5, ![16, 64, 8, 64, 2]⟩
abbrev S8x16x64x8x64 : Shape := ⟨5, ![8, 16, 64, 8, 64]⟩
abbrev S4x2x16x64x512 : Shape := ⟨5, ![4, 2, 16, 64, 512]⟩
abbrev S8192x512 : Shape := ⟨2, ![8192, 512]⟩
abbrev S1024x128 : Shape := ⟨2, ![1024, 128]⟩
abbrev S1x1x512x128 : Shape := ⟨4, ![1, 1, 512, 128]⟩
abbrev S1x2x16x64x512 : Shape := ⟨5, ![1, 2, 16, 64, 512]⟩
abbrev S2x1024x128 : Shape := ⟨3, ![2, 1024, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S64x512 : Shape := ⟨2, ![64, 512]⟩
abbrev S512x128 : Shape := ⟨2, ![512, 128]⟩
abbrev S1024x512 : Shape := ⟨2, ![1024, 512]⟩
abbrev S64x128 : Shape := ⟨2, ![64, 128]⟩
abbrev S1x1x1x64x512 : Shape := ⟨5, ![1, 1, 1, 64, 512]⟩
abbrev S1x64x128 : Shape := ⟨3, ![1, 64, 128]⟩
abbrev S1x1024x128 : Shape := ⟨3, ![1, 1024, 128]⟩

abbrev nBuf : Space → Nat
  | .hbm => 77
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4x2x512x8x64, .f32⟩
  | .hbm, ⟨2, _⟩ => ⟨S4x2x512x8x64, .f32⟩
  | .hbm, ⟨3, _⟩ => ⟨S8x15x31, .f32⟩
  | .hbm, ⟨4, _⟩ => ⟨S4x2x512x512, .f32⟩
  | .hbm, ⟨5, _⟩ => ⟨S4x2x512x512, .f32⟩
  | .hbm, ⟨6, _⟩ => ⟨S16, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S16x1, .i32⟩
  | .hbm, ⟨19, _⟩ => ⟨S8, .i32⟩
  | .hbm, ⟨20, _⟩ => ⟨S1x8, .i32⟩
  | .hbm, ⟨21, _⟩ => ⟨S16x8, .i32⟩
  | .hbm, ⟨22, _⟩ => ⟨S16x8, .i32⟩
  | .hbm, ⟨23, _⟩ => ⟨S16x8, .i32⟩
  | .hbm, ⟨24, _⟩ => ⟨S16x1, .i32⟩
  | .hbm, ⟨25, _⟩ => ⟨S16x8, .i32⟩
  | .hbm, ⟨26, _⟩ => ⟨S16x8, .i32⟩
  | .hbm, ⟨27, _⟩ => ⟨S_, .i32⟩
  | .hbm, ⟨28, _⟩ => ⟨S16x8, .i32⟩
  | .hbm, ⟨29, _⟩ => ⟨S16x8, .i32⟩
  | .hbm, ⟨30, _⟩ => ⟨S_, .i32⟩
  | .hbm, ⟨31, _⟩ => ⟨S16x8, .i32⟩
  | .hbm, ⟨32, _⟩ => ⟨S16x8, .i32⟩
  | .hbm, ⟨33, _⟩ => ⟨S64, .i32⟩
  | .hbm, ⟨34, _⟩ => ⟨S1x64, .i32⟩
  | .hbm, ⟨35, _⟩ => ⟨S64x1, .i32⟩
  | .hbm, ⟨36, _⟩ => ⟨S64x64, .i32⟩
  | .hbm, ⟨37, _⟩ => ⟨S64x64, .i32⟩
  | .hbm, ⟨38, _⟩ => ⟨S64x64, .i32⟩
  | .hbm, ⟨39, _⟩ => ⟨S_, .i32⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S64x64, .i32⟩
  | .hbm, ⟨49, _⟩ => ⟨S64x64, .i32⟩
  | .hbm, ⟨50, _⟩ => ⟨S_, .i32⟩
  | .hbm, ⟨51, _⟩ => ⟨S64x64, .i32⟩
  | .hbm, ⟨52, _⟩ => ⟨S64x64, .i32⟩
  | .hbm, ⟨53, _⟩ => ⟨S16x1x8x1, .i32⟩
  | .hbm, ⟨54, _⟩ => ⟨S1x64x1x64, .i32⟩
  | .hbm, ⟨55, _⟩ => ⟨S_, .i32⟩
  | .hbm, ⟨56, _⟩ => ⟨S16x1x8x1, .i32⟩
  | .hbm, ⟨57, _⟩ => ⟨S16x1x8x1, .i1⟩
  | .hbm, ⟨58, _⟩ => ⟨S_, .i32⟩
  | .hbm, ⟨59, _⟩ => ⟨S16x1x8x1, .i32⟩
  | .hbm, ⟨60, _⟩ => ⟨S16x1x8x1, .i32⟩
  | .hbm, ⟨61, _⟩ => ⟨S16x1x8x1, .i32⟩
  | .hbm, ⟨62, _⟩ => ⟨S_, .i32⟩
  | .hbm, ⟨63, _⟩ => ⟨S1x64x1x64, .i32⟩
  | .hbm, ⟨64, _⟩ => ⟨S1x64x1x64, .i1⟩
  | .hbm, ⟨65, _⟩ => ⟨S_, .i32⟩
  | .hbm, ⟨66, _⟩ => ⟨S1x64x1x64, .i32⟩
  | .hbm, ⟨67, _⟩ => ⟨S1x64x1x64, .i32⟩
  | .hbm, ⟨68, _⟩ => ⟨S1x64x1x64, .i32⟩
  | .hbm, ⟨69, _⟩ => ⟨S16x64x8x64, .i32⟩
  | .hbm, ⟨70, _⟩ => ⟨S16x64x8x64, .i32⟩
  | .hbm, ⟨71, _⟩ => ⟨S16x64x8x64x1, .i32⟩
  | .hbm, ⟨72, _⟩ => ⟨S16x64x8x64x1, .i32⟩
  | .hbm, ⟨73, _⟩ => ⟨S16x64x8x64x2, .i32⟩
  | .hbm, ⟨74, _⟩ => ⟨S8x16x64x8x64, .f32⟩
  | .hbm, ⟨75, _⟩ => ⟨S4x2x16x64x512, .f32⟩
  | .hbm, ⟨76, _⟩ => ⟨S8192x512, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x1x512x128, .f32⟩
  | .local _ .vmem, ⟨7, _⟩ => ⟨S1x1x512x128, .f32⟩
  | .local _ .vmem, ⟨8, _⟩ => ⟨S1x1x512x128, .f32⟩
  | .local _ .vmem, ⟨9, _⟩ => ⟨S1x1x512x128, .f32⟩
  | .local _ .vmem, ⟨10, _⟩ => ⟨S1x2x16x64x512, .f32⟩
  | .local _ .vmem, ⟨11, _⟩ => ⟨S1x2x16x64x512, .f32⟩
  | .local _ .vmem, ⟨12, _⟩ => ⟨S1024x128, .f32⟩
  | .local _ .vmem, ⟨13, _⟩ => ⟨S1024x128, .f32⟩
  | .local _ .vmem, ⟨14, _⟩ => ⟨S2x1024x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_c_7 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_c_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_c_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat, arg0.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat, arg0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x16x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x4096 : Shape := ⟨2, ![8192, 4096]⟩
abbrev S4x2x512x8x64 : Shape := ⟨5, ![4, 2, 512, 8, 64]⟩
abbrev S8x15x31 : Shape := ⟨3, ![8, 15, 31]⟩
abbrev S4096x4096 : Shape := ⟨2, ![4096, 4096]⟩
abbrev S4096x512 : Shape := ⟨2, ![4096, 512]⟩
abbrev S16x256x8x64 : Shape := ⟨4, ![16, 256, 8, 64]⟩
abbrev S16x8x256x256 : Shape := ⟨4, ![16, 8, 256, 256]⟩
abbrev S_ : Shape := ⟨0, ![]⟩
abbrev S16x8x256 : Shape := ⟨3, ![16, 8, 256]⟩
abbrev S16x8x256x1 : Shape := ⟨4, ![16, 8, 256, 1]⟩
abbrev S16x8x64x256 : Shape := ⟨4, ![16, 8, 64, 256]⟩
abbrev S4x1024x8x64 : Shape := ⟨4, ![4, 1024, 8, 64]⟩
abbrev S4x1x512x8x64 : Shape := ⟨5, ![4, 1, 512, 8, 64]⟩
abbrev S4x512x8x64 : Shape := ⟨4, ![4, 512, 8, 64]⟩
abbrev S16 : Shape := ⟨1, ![16]⟩
abbrev S16x1 : Shape := ⟨2, ![16, 1]⟩
abbrev S8 : Shape := ⟨1, ![8]⟩
abbrev S1x8 : Shape := ⟨2, ![1, 8]⟩
abbrev S16x8 : Shape := ⟨2, ![16, 8]⟩
abbrev S64 : Shape := ⟨1, ![64]⟩
abbrev S4x16 : Shape := ⟨2, ![4, 16]⟩
abbrev S4 : Shape := ⟨1, ![4]⟩
abbrev S4x1 : Shape := ⟨2, ![4, 1]⟩
abbrev S32 : Shape := ⟨1, ![32]⟩
abbrev S1x32 : Shape := ⟨2, ![1, 32]⟩
abbrev S4x32 : Shape := ⟨2, ![4, 32]⟩
abbrev S16x1x8x1 : Shape := ⟨4, ![16, 1, 8, 1]⟩
abbrev S1x4x1x32 : Shape := ⟨4, ![1, 4, 1, 32]⟩
abbrev S4x16x64x8x64 : Shape := ⟨5, ![4, 16, 64, 8, 64]⟩
abbrev S16x4x8x32 : Shape := ⟨4, ![16, 4, 8, 32]⟩
abbrev S16x4x8x32x1 : Shape := ⟨5, ![16, 4, 8, 32, 1]⟩
abbrev S16x4x8x32x2 : Shape := ⟨5, ![16, 4, 8, 32, 2]⟩
abbrev S4x16x4x8x32x8x64 : Shape := ⟨7, ![4, 16, 4, 8, 32, 8, 64]⟩
abbrev S4x16x4x16x8x64 : Shape := ⟨6, ![4, 16, 4, 16, 8, 64]⟩
abbrev S4x8x16x4x16x8x32 : Shape := ⟨7, ![4, 8, 16, 4, 16, 8, 32]⟩
abbrev S4x1x32 : Shape := ⟨3, ![4, 1, 32]⟩
abbrev S4x16x1 : Shape := ⟨3, ![4, 16, 1]⟩
abbrev S4x16x32 : Shape := ⟨3, ![4, 16, 32]⟩
abbrev S16x1x1x8x1 : Shape := ⟨5, ![16, 1, 1, 8, 1]⟩
abbrev S1x4x16x1x32 : Shape := ⟨5, ![1, 4, 16, 1, 32]⟩
abbrev S16x4x16x8x32 : Shape := ⟨5, ![16, 4, 16, 8, 32]⟩
abbrev S16x4x16x8x32x1 : Shape := ⟨6, ![16, 4, 16, 8, 32, 1]⟩
abbrev S16x4x16x8x32x2 : Shape := ⟨6, ![16, 4, 16, 8, 32, 2]⟩
abbrev S8x16x4x16x8x32 : Shape := ⟨6, ![8, 16, 4, 16, 8, 32]⟩
abbrev S1x1x1x4x16x1x32 : Shape := ⟨7, ![1, 1, 1, 4, 16, 1, 32]⟩
abbrev S1x8x16x4x16x8x32 : Shape := ⟨7, ![1, 8, 16, 4, 16, 8, 32]⟩
abbrev S4x8x16x4x16x256 : Shape := ⟨6, ![4, 8, 16, 4, 16, 256]⟩
abbrev S4x8x16x4x16x512 : Shape := ⟨6, ![4, 8, 16, 4, 16, 512]⟩
abbrev S4x8x16x4x16x768 : Shape := ⟨6, ![4, 8, 16, 4, 16, 768]⟩
abbrev S4x8x16x4x16 : Shape := ⟨5, ![4, 8, 16, 4, 16]⟩
abbrev S4x8x16x4x16x1 : Shape := ⟨6, ![4, 8, 16, 4, 16, 1]⟩
abbrev S4x16x4x8x64x16 : Shape := ⟨6, ![4, 16, 4, 8, 64, 16]⟩
abbrev S4x8x64x16x4x16 : Shape := ⟨6, ![4, 8, 64, 16, 4, 16]⟩
abbrev S4x1024x512 : Shape := ⟨3, ![4, 1024, 512]⟩
abbrev S8192x512 : Shape := ⟨2, ![8192, 512]⟩

abbrev nBuf : Space → Nat
  | .hbm => 240
  | .vmem => 0
  | .smem => 0
  | _ => 0

abbrev hbmTy0_0 (i : Nat) : BufTy := match i % 128 with
  | 0 => ⟨S8192x4096, .f32⟩
  | 1 => ⟨S4x2x512x8x64, .f32⟩
  | 2 => ⟨S4x2x512x8x64, .f32⟩
  | 3 => ⟨S8x15x31, .f32⟩
  | 4 => ⟨S4096x4096, .f32⟩
  | 5 => ⟨S4096x4096, .f32⟩
  | 6 => ⟨S4096x512, .f32⟩
  | 7 => ⟨S16x256x8x64, .f32⟩
  | 8 => ⟨S4096x512, .f32⟩
  | 9 => ⟨S16x256x8x64, .f32⟩
  | 10 => ⟨S4096x512, .f32⟩
  | 11 => ⟨S16x256x8x64, .f32⟩
  | 12 => ⟨S16x8x256x256, .f32⟩
  | 13 => ⟨S_, .f32⟩
  | 14 => ⟨S16x8x256x256, .f32⟩
  | 15 => ⟨S16x8x256x256, .f32⟩
  | 16 => ⟨S_, .f32⟩
  | 17 => ⟨S16x8x256, .f32⟩
  | 18 => ⟨S16x8x256x1, .f32⟩
  | 19 => ⟨S16x8x256x256, .f32⟩
  | 20 => ⟨S16x8x256x256, .f32⟩
  | 21 => ⟨S16x8x256x256, .f32⟩
  | 22 => ⟨S_, .f32⟩
  | 23 => ⟨S16x8x256, .f32⟩
  | 24 => ⟨S16x8x256x1, .f32⟩
  | 25 => ⟨S16x8x256x256, .f32⟩
  | 26 => ⟨S16x8x256x256, .f32⟩
  | 27 => ⟨S16x8x64x256, .f32⟩
  | 28 => ⟨S16x256x8x64, .f32⟩
  | 29 => ⟨S4096x512, .f32⟩
  | 30 => ⟨S4096x512, .f32⟩
  | 31 => ⟨S4x1024x8x64, .f32⟩
  | 32 => ⟨S4096x512, .f32⟩
  | 33 => ⟨S4x1024x8x64, .f32⟩
  | 34 => ⟨S4096x512, .f32⟩
  | 35 => ⟨S4x1024x8x64, .f32⟩
  | 36 => ⟨S4x1x512x8x64, .f32⟩
  | 37 => ⟨S4x512x8x64, .f32⟩
  | 38 => ⟨S4x1x512x8x64, .f32⟩
  | 39 => ⟨S4x512x8x64, .f32⟩
  | 40 => ⟨S16, .i32⟩
  | 41 => ⟨S_, .i32⟩
  | 42 => ⟨S16, .i32⟩
  | 43 => ⟨S16, .i32⟩
  | 44 => ⟨S_, .i32⟩
  | 45 => ⟨S_, .i32⟩
  | 46 => ⟨S_, .i32⟩
  | 47 => ⟨S16, .i32⟩
  | 48 => ⟨S16, .i32⟩
  | 49 => ⟨S_, .i32⟩
  | 50 => ⟨S16, .i32⟩
  | 51 => ⟨S16, .i32⟩
  | 52 => ⟨S16x1, .i32⟩
  | 53 => ⟨S8, .i32⟩
  | 54 => ⟨S1x8, .i32⟩
  | 55 => ⟨S16x8, .i32⟩
  | 56 => ⟨S16x8, .i32⟩
  | 57 => ⟨S16x8, .i32⟩
  | 58 => ⟨S64, .i32⟩
  | 59 => ⟨S4x16, .i32⟩
  | 60 => ⟨S_, .i32⟩
  | 61 => ⟨S4x16, .i32⟩
  | 62 => ⟨S4x16, .i32⟩
  | 63 => ⟨S_, .i32⟩
  | 64 => ⟨S_, .i32⟩
  | 65 => ⟨S_, .i32⟩
  | 66 => ⟨S4x16, .i32⟩
  | 67 => ⟨S4x16, .i32⟩
  | 68 => ⟨S_, .i32⟩
  | 69 => ⟨S4x16, .i32⟩
  | 70 => ⟨S4x16, .i32⟩
  | 71 => ⟨S4, .i32⟩
  | 72 => ⟨S_, .i32⟩
  | 73 => ⟨S4, .i32⟩
  | 74 => ⟨S4, .i32⟩
  | 75 => ⟨S_, .i32⟩
  | 76 => ⟨S4, .i32⟩
  | 77 => ⟨S4, .i32⟩
  | 78 => ⟨S_, .i32⟩
  | 79 => ⟨S_, .i32⟩
  | 80 => ⟨S_, .i32⟩
  | 81 => ⟨S4, .i32⟩
  | 82 => ⟨S4, .i32⟩
  | 83 => ⟨S_, .i32⟩
  | 84 => ⟨S4, .i32⟩
  | 85 => ⟨S4, .i32⟩
  | 86 => ⟨S4x1, .i32⟩
  | 87 => ⟨S32, .i32⟩
  | 88 => ⟨S1x32, .i32⟩
  | 89 => ⟨S4x32, .i32⟩
  | 90 => ⟨S4x32, .i32⟩
  | 91 => ⟨S4x32, .i32⟩
  | 92 => ⟨S16x1x8x1, .i32⟩
  | 93 => ⟨S1x4x1x32, .i32⟩
  | 94 => ⟨S4x16x64x8x64, .f32⟩
  | 95 => ⟨S_, .i32⟩
  | 96 => ⟨S16x1x8x1, .i32⟩
  | 97 => ⟨S16x1x8x1, .i1⟩
  | 98 => ⟨S_, .i32⟩
  | 99 => ⟨S16x1x8x1, .i32⟩
  | 100 => ⟨S16x1x8x1, .i32⟩
  | 101 => ⟨S16x1x8x1, .i32⟩
  | 102 => ⟨S_, .i32⟩
  | 103 => ⟨S1x4x1x32, .i32⟩
  | 104 => ⟨S1x4x1x32, .i1⟩
  | 105 => ⟨S_, .i32⟩
  | 106 => ⟨S1x4x1x32, .i32⟩
  | 107 => ⟨S1x4x1x32, .i32⟩
  | 108 => ⟨S1x4x1x32, .i32⟩
  | 109 => ⟨S16x4x8x32, .i32⟩
  | 110 => ⟨S16x4x8x32, .i32⟩
  | 111 => ⟨S16x4x8x32x1, .i32⟩
  | 112 => ⟨S16x4x8x32x1, .i32⟩
  | 113 => ⟨S16x4x8x32x2, .i32⟩
  | 114 => ⟨S4x16x4x8x32x8x64, .f32⟩
  | 115 => ⟨S4x16x64x8x64, .f32⟩
  | 116 => ⟨S_, .i32⟩
  | 117 => ⟨S16x1x8x1, .i32⟩
  | 118 => ⟨S16x1x8x1, .i1⟩
  | 119 => ⟨S_, .i32⟩
  | 120 => ⟨S16x1x8x1, .i32⟩
  | 121 => ⟨S16x1x8x1, .i32⟩
  | 122 => ⟨S16x1x8x1, .i32⟩
  | 123 => ⟨S_, .i32⟩
  | 124 => ⟨S1x4x1x32, .i32⟩
  | 125 => ⟨S1x4x1x32, .i1⟩
  | 126 => ⟨S_, .i32⟩
  | 127 => ⟨S1x4x1x32, .i32⟩
  | _ => ⟨S8192x4096, .f32⟩

abbrev hbmTy0_1 (i : Nat) : BufTy := match i % 128 with
  | 0 => ⟨S1x4x1x32, .i32⟩
  | 1 => ⟨S1x4x1x32, .i32⟩
  | 2 => ⟨S16x4x8x32, .i32⟩
  | 3 => ⟨S16x4x8x32, .i32⟩
  | 4 => ⟨S16x4x8x32x1, .i32⟩
  | 5 => ⟨S16x4x8x32x1, .i32⟩
  | 6 => ⟨S16x4x8x32x2, .i32⟩
  | 7 => ⟨S4x16x4x8x32x8x64, .f32⟩
  | 8 => ⟨S4x16x4x16x8x64, .f32⟩
  | 9 => ⟨S4x8x16x4x16x8x32, .f32⟩
  | 10 => ⟨S_, .f32⟩
  | 11 => ⟨S4x8x16x4x16x8x32, .f32⟩
  | 12 => ⟨S4x8x16x4x16x8x32, .f32⟩
  | 13 => ⟨S4x1x32, .i32⟩
  | 14 => ⟨S4x16x1, .i32⟩
  | 15 => ⟨S4x16x32, .i32⟩
  | 16 => ⟨S4x16x32, .i32⟩
  | 17 => ⟨S4x16x32, .i1⟩
  | 18 => ⟨S4x16x1, .i32⟩
  | 19 => ⟨S_, .i32⟩
  | 20 => ⟨S4x16x1, .i32⟩
  | 21 => ⟨S4x16x1, .i32⟩
  | 22 => ⟨S4x16x32, .i32⟩
  | 23 => ⟨S4x16x32, .i32⟩
  | 24 => ⟨S4x16x32, .i1⟩
  | 25 => ⟨S4x16x32, .i1⟩
  | 26 => ⟨S16x1, .i32⟩
  | 27 => ⟨S16x8, .i32⟩
  | 28 => ⟨S16x8, .i32⟩
  | 29 => ⟨S_, .i32⟩
  | 30 => ⟨S16x8, .i32⟩
  | 31 => ⟨S16x8, .i32⟩
  | 32 => ⟨S_, .i32⟩
  | 33 => ⟨S16x8, .i32⟩
  | 34 => ⟨S16x8, .i32⟩
  | 35 => ⟨S4x16x1, .i32⟩
  | 36 => ⟨S4x16x32, .i32⟩
  | 37 => ⟨S4x16x32, .i32⟩
  | 38 => ⟨S4x16x32, .i32⟩
  | 39 => ⟨S_, .i32⟩
  | 40 => ⟨S4x16x32, .i32⟩
  | 41 => ⟨S4x16x32, .i32⟩
  | 42 => ⟨S_, .i32⟩
  | 43 => ⟨S4x16x32, .i32⟩
  | 44 => ⟨S4x16x32, .i32⟩
  | 45 => ⟨S_, .i32⟩
  | 46 => ⟨S_, .i32⟩
  | 47 => ⟨S_, .i32⟩
  | 48 => ⟨S4x16x32, .i32⟩
  | 49 => ⟨S4x16x32, .i32⟩
  | 50 => ⟨S_, .i32⟩
  | 51 => ⟨S4x16x32, .i32⟩
  | 52 => ⟨S4x16x32, .i32⟩
  | 53 => ⟨S16x1x1x8x1, .i32⟩
  | 54 => ⟨S1x4x16x1x32, .i32⟩
  | 55 => ⟨S_, .i32⟩
  | 56 => ⟨S16x1x1x8x1, .i32⟩
  | 57 => ⟨S16x1x1x8x1, .i1⟩
  | 58 => ⟨S_, .i32⟩
  | 59 => ⟨S16x1x1x8x1, .i32⟩
  | 60 => ⟨S16x1x1x8x1, .i32⟩
  | 61 => ⟨S16x1x1x8x1, .i32⟩
  | 62 => ⟨S_, .i32⟩
  | 63 => ⟨S1x4x16x1x32, .i32⟩
  | 64 => ⟨S1x4x16x1x32, .i1⟩
  | 65 => ⟨S_, .i32⟩
  | 66 => ⟨S1x4x16x1x32, .i32⟩
  | 67 => ⟨S1x4x16x1x32, .i32⟩
  | 68 => ⟨S1x4x16x1x32, .i32⟩
  | 69 => ⟨S16x4x16x8x32, .i32⟩
  | 70 => ⟨S16x4x16x8x32, .i32⟩
  | 71 => ⟨S16x4x16x8x32x1, .i32⟩
  | 72 => ⟨S16x4x16x8x32x1, .i32⟩
  | 73 => ⟨S16x4x16x8x32x2, .i32⟩
  | 74 => ⟨S8x16x4x16x8x32, .f32⟩
  | 75 => ⟨S1x1x1x4x16x1x32, .i1⟩
  | 76 => ⟨S1x8x16x4x16x8x32, .f32⟩
  | 77 => ⟨S4x8x16x4x16x8x32, .f32⟩
  | 78 => ⟨S4x8x16x4x16x8x32, .f32⟩
  | 79 => ⟨S_, .f32⟩
  | 80 => ⟨S_, .f32⟩
  | 81 => ⟨S4x8x16x4x16x8x32, .i1⟩
  | 82 => ⟨S4x8x16x4x16x8x32, .f32⟩
  | 83 => ⟨S4x8x16x4x16x8x32, .f32⟩
  | 84 => ⟨S4x8x16x4x16x256, .f32⟩
  | 85 => ⟨S4x8x16x4x16x512, .f32⟩
  | 86 => ⟨S_, .f32⟩
  | 87 => ⟨S4x8x16x4x16x512, .f32⟩
  | 88 => ⟨S4x8x16x4x16x512, .f32⟩
  | 89 => ⟨S4x8x16x4x16x768, .f32⟩
  | 90 => ⟨S_, .f32⟩
  | 91 => ⟨S4x8x16x4x16, .f32⟩
  | 92 => ⟨S4x8x16x4x16x1, .f32⟩
  | 93 => ⟨S4x8x16x4x16x768, .f32⟩
  | 94 => ⟨S4x8x16x4x16x768, .f32⟩
  | 95 => ⟨S4x8x16x4x16x768, .f32⟩
  | 96 => ⟨S_, .f32⟩
  | 97 => ⟨S4x8x16x4x16, .f32⟩
  | 98 => ⟨S4x8x16x4x16x1, .f32⟩
  | 99 => ⟨S4x8x16x4x16x768, .f32⟩
  | 100 => ⟨S4x8x16x4x16x768, .f32⟩
  | 101 => ⟨S4x8x16x4x16x256, .f32⟩
  | 102 => ⟨S4x8x16x4x16x8x32, .f32⟩
  | 103 => ⟨S4x16x4x8x64x16, .f32⟩
  | 104 => ⟨S4x16x4x16x8x64, .f32⟩
  | 105 => ⟨S4x8x16x4x16x512, .f32⟩
  | 106 => ⟨S4x8x64x16x4x16, .f32⟩
  | 107 => ⟨S4x16x4x16x8x64, .f32⟩
  | 108 => ⟨S4x16x4x16x8x64, .f32⟩
  | 109 => ⟨S4x1024x512, .f32⟩
  | 110 => ⟨S4096x512, .f32⟩
  | 111 => ⟨S8192x512, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c : Ref sig .tc := ⟨.hbm, 41, rfl⟩
abbrev main_v34 : Ref sig .tc := ⟨.hbm, 42, rfl⟩
abbrev main_v35 : Ref sig .tc := ⟨.hbm, 43, rfl⟩
abbrev main_c_2 : Ref sig .tc := ⟨.hbm, 44, rfl⟩
abbrev main_c_3 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_4 : Ref sig .tc := ⟨.hbm, 60, rfl⟩
abbrev main_v45 : Ref sig .tc := ⟨.hbm, 61, rfl⟩
abbrev main_v46 : Ref sig .tc := ⟨.hbm, 62, rfl⟩
abbrev main_c_5 : Ref sig .tc := ⟨.hbm, 63, rfl⟩
abbrev main_c_6 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v47 : Ref sig .tc := ⟨.hbm, 70, rfl⟩
abbrev main_v48 : Ref sig .tc := ⟨.hbm, 71, rfl⟩
abbrev main_c_7 : Ref sig .tc := ⟨.hbm, 72, rfl⟩
abbrev main_v49 : Ref sig .tc := ⟨.hbm, 73, rfl⟩
abbrev main_v50 : Ref sig .tc := ⟨.hbm, 74, rfl⟩
abbrev main_c_8 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_c_10 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_11 : Ref sig .tc := ⟨.hbm, 95, rfl⟩
abbrev main_v63 : Ref sig .tc := ⟨.hbm, 96, rfl⟩
abbrev main_v64 : Ref sig .tc := ⟨.hbm, 97, rfl⟩
abbrev main_c_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_13 : Ref sig .tc := ⟨.hbm, 102, rfl⟩
abbrev main_v68 : Ref sig .tc := ⟨.hbm, 103, rfl⟩
abbrev main_v69 : Ref sig .tc := ⟨.hbm, 104, rfl⟩
abbrev main_c_14 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_15 : Ref sig .tc := ⟨.hbm, 116, rfl⟩
abbrev main_v80 : Ref sig .tc := ⟨.hbm, 117, rfl⟩
abbrev main_v81 : Ref sig .tc := ⟨.hbm, 118, rfl⟩
abbrev main_c_16 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_17 : Ref sig .tc := ⟨.hbm, 123, rfl⟩
abbrev main_v85 : Ref sig .tc := ⟨.hbm, 124, rfl⟩
abbrev main_v86 : Ref sig .tc := ⟨.hbm, 125, rfl⟩
abbrev main_c_18 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_19 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c_20 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_c_21 : Ref sig .tc := ⟨.hbm, 157, rfl⟩
abbrev main_v115 : Ref sig .tc := ⟨.hbm, 158, rfl⟩
abbrev main_v116 : Ref sig .tc := ⟨.hbm, 159, rfl⟩
abbrev main_c_22 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_c_23 : Ref sig .tc := ⟨.hbm, 167, rfl⟩
abbrev main_v123 : Ref sig .tc := ⟨.hbm, 168, rfl⟩
abbrev main_v124 : Ref sig .tc := ⟨.hbm, 169, rfl⟩
abbrev main_c_24 : Ref sig .tc := ⟨.hbm, 170, rfl⟩
abbrev main_v125 : Ref sig .tc := ⟨.hbm, 171, rfl⟩
abbrev main_v126 : Ref sig .tc := ⟨.hbm, 172, rfl⟩
abbrev main_c_25 : Ref sig .tc := ⟨.hbm, 173, rfl⟩
abbrev main_c_26 : Ref sig .tc := ⟨.hbm, 174, rfl⟩
abbrev main_call3_v0 : Ref sig .tc := ⟨.hbm, 175, rfl⟩
abbrev main_call3_v1 : Ref sig .tc := ⟨.hbm, 176, rfl⟩
abbrev main_call3_v2 : Ref sig .tc := ⟨.hbm, 177, rfl⟩
abbrev main_call3_v3 : Ref sig .tc := ⟨.hbm, 178, rfl⟩
abbrev main_call3_v4 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_c_27 : Ref sig .tc := ⟨.hbm, 183, rfl⟩
abbrev main_v130 : Ref sig .tc := ⟨.hbm, 184, rfl⟩
abbrev main_v131 : Ref sig .tc := ⟨.hbm, 185, rfl⟩
abbrev main_c_28 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_c_29 : Ref sig .tc := ⟨.hbm, 190, rfl⟩
abbrev main_v135 : Ref sig .tc := ⟨.hbm, 191, rfl⟩
abbrev main_v136 : Ref sig .tc := ⟨.hbm, 192, rfl⟩
abbrev main_c_30 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_cst_31 : Ref sig .tc := ⟨.hbm, 207, rfl⟩
abbrev main_call4_v0 : Ref sig .tc := ⟨.hbm, 208, rfl⟩
abbrev main_call4_v1 : Ref sig .tc := ⟨.hbm, 209, rfl⟩
abbrev main_call4_v2 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_cst_32 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_cst_33 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_cst_34 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩

abbrev nD : Nat := 1
abbrev τ : Topo := Topo.v7x

variable {F : FTy → Type} [FloatOps F]
-- ==== Kernel2.lean ====
abbrev S8192x1024 : Shape := ⟨2, ![8192, 1024]⟩
abbrev S8x1x6144 : Shape := ⟨3, ![8, 1, 6144]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x5632 : Shape := ⟨2, ![1, 5632]⟩
abbrev S1x1024 : Shape := ⟨2, ![1, 1024]⟩
abbrev S1024x1024 : Shape := ⟨2, ![1024, 1024]⟩
abbrev S1x1x6144 : Shape := ⟨3, ![1, 1, 6144]⟩
abbrev S1x6144 : Shape := ⟨2, ![1, 6144]⟩
abbrev S1024x256 : Shape := ⟨2, ![1024, 256]⟩
abbrev S1x256 : Shape := ⟨2, ![1, 256]⟩
abbrev S256x1024 : Shape := ⟨2, ![256, 1024]⟩
abbrev S1024x1 : Shape := ⟨2, ![1024, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8x1x6144, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8192x1024 : Shape := ⟨2, ![8192, 1024]⟩
abbrev S8x1x6144 : Shape := ⟨3, ![8, 1, 6144]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S8x6144 : Shape := ⟨2, ![8, 6144]⟩
abbrev S4096x1024 : Shape := ⟨2, ![4096, 1024]⟩
abbrev S16x256x1024 : Shape := ⟨3, ![16, 256, 1024]⟩
abbrev S4x1024x1024 : Shape := ⟨3, ![4, 1024, 1024]⟩
abbrev S4x6144 : Shape := ⟨2, ![4, 6144]⟩
abbrev S4x1x6144 : Shape := ⟨3, ![4, 1, 6144]⟩
abbrev S4x4x6144 : Shape := ⟨3, ![4, 4, 6144]⟩
abbrev S16x6144 : Shape := ⟨2, ![16, 6144]⟩
abbrev S16x1x6144 : Shape := ⟨3, ![16, 1, 6144]⟩
abbrev S16x1x1024 : Shape := ⟨3, ![16, 1, 1024]⟩
abbrev S_ : Shape := ⟨0, ![]⟩
abbrev S16x256x5632 : Shape := ⟨3, ![16, 256, 5632]⟩
abbrev S16x258x5632 : Shape := ⟨3, ![16, 258, 5632]⟩
abbrev S1x5632 : Shape := ⟨2, ![1, 5632]⟩
abbrev S1x1x5632 : Shape := ⟨3, ![1, 1, 5632]⟩
abbrev S16x256x2816 : Shape := ⟨3, ![16, 256, 2816]⟩
abbrev S16x256 : Shape := ⟨2, ![16, 256]⟩
abbrev S16x256x1 : Shape := ⟨3, ![16, 256, 1]⟩
abbrev S1x1x1024 : Shape := ⟨3, ![1, 1, 1024]⟩
abbrev S4x1x1024 : Shape := ⟨3, ![4, 1, 1024]⟩
abbrev S4x1024x5632 : Shape := ⟨3, ![4, 1024, 5632]⟩
abbrev S4x1026x5632 : Shape := ⟨3, ![4, 1026, 5632]⟩
abbrev S4x1024x2816 : Shape := ⟨3, ![4, 1024, 2816]⟩
abbrev S4x1024 : Shape := ⟨2, ![4, 1024]⟩
abbrev S4x1024x1 : Shape := ⟨3, ![4, 1024, 1]⟩

abbrev nBuf : Space → Nat
  | .hbm => 215
  | .vmem => 0
  | .smem => 0
  | _ => 0

abbrev hbmTy0_0 (i : Nat) : BufTy := match i % 128 with
  | 0 => ⟨S8192x1024, .f32⟩
  | 1 => ⟨S8x1x6144, .f32⟩
  | 2 => ⟨S1024x5632, .f32⟩
  | 3 => ⟨S3x5632, .f32⟩
  | 4 => ⟨S5632, .f32⟩
  | 5 => ⟨S2816x1024, .f32⟩
  | 6 => ⟨S1024, .f32⟩
  | 7 => ⟨S1024, .f32⟩
  | 8 => ⟨S8x6144, .f32⟩
  | 9 => ⟨S4096x1024, .f32⟩
  | 10 => ⟨S16x256x1024, .f32⟩
  | 11 => ⟨S4096x1024, .f32⟩
  | 12 => ⟨S4x1024x1024, .f32⟩
  | 13 => ⟨S4x6144, .f32⟩
  | 14 => ⟨S4x1x6144, .f32⟩
  | 15 => ⟨S4x4x6144, .f32⟩
  | 16 => ⟨S16x6144, .f32⟩
  | 17 => ⟨S16x1x6144, .f32⟩
  | 18 => ⟨S16x1x1024, .f32⟩
  | 19 => ⟨S16x1x1024, .f32⟩
  | 20 => ⟨S16x1x1024, .f32⟩
  | 21 => ⟨S16x1x1024, .f32⟩
  | 22 => ⟨S16x1x1024, .f32⟩
  | 23 => ⟨S16x1x1024, .f32⟩
  | 24 => ⟨S_, .f32⟩
  | 25 => ⟨S16x1x1024, .f32⟩
  | 26 => ⟨S16x1x1024, .f32⟩
  | 27 => ⟨S16x256x1024, .f32⟩
  | 28 => ⟨S16x256x1024, .f32⟩
  | 29 => ⟨S16x256x1024, .f32⟩
  | 30 => ⟨S16x256x1024, .f32⟩
  | 31 => ⟨S16x256x5632, .f32⟩
  | 32 => ⟨S_, .i32⟩
  | 33 => ⟨S_, .f32⟩
  | 34 => ⟨S16x258x5632, .f32⟩
  | 35 => ⟨S16x256x5632, .f32⟩
  | 36 => ⟨S1x5632, .f32⟩
  | 37 => ⟨S5632, .f32⟩
  | 38 => ⟨S1x1x5632, .f32⟩
  | 39 => ⟨S16x256x5632, .f32⟩
  | 40 => ⟨S16x256x5632, .f32⟩
  | 41 => ⟨S16x256x5632, .f32⟩
  | 42 => ⟨S1x5632, .f32⟩
  | 43 => ⟨S5632, .f32⟩
  | 44 => ⟨S1x1x5632, .f32⟩
  | 45 => ⟨S16x256x5632, .f32⟩
  | 46 => ⟨S16x256x5632, .f32⟩
  | 47 => ⟨S16x256x5632, .f32⟩
  | 48 => ⟨S16x256x5632, .f32⟩
  | 49 => ⟨S1x5632, .f32⟩
  | 50 => ⟨S5632, .f32⟩
  | 51 => ⟨S1x1x5632, .f32⟩
  | 52 => ⟨S16x256x5632, .f32⟩
  | 53 => ⟨S16x256x5632, .f32⟩
  | 54 => ⟨S16x256x5632, .f32⟩
  | 55 => ⟨S1x1x5632, .f32⟩
  | 56 => ⟨S16x256x5632, .f32⟩
  | 57 => ⟨S16x256x5632, .f32⟩
  | 58 => ⟨S16x256x2816, .f32⟩
  | 59 => ⟨S16x256x2816, .f32⟩
  | 60 => ⟨S16x256x2816, .f32⟩
  | 61 => ⟨S16x256x2816, .f32⟩
  | 62 => ⟨S_, .f32⟩
  | 63 => ⟨S16x256x2816, .f32⟩
  | 64 => ⟨S16x256x2816, .f32⟩
  | 65 => ⟨S16x256x2816, .f32⟩
  | 66 => ⟨S_, .f32⟩
  | 67 => ⟨S16x256x2816, .f32⟩
  | 68 => ⟨S16x256x2816, .f32⟩
  | 69 => ⟨S16x256x2816, .f32⟩
  | 70 => ⟨S_, .f32⟩
  | 71 => ⟨S16x256x2816, .f32⟩
  | 72 => ⟨S16x256x2816, .f32⟩
  | 73 => ⟨S_, .f32⟩
  | 74 => ⟨S16x256x2816, .f32⟩
  | 75 => ⟨S16x256x2816, .f32⟩
  | 76 => ⟨S16x256x2816, .f32⟩
  | 77 => ⟨S16x256x2816, .f32⟩
  | 78 => ⟨S16x256x1024, .f32⟩
  | 79 => ⟨S_, .f32⟩
  | 80 => ⟨S16x256x1024, .f32⟩
  | 81 => ⟨S16x256x1024, .f32⟩
  | 82 => ⟨S16x256x1024, .f32⟩
  | 83 => ⟨S16x256x1024, .f32⟩
  | 84 => ⟨S16x256x1024, .f32⟩
  | 85 => ⟨S_, .f32⟩
  | 86 => ⟨S16x256, .f32⟩
  | 87 => ⟨S16x256x1, .f32⟩
  | 88 => ⟨S_, .f32⟩
  | 89 => ⟨S16x256x1, .f32⟩
  | 90 => ⟨S16x256x1, .f32⟩
  | 91 => ⟨S16x256x1024, .f32⟩
  | 92 => ⟨S16x256x1024, .f32⟩
  | 93 => ⟨S16x256x1024, .f32⟩
  | 94 => ⟨S_, .f32⟩
  | 95 => ⟨S16x256, .f32⟩
  | 96 => ⟨S16x256x1, .f32⟩
  | 97 => ⟨S_, .f32⟩
  | 98 => ⟨S16x256x1, .f32⟩
  | 99 => ⟨S16x256x1, .f32⟩
  | 100 => ⟨S16x256x1024, .f32⟩
  | 101 => ⟨S16x256x1024, .f32⟩
  | 102 => ⟨S_, .f32⟩
  | 103 => ⟨S16x256x1, .f32⟩
  | 104 => ⟨S16x256x1, .f32⟩
  | 105 => ⟨S16x256x1, .f32⟩
  | 106 => ⟨S16x256x1024, .f32⟩
  | 107 => ⟨S16x256x1024, .f32⟩
  | 108 => ⟨S1x1x1024, .f32⟩
  | 109 => ⟨S16x256x1024, .f32⟩
  | 110 => ⟨S16x256x1024, .f32⟩
  | 111 => ⟨S1x1x1024, .f32⟩
  | 112 => ⟨S16x256x1024, .f32⟩
  | 113 => ⟨S16x256x1024, .f32⟩
  | 114 => ⟨S4x6144, .f32⟩
  | 115 => ⟨S4x1x6144, .f32⟩
  | 116 => ⟨S4x1x1024, .f32⟩
  | 117 => ⟨S4x1x1024, .f32⟩
  | 118 => ⟨S4x1x1024, .f32⟩
  | 119 => ⟨S4x1x1024, .f32⟩
  | 120 => ⟨S4x1x1024, .f32⟩
  | 121 => ⟨S4x1x1024, .f32⟩
  | 122 => ⟨S_, .f32⟩
  | 123 => ⟨S4x1x1024, .f32⟩
  | 124 => ⟨S4x1x1024, .f32⟩
  | 125 => ⟨S4x1024x1024, .f32⟩
  | 126 => ⟨S4x1024x1024, .f32⟩
  | 127 => ⟨S4x1024x1024, .f32⟩
  | _ => ⟨S8192x1024, .f32⟩

abbrev hbmTy0_1 (i : Nat) : BufTy := match i % 128 with
  | 0 => ⟨S4x1024x1024, .f32⟩
  | 1 => ⟨S4x1024x5632, .f32⟩
  | 2 => ⟨S_, .i32⟩
  | 3 => ⟨S_, .f32⟩
  | 4 => ⟨S4x1026x5632, .f32⟩
  | 5 => ⟨S4x1024x5632, .f32⟩
  | 6 => ⟨S1x5632, .f32⟩
  | 7 => ⟨S5632, .f32⟩
  | 8 => ⟨S1x1x5632, .f32⟩
  | 9 => ⟨S4x1024x5632, .f32⟩
  | 10 => ⟨S4x1024x5632, .f32⟩
  | 11 => ⟨S4x1024x5632, .f32⟩
  | 12 => ⟨S1x5632, .f32⟩
  | 13 => ⟨S5632, .f32⟩
  | 14 => ⟨S1x1x5632, .f32⟩
  | 15 => ⟨S4x1024x5632, .f32⟩
  | 16 => ⟨S4x1024x5632, .f32⟩
  | 17 => ⟨S4x1024x5632, .f32⟩
  | 18 => ⟨S4x1024x5632, .f32⟩
  | 19 => ⟨S1x5632, .f32⟩
  | 20 => ⟨S5632, .f32⟩
  | 21 => ⟨S1x1x5632, .f32⟩
  | 22 => ⟨S4x1024x5632, .f32⟩
  | 23 => ⟨S4x1024x5632, .f32⟩
  | 24 => ⟨S4x1024x5632, .f32⟩
  | 25 => ⟨S1x1x5632, .f32⟩
  | 26 => ⟨S4x1024x5632, .f32⟩
  | 27 => ⟨S4x1024x5632, .f32⟩
  | 28 => ⟨S4x1024x2816, .f32⟩
  | 29 => ⟨S4x1024x2816, .f32⟩
  | 30 => ⟨S4x1024x2816, .f32⟩
  | 31 => ⟨S4x1024x2816, .f32⟩
  | 32 => ⟨S_, .f32⟩
  | 33 => ⟨S4x1024x2816, .f32⟩
  | 34 => ⟨S4x1024x2816, .f32⟩
  | 35 => ⟨S4x1024x2816, .f32⟩
  | 36 => ⟨S_, .f32⟩
  | 37 => ⟨S4x1024x2816, .f32⟩
  | 38 => ⟨S4x1024x2816, .f32⟩
  | 39 => ⟨S4x1024x2816, .f32⟩
  | 40 => ⟨S_, .f32⟩
  | 41 => ⟨S4x1024x2816, .f32⟩
  | 42 => ⟨S4x1024x2816, .f32⟩
  | 43 => ⟨S_, .f32⟩
  | 44 => ⟨S4x1024x2816, .f32⟩
  | 45 => ⟨S4x1024x2816, .f32⟩
  | 46 => ⟨S4x1024x2816, .f32⟩
  | 47 => ⟨S4x1024x2816, .f32⟩
  | 48 => ⟨S4x1024x1024, .f32⟩
  | 49 => ⟨S_, .f32⟩
  | 50 => ⟨S4x1024x1024, .f32⟩
  | 51 => ⟨S4x1024x1024, .f32⟩
  | 52 => ⟨S4x1024x1024, .f32⟩
  | 53 => ⟨S4x1024x1024, .f32⟩
  | 54 => ⟨S4x1024x1024, .f32⟩
  | 55 => ⟨S_, .f32⟩
  | 56 => ⟨S4x1024, .f32⟩
  | 57 => ⟨S4x1024x1, .f32⟩
  | 58 => ⟨S_, .f32⟩
  | 59 => ⟨S4x1024x1, .f32⟩
  | 60 => ⟨S4x1024x1, .f32⟩
  | 61 => ⟨S4x1024x1024, .f32⟩
  | 62 => ⟨S4x1024x1024, .f32⟩
  | 63 => ⟨S4x1024x1024, .f32⟩
  | 64 => ⟨S_, .f32⟩
  | 65 => ⟨S4x1024, .f32⟩
  | 66 => ⟨S4x1024x1, .f32⟩
  | 67 => ⟨S_, .f32⟩
  | 68 => ⟨S4x1024x1, .f32⟩
  | 69 => ⟨S4x1024x1, .f32⟩
  | 70 => ⟨S4x1024x1024, .f32⟩
  | 71 => ⟨S4x1024x1024, .f32⟩
  | 72 => ⟨S_, .f32⟩
  | 73 => ⟨S4x1024x1, .f32⟩
  | 74 => ⟨S4x1024x1, .f32⟩
  | 75 => ⟨S4x1024x1, .f32⟩
  | 76 => ⟨S4x1024x1024, .f32⟩
  | 77 => ⟨S4x1024x1024, .f32⟩
  | 78 => ⟨S1x1x1024, .f32⟩
  | 79 => ⟨S4x1024x1024, .f32⟩
  | 80 => ⟨S4x1024x1024, .f32⟩
  | 81 => ⟨S1x1x1024, .f32⟩
  | 82 => ⟨S4x1024x1024, .f32⟩
  | 83 => ⟨S4x1024x1024, .f32⟩
  | 84 => ⟨S4096x1024, .f32⟩
  | 85 => ⟨S4096x1024, .f32⟩
  | 86 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_0 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_1 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_2 : Ref sig .tc := ⟨.hbm, 70, rfl⟩
abbrev main_v57 : Ref sig .tc := ⟨.hbm, 71, rfl⟩
abbrev main_v58 : Ref sig .tc := ⟨.hbm, 72, rfl⟩
abbrev main_cst_3 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_4 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_5 : Ref sig .tc := ⟨.hbm, 85, rfl⟩
abbrev main_v69 : Ref sig .tc := ⟨.hbm, 86, rfl⟩
abbrev main_v70 : Ref sig .tc := ⟨.hbm, 87, rfl⟩
abbrev main_cst_6 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_7 : Ref sig .tc := ⟨.hbm, 94, rfl⟩
abbrev main_v76 : Ref sig .tc := ⟨.hbm, 95, rfl⟩
abbrev main_v77 : Ref sig .tc := ⟨.hbm, 96, rfl⟩
abbrev main_cst_8 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_9 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_10 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_c_11 : Ref sig .tc := ⟨.hbm, 130, rfl⟩
abbrev main_call1_v0 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_cst_12 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_cst_13 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_cst_14 : Ref sig .tc := ⟨.hbm, 168, rfl⟩
abbrev main_v142 : Ref sig .tc := ⟨.hbm, 169, rfl⟩
abbrev main_v143 : Ref sig .tc := ⟨.hbm, 170, rfl⟩
abbrev main_cst_15 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_cst_16 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_cst_17 : Ref sig .tc := ⟨.hbm, 183, rfl⟩
abbrev main_v154 : Ref sig .tc := ⟨.hbm, 184, rfl⟩
abbrev main_v155 : Ref sig .tc := ⟨.hbm, 185, rfl⟩
abbrev main_cst_18 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_cst_19 : Ref sig .tc := ⟨.hbm, 192, rfl⟩
abbrev main_v161 : Ref sig .tc := ⟨.hbm, 193, rfl⟩
abbrev main_v162 : Ref sig .tc := ⟨.hbm, 194, rfl⟩
abbrev main_cst_20 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_cst_21 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩

abbrev nD : Nat := 1
abbrev τ : Topo := Topo.v7x

variable {F : FTy → Type} [FloatOps F]
-- ==== Kernel3.lean ====
abbrev S8192x1024 : Shape := ⟨2, ![8192, 1024]⟩
abbrev S8x1x6144 : Shape := ⟨3, ![8, 1, 6144]⟩
abbrev S8192x512 : Shape := ⟨2, ![8192, 512]⟩
abbrev S8192x4096 : Shape := ⟨2, ![8192, 4096]⟩
abbrev S1024x7168 : Shape := ⟨2, ![1024, 7168]⟩
abbrev S512x512 : Shape := ⟨2, ![512, 512]⟩
abbrev S512 : Shape := ⟨1, ![512]⟩
abbrev S3x512x1024 : Shape := ⟨3, ![3, 512, 1024]⟩
abbrev S1024x1024 : Shape := ⟨2, ![1024, 1024]⟩
abbrev S1024 : Shape := ⟨1, ![1024]⟩
abbrev S1024x3072 : Shape := ⟨2, ![1024, 3072]⟩
abbrev S1x512 : Shape := ⟨2, ![1, 512]⟩
abbrev S1x1024 : Shape := ⟨2, ![1, 1024]⟩
abbrev S512x1024 : Shape := ⟨2, ![512, 1024]⟩
abbrev S1x1x6144 : Shape := ⟨3, ![1, 1, 6144]⟩
abbrev S1x6144 : Shape := ⟨2, ![1, 6144]⟩
abbrev S1x512x1024 : Shape := ⟨3, ![1, 512, 1024]⟩
abbrev S512x1 : Shape := ⟨2, ![512, 1]⟩

abbrev nBuf : Space → Nat
  | .hbm => 22
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8x1x6144, .f32⟩
  | .hbm, ⟨2, _⟩ => ⟨S8192x512, .f32⟩
  | .hbm, ⟨3, _⟩ => ⟨S8192x512, .f32⟩
  | .hbm, ⟨4, _⟩ => ⟨S8192x4096, .f32⟩
  | .hbm, ⟨5, _⟩ => ⟨S8192x512, .f32⟩
  | .hbm, ⟨6, _⟩ => ⟨S1024x7168, .f32⟩
  | .hbm, ⟨7, _⟩ => ⟨S512x512, .f32⟩
  | .hbm, ⟨8, _⟩ => ⟨S512, .f32⟩
  | .hbm, ⟨9, _⟩ => ⟨S3x512x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024x3072, .f32⟩
  | .hbm, ⟨14, _⟩ => ⟨S1024x3072, .bf16⟩
  | .hbm, ⟨15, _⟩ => ⟨S512x512, .bf16⟩
  | .hbm, ⟨16, _⟩ => ⟨S1x512, .f32⟩
  | .hbm, ⟨17, _⟩ => ⟨S3x512x1024, .bf16⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1024x3072, .bf16⟩
  | .local _ .vmem, ⟨13, _⟩ => ⟨S512x512, .bf16⟩
  | .local _ .vmem, ⟨14, _⟩ => ⟨S1x512, .f32⟩
  | .local _ .vmem, ⟨15, _⟩ => ⟨S3x512x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S8192x1024 : Shape := ⟨2, ![8192, 1024]⟩
abbrev S8x1x6144 : Shape := ⟨3, ![8, 1, 6144]⟩
abbrev S8192x512 : Shape := ⟨2, ![8192, 512]⟩
abbrev S8192x4096 : Shape := ⟨2, ![8192, 4096]⟩
abbrev S1024x7168 : Shape := ⟨2, ![1024, 7168]⟩
abbrev S512x512 : Shape := ⟨2, ![512, 512]⟩
abbrev S512 : Shape := ⟨1, ![512]⟩
abbrev S3x512x1024 : Shape := ⟨3, ![3, 512, 1024]⟩
abbrev S1024x1024 : Shape := ⟨2, ![1024, 1024]⟩
abbrev S1024 : Shape := ⟨1, ![1024]⟩
abbrev S8x6144 : Shape := ⟨2, ![8, 6144]⟩
abbrev S4x6144 : Shape := ⟨2, ![4, 6144]⟩
abbrev S4x1x6144 : Shape := ⟨3, ![4, 1, 6144]⟩
abbrev S4x4x6144 : Shape := ⟨3, ![4, 4, 6144]⟩
abbrev S16x6144 : Shape := ⟨2, ![16, 6144]⟩
abbrev S4096x1024 : Shape := ⟨2, ![4096, 1024]⟩
abbrev S16x256x1024 : Shape := ⟨3, ![16, 256, 1024]⟩
abbrev S4096x512 : Shape := ⟨2, ![4096, 512]⟩
abbrev S16x256x512 : Shape := ⟨3, ![16, 256, 512]⟩
abbrev S16x1x6144 : Shape := ⟨3, ![16, 1, 6144]⟩
abbrev S16x1x1024 : Shape := ⟨3, ![16, 1, 1024]⟩
abbrev S_ : Shape := ⟨0, ![]⟩
abbrev S1x1x512 : Shape := ⟨3, ![1, 1, 512]⟩
abbrev S1024x3072 : Shape := ⟨2, ![1024, 3072]⟩
abbrev S16x256x3072 : Shape := ⟨3, ![16, 256, 3072]⟩
abbrev S1x512x1024 : Shape := ⟨3, ![1, 512, 1024]⟩
abbrev S512x1024 : Shape := ⟨2, ![512, 1024]⟩
abbrev S16x256 : Shape := ⟨2, ![16, 256]⟩
abbrev S16x256x1 : Shape := ⟨3, ![16, 256, 1]⟩
abbrev S1x1x1024 : Shape := ⟨3, ![1, 1, 1024]⟩
abbrev S4x1024x1024 : Shape := ⟨3, ![4, 1024, 1024]⟩
abbrev S4x1024x512 : Shape := ⟨3, ![4, 1024, 512]⟩
abbrev S4x1x1024 : Shape := ⟨3, ![4, 1, 1024]⟩
abbrev S4x1024x3072 : Shape := ⟨3, ![4, 1024, 3072]⟩
abbrev S4x1024 : Shape := ⟨2, ![4, 1024]⟩
abbrev S4x1024x1 : Shape := ⟨3, ![4, 1024, 1]⟩

abbrev nBuf : Space → Nat
  | .hbm => 259
  | .vmem => 0
  | .smem => 0
  | _ => 0

abbrev hbmTy0_0 (i : Nat) : BufTy := match i % 128 with
  | 0 => ⟨S8192x1024, .f32⟩
  | 1 => ⟨S8x1x6144, .f32⟩
  | 2 => ⟨S8192x512, .f32⟩
  | 3 => ⟨S8192x512, .f32⟩
  | 4 => ⟨S8192x4096, .f32⟩
  | 5 => ⟨S8192x512, .f32⟩
  | 6 => ⟨S1024x7168, .f32⟩
  | 7 => ⟨S512x512, .f32⟩
  | 8 => ⟨S512, .f32⟩
  | 9 => ⟨S3x512x1024, .f32⟩
  | 10 => ⟨S1024x1024, .f32⟩
  | 11 => ⟨S1024, .f32⟩
  | 12 => ⟨S1024, .f32⟩
  | 13 => ⟨S8x6144, .f32⟩
  | 14 => ⟨S8192x512, .f32⟩
  | 15 => ⟨S4x6144, .f32⟩
  | 16 => ⟨S4x1x6144, .f32⟩
  | 17 => ⟨S4x4x6144, .f32⟩
  | 18 => ⟨S16x6144, .f32⟩
  | 19 => ⟨S4096x1024, .f32⟩
  | 20 => ⟨S16x256x1024, .f32⟩
  | 21 => ⟨S4096x512, .f32⟩
  | 22 => ⟨S16x256x512, .f32⟩
  | 23 => ⟨S4096x512, .f32⟩
  | 24 => ⟨S16x256x512, .f32⟩
  | 25 => ⟨S4096x512, .f32⟩
  | 26 => ⟨S16x256x512, .f32⟩
  | 27 => ⟨S4096x512, .f32⟩
  | 28 => ⟨S16x256x512, .f32⟩
  | 29 => ⟨S16x1x6144, .f32⟩
  | 30 => ⟨S16x1x1024, .f32⟩
  | 31 => ⟨S16x1x1024, .f32⟩
  | 32 => ⟨S16x1x1024, .f32⟩
  | 33 => ⟨S16x1x1024, .f32⟩
  | 34 => ⟨S16x1x1024, .f32⟩
  | 35 => ⟨S16x1x1024, .f32⟩
  | 36 => ⟨S_, .f32⟩
  | 37 => ⟨S16x1x1024, .f32⟩
  | 38 => ⟨S16x1x1024, .f32⟩
  | 39 => ⟨S16x256x1024, .f32⟩
  | 40 => ⟨S16x256x1024, .f32⟩
  | 41 => ⟨S16x256x1024, .f32⟩
  | 42 => ⟨S16x256x1024, .f32⟩
  | 43 => ⟨S1x1x512, .f32⟩
  | 44 => ⟨S16x256x512, .f32⟩
  | 45 => ⟨S16x256x512, .f32⟩
  | 46 => ⟨S16x256x512, .f32⟩
  | 47 => ⟨S16x256x512, .f32⟩
  | 48 => ⟨S16x256x512, .f32⟩
  | 49 => ⟨S_, .f32⟩
  | 50 => ⟨S16x256x512, .f32⟩
  | 51 => ⟨S16x256x512, .f32⟩
  | 52 => ⟨S16x256x512, .f32⟩
  | 53 => ⟨S_, .f32⟩
  | 54 => ⟨S16x256x512, .f32⟩
  | 55 => ⟨S16x256x512, .f32⟩
  | 56 => ⟨S16x256x512, .f32⟩
  | 57 => ⟨S_, .f32⟩
  | 58 => ⟨S16x256x512, .f32⟩
  | 59 => ⟨S16x256x512, .f32⟩
  | 60 => ⟨S_, .f32⟩
  | 61 => ⟨S16x256x512, .f32⟩
  | 62 => ⟨S16x256x512, .f32⟩
  | 63 => ⟨S16x256x512, .f32⟩
  | 64 => ⟨S16x256x512, .f32⟩
  | 65 => ⟨S16x256x512, .f32⟩
  | 66 => ⟨S16x256x512, .f32⟩
  | 67 => ⟨S_, .f32⟩
  | 68 => ⟨S16x256x512, .f32⟩
  | 69 => ⟨S16x256x512, .f32⟩
  | 70 => ⟨S_, .f32⟩
  | 71 => ⟨S16x256x512, .f32⟩
  | 72 => ⟨S16x256x512, .f32⟩
  | 73 => ⟨S16x256x512, .f32⟩
  | 74 => ⟨S1024x3072, .f32⟩
  | 75 => ⟨S16x256x3072, .f32⟩
  | 76 => ⟨S16x256x3072, .f32⟩
  | 77 => ⟨S16x256x3072, .f32⟩
  | 78 => ⟨S_, .f32⟩
  | 79 => ⟨S16x256x3072, .f32⟩
  | 80 => ⟨S16x256x3072, .f32⟩
  | 81 => ⟨S_, .f32⟩
  | 82 => ⟨S16x256x3072, .f32⟩
  | 83 => ⟨S16x256x3072, .f32⟩
  | 84 => ⟨S16x256x1024, .f32⟩
  | 85 => ⟨S16x256x1024, .f32⟩
  | 86 => ⟨S16x256x1024, .f32⟩
  | 87 => ⟨S1x512x1024, .f32⟩
  | 88 => ⟨S512x1024, .f32⟩
  | 89 => ⟨S16x256x1024, .f32⟩
  | 90 => ⟨S16x256x1024, .f32⟩
  | 91 => ⟨S1x512x1024, .f32⟩
  | 92 => ⟨S512x1024, .f32⟩
  | 93 => ⟨S16x256x1024, .f32⟩
  | 94 => ⟨S16x256x1024, .f32⟩
  | 95 => ⟨S16x256x1024, .f32⟩
  | 96 => ⟨S1x512x1024, .f32⟩
  | 97 => ⟨S512x1024, .f32⟩
  | 98 => ⟨S16x256x1024, .f32⟩
  | 99 => ⟨S16x256x1024, .f32⟩
  | 100 => ⟨S16x256x1024, .f32⟩
  | 101 => ⟨S_, .f32⟩
  | 102 => ⟨S16x256x1024, .f32⟩
  | 103 => ⟨S16x256x1024, .f32⟩
  | 104 => ⟨S16x256x1024, .f32⟩
  | 105 => ⟨S16x256x1024, .f32⟩
  | 106 => ⟨S16x256x1024, .f32⟩
  | 107 => ⟨S16x256x1024, .f32⟩
  | 108 => ⟨S_, .f32⟩
  | 109 => ⟨S16x256, .f32⟩
  | 110 => ⟨S16x256x1, .f32⟩
  | 111 => ⟨S_, .f32⟩
  | 112 => ⟨S16x256x1, .f32⟩
  | 113 => ⟨S16x256x1, .f32⟩
  | 114 => ⟨S16x256x1024, .f32⟩
  | 115 => ⟨S16x256x1024, .f32⟩
  | 116 => ⟨S16x256x1024, .f32⟩
  | 117 => ⟨S_, .f32⟩
  | 118 => ⟨S16x256, .f32⟩
  | 119 => ⟨S16x256x1, .f32⟩
  | 120 => ⟨S_, .f32⟩
  | 121 => ⟨S16x256x1, .f32⟩
  | 122 => ⟨S16x256x1, .f32⟩
  | 123 => ⟨S16x256x1024, .f32⟩
  | 124 => ⟨S16x256x1024, .f32⟩
  | 125 => ⟨S_, .f32⟩
  | 126 => ⟨S16x256x1, .f32⟩
  | 127 => ⟨S16x256x1, .f32⟩
  | _ => ⟨S8192x1024, .f32⟩

abbrev hbmTy0_1 (i : Nat) : BufTy := match i % 128 with
  | 0 => ⟨S16x256x1, .f32⟩
  | 1 => ⟨S16x256x1024, .f32⟩
  | 2 => ⟨S16x256x1024, .f32⟩
  | 3 => ⟨S1x1x1024, .f32⟩
  | 4 => ⟨S16x256x1024, .f32⟩
  | 5 => ⟨S16x256x1024, .f32⟩
  | 6 => ⟨S1x1x1024, .f32⟩
  | 7 => ⟨S16x256x1024, .f32⟩
  | 8 => ⟨S16x256x1024, .f32⟩
  | 9 => ⟨S4096x1024, .f32⟩
  | 10 => ⟨S4x1024x1024, .f32⟩
  | 11 => ⟨S4x6144, .f32⟩
  | 12 => ⟨S4096x512, .f32⟩
  | 13 => ⟨S4x1024x512, .f32⟩
  | 14 => ⟨S4096x512, .f32⟩
  | 15 => ⟨S4x1024x512, .f32⟩
  | 16 => ⟨S4096x512, .f32⟩
  | 17 => ⟨S4x1024x512, .f32⟩
  | 18 => ⟨S4096x512, .f32⟩
  | 19 => ⟨S4x1024x512, .f32⟩
  | 20 => ⟨S4x1x6144, .f32⟩
  | 21 => ⟨S4x1x1024, .f32⟩
  | 22 => ⟨S4x1x1024, .f32⟩
  | 23 => ⟨S4x1x1024, .f32⟩
  | 24 => ⟨S4x1x1024, .f32⟩
  | 25 => ⟨S4x1x1024, .f32⟩
  | 26 => ⟨S4x1x1024, .f32⟩
  | 27 => ⟨S_, .f32⟩
  | 28 => ⟨S4x1x1024, .f32⟩
  | 29 => ⟨S4x1x1024, .f32⟩
  | 30 => ⟨S4x1024x1024, .f32⟩
  | 31 => ⟨S4x1024x1024, .f32⟩
  | 32 => ⟨S4x1024x1024, .f32⟩
  | 33 => ⟨S4x1024x1024, .f32⟩
  | 34 => ⟨S1x1x512, .f32⟩
  | 35 => ⟨S4x1024x512, .f32⟩
  | 36 => ⟨S4x1024x512, .f32⟩
  | 37 => ⟨S4x1024x512, .f32⟩
  | 38 => ⟨S4x1024x512, .f32⟩
  | 39 => ⟨S4x1024x512, .f32⟩
  | 40 => ⟨S_, .f32⟩
  | 41 => ⟨S4x1024x512, .f32⟩
  | 42 => ⟨S4x1024x512, .f32⟩
  | 43 => ⟨S4x1024x512, .f32⟩
  | 44 => ⟨S_, .f32⟩
  | 45 => ⟨S4x1024x512, .f32⟩
  | 46 => ⟨S4x1024x512, .f32⟩
  | 47 => ⟨S4x1024x512, .f32⟩
  | 48 => ⟨S_, .f32⟩
  | 49 => ⟨S4x1024x512, .f32⟩
  | 50 => ⟨S4x1024x512, .f32⟩
  | 51 => ⟨S_, .f32⟩
  | 52 => ⟨S4x1024x512, .f32⟩
  | 53 => ⟨S4x1024x512, .f32⟩
  | 54 => ⟨S4x1024x512, .f32⟩
  | 55 => ⟨S4x1024x512, .f32⟩
  | 56 => ⟨S4x1024x512, .f32⟩
  | 57 => ⟨S4x1024x512, .f32⟩
  | 58 => ⟨S_, .f32⟩
  | 59 => ⟨S4x1024x512, .f32⟩
  | 60 => ⟨S4x1024x512, .f32⟩
  | 61 => ⟨S_, .f32⟩
  | 62 => ⟨S4x1024x512, .f32⟩
  | 63 => ⟨S4x1024x512, .f32⟩
  | 64 => ⟨S4x1024x512, .f32⟩
  | 65 => ⟨S1024x3072, .f32⟩
  | 66 => ⟨S4x1024x3072, .f32⟩
  | 67 => ⟨S4x1024x3072, .f32⟩
  | 68 => ⟨S4x1024x3072, .f32⟩
  | 69 => ⟨S_, .f32⟩
  | 70 => ⟨S4x1024x3072, .f32⟩
  | 71 => ⟨S4x1024x3072, .f32⟩
  | 72 => ⟨S_, .f32⟩
  | 73 => ⟨S4x1024x3072, .f32⟩
  | 74 => ⟨S4x1024x3072, .f32⟩
  | 75 => ⟨S4x1024x1024, .f32⟩
  | 76 => ⟨S4x1024x1024, .f32⟩
  | 77 => ⟨S4x1024x1024, .f32⟩
  | 78 => ⟨S1x512x1024, .f32⟩
  | 79 => ⟨S512x1024, .f32⟩
  | 80 => ⟨S4x1024x1024, .f32⟩
  | 81 => ⟨S4x1024x1024, .f32⟩
  | 82 => ⟨S1x512x1024, .f32⟩
  | 83 => ⟨S512x1024, .f32⟩
  | 84 => ⟨S4x1024x1024, .f32⟩
  | 85 => ⟨S4x1024x1024, .f32⟩
  | 86 => ⟨S4x1024x1024, .f32⟩
  | 87 => ⟨S1x512x1024, .f32⟩
  | 88 => ⟨S512x1024, .f32⟩
  | 89 => ⟨S4x1024x1024, .f32⟩
  | 90 => ⟨S4x1024x1024, .f32⟩
  | 91 => ⟨S4x1024x1024, .f32⟩
  | 92 => ⟨S_, .f32⟩
  | 93 => ⟨S4x1024x1024, .f32⟩
  | 94 => ⟨S4x1024x1024, .f32⟩
  | 95 => ⟨S4x1024x1024, .f32⟩
  | 96 => ⟨S4x1024x1024, .f32⟩
  | 97 => ⟨S4x1024x1024, .f32⟩
  | 98 => ⟨S4x1024x1024, .f32⟩
  | 99 => ⟨S_, .f32⟩
  | 100 => ⟨S4x1024, .f32⟩
  | 101 => ⟨S4x1024x1, .f32⟩
  | 102 => ⟨S_, .f32⟩
  | 103 => ⟨S4x1024x1, .f32⟩
  | 104 => ⟨S4x1024x1, .f32⟩
  | 105 => ⟨S4x1024x1024, .f32⟩
  | 106 => ⟨S4x1024x1024, .f32⟩
  | 107 => ⟨S4x1024x1024, .f32⟩
  | 108 => ⟨S_, .f32⟩
  | 109 => ⟨S4x1024, .f32⟩
  | 110 => ⟨S4x1024x1, .f32⟩
  | 111 => ⟨S_, .f32⟩
  | 112 => ⟨S4x1024x1, .f32⟩
  | 113 => ⟨S4x1024x1, .f32⟩
  | 114 => ⟨S4x1024x1024, .f32⟩
  | 115 => ⟨S4x1024x1024, .f32⟩
  | 116 => ⟨S_, .f32⟩
  | 117 => ⟨S4x1024x1, .f32⟩
  | 118 => ⟨S4x1024x1, .f32⟩
  | 119 => ⟨S4x1024x1, .f32⟩
  | 120 => ⟨S4x1024x1024, .f32⟩
  | 121 => ⟨S4x1024x1024, .f32⟩
  | 122 => ⟨S1x1x1024, .f32⟩
  | 123 => ⟨S4x1024x1024, .f32⟩
  | 124 => ⟨S4x1024x1024, .f32⟩
  | 125 => ⟨S1x1x1024, .f32⟩
  | 126 => ⟨S4x1024x1024, .f32⟩
  | 127 => ⟨S4x1024x1024, .f32⟩
  | _ => ⟨S8192x1024, .f32⟩

abbrev hbmTy0_2 (i : Nat) : BufTy := match i % 128 with
  | 0 => ⟨S4096x1024, .f32⟩
  | 1 => ⟨S4096x1024, .f32⟩
  | 2 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_1 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_6 : Ref sig .tc := ⟨.hbm, 78, rfl⟩
abbrev main_v58 : Ref sig .tc := ⟨.hbm, 79, rfl⟩
abbrev main_v59 : Ref sig .tc := ⟨.hbm, 80, rfl⟩
abbrev main_cst_7 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_8 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_9 : Ref sig .tc := ⟨.hbm, 108, rfl⟩
abbrev main_v85 : Ref sig .tc := ⟨.hbm, 109, rfl⟩
abbrev main_v86 : Ref sig .tc := ⟨.hbm, 110, rfl⟩
abbrev main_cst_10 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_11 : Ref sig .tc := ⟨.hbm, 117, rfl⟩
abbrev main_v92 : Ref sig .tc := ⟨.hbm, 118, rfl⟩
abbrev main_v93 : Ref sig .tc := ⟨.hbm, 119, rfl⟩
abbrev main_cst_12 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_13 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_14 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_cst_15 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_cst_16 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_17 : Ref sig .tc := ⟨.hbm, 176, rfl⟩
abbrev main_v145 : Ref sig .tc := ⟨.hbm, 177, rfl⟩
abbrev main_v146 : Ref sig .tc := ⟨.hbm, 178, rfl⟩
abbrev main_cst_18 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_cst_19 : Ref sig .tc := ⟨.hbm, 186, rfl⟩
abbrev main_v153 : Ref sig .tc := ⟨.hbm, 187, rfl⟩
abbrev main_v154 : Ref sig .tc := ⟨.hbm, 188, rfl⟩
abbrev main_cst_20 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_21 : Ref sig .tc := ⟨.hbm, 197, rfl⟩
abbrev main_v162 : Ref sig .tc := ⟨.hbm, 198, rfl⟩
abbrev main_v163 : Ref sig .tc := ⟨.hbm, 199, rfl⟩
abbrev main_cst_22 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_cst_23 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_cst_24 : Ref sig .tc := ⟨.hbm, 227, rfl⟩
abbrev main_v189 : Ref sig .tc := ⟨.hbm, 228, rfl⟩
abbrev main_v190 : Ref sig .tc := ⟨.hbm, 229, rfl⟩
abbrev main_cst_25 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_cst_26 : Ref sig .tc := ⟨.hbm, 236, rfl⟩
abbrev main_v196 : Ref sig .tc := ⟨.hbm, 237, rfl⟩
abbrev main_v197 : Ref sig .tc := ⟨.hbm, 238, rfl⟩
abbrev main_cst_27 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_cst_28 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩

abbrev nD : Nat := 1
abbrev τ : Topo := Topo.v7x

variable {F : FTy → Type} [FloatOps F]
-- ==== Kernel4.lean ====
abbrev S8192x1024 : Shape := ⟨2, ![8192, 1024]⟩
abbrev S8x1x6144 : Shape := ⟨3, ![8, 1, 6144]⟩
abbrev S2x1024x7168 : Shape := ⟨3, ![2, 1024, 7168]⟩
abbrev S8192x4096 : Shape := ⟨2, ![8192, 4096]⟩
abbrev S1024x1024 : Shape := ⟨2, ![1024, 1024]⟩
abbrev S1x1x6144 : Shape := ⟨3, ![1, 1, 6144]⟩
abbrev S1x1024x1024 : Shape := ⟨3, ![1, 1024, 1024]⟩
abbrev S8x1024x1024 : Shape := ⟨3, ![8, 1024, 1024]⟩
abbrev S1x6144 : Shape := ⟨2, ![1, 6144]⟩
abbrev S1x1024 : Shape := ⟨2, ![1, 1024]⟩
abbrev S4096x512 : Shape := ⟨2, ![4096, 512]⟩
abbrev S16x256x8x64 : Shape := ⟨4, ![16, 256, 8, 64]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8x1x6144, .f32⟩
  | .hbm, ⟨2, _⟩ => ⟨S2x1024x7168, .f32⟩
  | .hbm, ⟨3, _⟩ => ⟨S8192x4096, .f32⟩
  | .hbm, ⟨4, _⟩ => ⟨S4096x512, .f32⟩
  | .hbm, ⟨5, _⟩ => ⟨S16x256x8x64, .f32⟩
  | .hbm, ⟨6, _⟩ => ⟨S4096x512, .f32⟩
  | .hbm, ⟨7, _⟩ => ⟨S16x256x8x64, .f32⟩
  | .local _ .vmem, ⟨0, _⟩ => ⟨S1024x1024, .f32⟩
  | .local _ .vmem, ⟨1, _⟩ => ⟨S1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v24 : Index := Scalar.indexCast arg1
  let c0_14 : Index := 0#32
  let c0_15 : Index := 0#32
  ![v24.toNat, 0, 0]
def k0_off2 (i : grid0.Coords) : Fin 3 → Nat :=
  let arg1 : BitVec 32 := BitVec.ofNat 32 (i 1).val
  let v6 : Index := Scalar.indexCast arg1
  let c0 : Index := 0#32
  let c0_3 : Index := 0#32
  ![v6.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x1024 : Shape := ⟨2, ![8192, 1024]⟩
abbrev S8x1x6144 : Shape := ⟨3, ![8, 1, 6144]⟩
abbrev S2x1024x7168 : Shape := ⟨3, ![2, 1024, 7168]⟩
abbrev S8x6144 : Shape := ⟨2, ![8, 6144]⟩
abbrev S4x6144 : Shape := ⟨2, ![4, 6144]⟩
abbrev S4x1x6144 : Shape := ⟨3, ![4, 1, 6144]⟩
abbrev S4x4x6144 : Shape := ⟨3, ![4, 4, 6144]⟩
abbrev S16x6144 : Shape := ⟨2, ![16, 6144]⟩
abbrev S4096x1024 : Shape := ⟨2, ![4096, 1024]⟩
abbrev S16x256x1024 : Shape := ⟨3, ![16, 256, 1024]⟩
abbrev S16x1x6144 : Shape := ⟨3, ![16, 1, 6144]⟩
abbrev S16x1x1024 : Shape := ⟨3, ![16, 1, 1024]⟩
abbrev S_ : Shape := ⟨0, ![]⟩
abbrev S1x1024x4096 : Shape := ⟨3, ![1, 1024, 4096]⟩
abbrev S1024x4096 : Shape := ⟨2, ![1024, 4096]⟩
abbrev S16x256x4096 : Shape := ⟨3, ![16, 256, 4096]⟩
abbrev S4x1024x1024 : Shape := ⟨3, ![4, 1024, 1024]⟩
abbrev S4x1x1024 : Shape := ⟨3, ![4, 1, 1024]⟩
abbrev S4x1024x4096 : Shape := ⟨3, ![4, 1024, 4096]⟩
abbrev S16x256x512 : Shape := ⟨3, ![16, 256, 512]⟩
abbrev S16x256x8x64 : Shape := ⟨4, ![16, 256, 8, 64]⟩
abbrev S4096x4096 : Shape := ⟨2, ![4096, 4096]⟩
abbrev S8192x4096 : Shape := ⟨2, ![8192, 4096]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x1x6144, .f32⟩
  | .hbm, ⟨2, _⟩ => ⟨S2x1024x7168, .f32⟩
  | .hbm, ⟨3, _⟩ => ⟨S8x6144, .f32⟩
  | .hbm, ⟨4, _⟩ => ⟨S4x6144, .f32⟩
  | .hbm, ⟨5, _⟩ => ⟨S4x1x6144, .f32⟩
  | .hbm, ⟨6, _⟩ => ⟨S4x4x6144, .f32⟩
  | .hbm, ⟨7, _⟩ => ⟨S16x6144, .f32⟩
  | .hbm, ⟨8, _⟩ => ⟨S4096x1024, .f32⟩
  | .hbm, ⟨9, _⟩ => ⟨S16x256x1024, .f32⟩
  | .hbm, ⟨10, _⟩ => ⟨S16x1x6144, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S_, .f32⟩
  | .hbm, ⟨18, _⟩ => ⟨S16x1x1024, .f32⟩
  | .hbm, ⟨19, _⟩ => ⟨S16x1x1024, .f32⟩
  | .hbm, ⟨20, _⟩ => ⟨S16x256x1024, .f32⟩
  | .hbm, ⟨21, _⟩ => ⟨S16x256x1024, .f32⟩
  | .hbm, ⟨22, _⟩ => ⟨S16x256x1024, .f32⟩
  | .hbm, ⟨23, _⟩ => ⟨S16x256x1024, .f32⟩
  | .hbm, ⟨24, _⟩ => ⟨S1x1024x4096, .f32⟩
  | .hbm, ⟨25, _⟩ => ⟨S1024x4096, .f32⟩
  | .hbm, ⟨26, _⟩ => ⟨S16x256x4096, .f32⟩
  | .hbm, ⟨27, _⟩ => ⟨S4096x1024, .f32⟩
  | .hbm, ⟨28, _⟩ => ⟨S4x1024x1024, .f32⟩
  | .hbm, ⟨29, _⟩ => ⟨S4x6144, .f32⟩
  | .hbm, ⟨30, _⟩ => ⟨S4x1x6144, .f32⟩
  | .hbm, ⟨31, _⟩ => ⟨S4x1x1024, .f32⟩
  | .hbm, ⟨32, _⟩ => ⟨S4x1x1024, .f32⟩
  | .hbm, ⟨33, _⟩ => ⟨S4x1x1024, .f32⟩
  | .hbm, ⟨34, _⟩ => ⟨S4x1x1024, .f32⟩
  | .hbm, ⟨35, _⟩ => ⟨S4x1x1024, .f32⟩
  | .hbm, ⟨36, _⟩ => ⟨S4x1x1024, .f32⟩
  | .hbm, ⟨37, _⟩ => ⟨S_, .f32⟩
  | .hbm, ⟨38, _⟩ => ⟨S4x1x1024, .f32⟩
  | .hbm, ⟨39, _⟩ => ⟨S4x1x1024, .f32⟩
  | .hbm, ⟨40, _⟩ => ⟨S4x1024x1024, .f32⟩
  | .hbm, ⟨41, _⟩ => ⟨S4x1024x1024, .f32⟩
  | .hbm, ⟨42, _⟩ => ⟨S4x1024x1024, .f32⟩
  | .hbm, ⟨43, _⟩ => ⟨S4x1024x1024, .f32⟩
  | .hbm, ⟨44, _⟩ => ⟨S1x1024x4096, .f32⟩
  | .hbm, ⟨45, _⟩ => ⟨S1024x4096, .f32⟩
  | .hbm, ⟨46, _⟩ => ⟨S4x1024x4096, .f32⟩
  | .hbm, ⟨47, _⟩ => ⟨S16x256x512, .f32⟩
  | .hbm, ⟨48, _⟩ => ⟨S16x256x8x64, .f32⟩
  | .hbm, ⟨49, _⟩ => ⟨S16x256x512, .f32⟩
  | .hbm, ⟨50, _⟩ => ⟨S16x256x8x64, .f32⟩
  | .hbm, ⟨51, _⟩ => ⟨S4096x4096, .f32⟩
  | .hbm, ⟨52, _⟩ => ⟨S4096x4096, .f32⟩
  | .hbm, ⟨53, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_0 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩

abbrev nD : Nat := 1
abbrev τ : Topo := Topo.v7x

variable {F : FTy → Type} [FloatOps F]
-- ==== Kernel5.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 9
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S4x1024, .f32⟩
  | .hbm, ⟨6, _⟩ => ⟨S8x1024, .f32⟩
  | .hbm, ⟨7, _⟩ => ⟨S2x1x6144, .f32⟩
  | .hbm, ⟨8, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S16x1024 : Shape := ⟨2, ![16, 1024]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S4x6144 : Shape := ⟨2, ![4, 6144]⟩
abbrev S4x4x6144 : Shape := ⟨3, ![4, 4, 6144]⟩
abbrev S4x1x6144 : Shape := ⟨3, ![4, 1, 6144]⟩
abbrev S8x6144 : Shape := ⟨2, ![8, 6144]⟩
abbrev S1x8x6144 : Shape := ⟨3, ![1, 8, 6144]⟩
abbrev S2x8x6144 : Shape := ⟨3, ![2, 8, 6144]⟩

abbrev nBuf : Space → Nat
  | .hbm => 85
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S16x1024, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S1x1024x6144, .f32⟩
  | .hbm, ⟨16, _⟩ => ⟨S1024x6144, .f32⟩
  | .hbm, ⟨17, _⟩ => ⟨S16x6144, .f32⟩
  | .hbm, ⟨18, _⟩ => ⟨S1x6144, .f32⟩
  | .hbm, ⟨19, _⟩ => ⟨S6144, .f32⟩
  | .hbm, ⟨20, _⟩ => ⟨S1x6144, .f32⟩
  | .hbm, ⟨21, _⟩ => ⟨S16x6144, .f32⟩
  | .hbm, ⟨22, _⟩ => ⟨S16x6144, .f32⟩
  | .hbm, ⟨23, _⟩ => ⟨S4x1024, .f32⟩
  | .hbm, ⟨24, _⟩ => ⟨S4x1024, .f32⟩
  | .hbm, ⟨25, _⟩ => ⟨S_, .f32⟩
  | .hbm, ⟨26, _⟩ => ⟨S4x1024, .f32⟩
  | .hbm, ⟨27, _⟩ => ⟨S4x1024, .f32⟩
  | .hbm, ⟨28, _⟩ => ⟨S_, .f32⟩
  | .hbm, ⟨29, _⟩ => ⟨S4x1024, .f32⟩
  | .hbm, ⟨30, _⟩ => ⟨S4x1024, .f32⟩
  | .hbm, ⟨31, _⟩ => ⟨S4x1024, .f32⟩
  | .hbm, ⟨32, _⟩ => ⟨S1x1024x6144, .f32⟩
  | .hbm, ⟨33, _⟩ => ⟨S1024x6144, .f32⟩
  | .hbm, ⟨34, _⟩ => ⟨S4x6144, .f32⟩
  | .hbm, ⟨35, _⟩ => ⟨S1x6144, .f32⟩
  | .hbm, ⟨36, _⟩ => ⟨S6144, .f32⟩
  | .hbm, ⟨37, _⟩ => ⟨S1x6144, .f32⟩
  | .hbm, ⟨38, _⟩ => ⟨S4x6144, .f32⟩
  | .hbm, ⟨39, _⟩ => ⟨S4x6144, .f32⟩
  | .hbm, ⟨40, _⟩ => ⟨S4x4x6144, .f32⟩
  | .hbm, ⟨41, _⟩ => ⟨S4x1x6144, .f32⟩
  | .hbm, ⟨42, _⟩ => ⟨S4x6144, .f32⟩
  | .hbm, ⟨43, _⟩ => ⟨S8x6144, .f32⟩
  | .hbm, ⟨44, _⟩ => ⟨S16x1024, .f32⟩
  | .hbm, ⟨45, _⟩ => ⟨S16x1024, .f32⟩
  | .hbm, ⟨46, _⟩ => ⟨S_, .f32⟩
  | .hbm, ⟨47, _⟩ => ⟨S16x1024, .f32⟩
  | .hbm, ⟨48, _⟩ => ⟨S16x1024, .f32⟩
  | .hbm, ⟨49, _⟩ => ⟨S_, .f32⟩
  | .hbm, ⟨50, _⟩ => ⟨S16x1024, .f32⟩
  | .hbm, ⟨51, _⟩ => ⟨S16x1024, .f32⟩
  | .hbm, ⟨52, _⟩ => ⟨S16x1024, .f32⟩
  | .hbm, ⟨53, _⟩ => ⟨S1x1024x6144, .f32⟩
  | .hbm, ⟨54, _⟩ => ⟨S1024x6144, .f32⟩
  | .hbm, ⟨55, _⟩ => ⟨S16x6144, .f32⟩
  | .hbm, ⟨56, _⟩ => ⟨S1x6144, .f32⟩
  | .hbm, ⟨57, _⟩ => ⟨S6144, .f32⟩
  | .hbm, ⟨58, _⟩ => ⟨S1x6144, .f32⟩
  | .hbm, ⟨59, _⟩ => ⟨S16x6144, .f32⟩
  | .hbm, ⟨60, _⟩ => ⟨S16x6144, .f32⟩
  | .hbm, ⟨61, _⟩ => ⟨S4x1024, .f32⟩
  | .hbm, ⟨62, _⟩ => ⟨S4x1024, .f32⟩
  | .hbm, ⟨63, _⟩ => ⟨S_, .f32⟩
  | .hbm, ⟨64, _⟩ => ⟨S4x1024, .f32⟩
  | .hbm, ⟨65, _⟩ => ⟨S4x1024, .f32⟩
  | .hbm, ⟨66, _⟩ => ⟨S_, .f32⟩
  | .hbm, ⟨67, _⟩ => ⟨S4x1024, .f32⟩
  | .hbm, ⟨68, _⟩ => ⟨S4x1024, .f32⟩
  | .hbm, ⟨69, _⟩ => ⟨S4x1024, .f32⟩
  | .hbm, ⟨70, _⟩ => ⟨S1x1024x6144, .f32⟩
  | .hbm, ⟨71, _⟩ => ⟨S1024x6144, .f32⟩
  | .hbm, ⟨72, _⟩ => ⟨S4x6144, .f32⟩
  | .hbm, ⟨73, _⟩ => ⟨S1x6144, .f32⟩
  | .hbm, ⟨74, _⟩ => ⟨S6144, .f32⟩
  | .hbm, ⟨75, _⟩ => ⟨S1x6144, .f32⟩
  | .hbm, ⟨76, _⟩ => ⟨S4x6144, .f32⟩
  | .hbm, ⟨77, _⟩ => ⟨S4x6144, .f32⟩
  | .hbm, ⟨78, _⟩ => ⟨S4x4x6144, .f32⟩
  | .hbm, ⟨79, _⟩ => ⟨S4x1x6144, .f32⟩
  | .hbm, ⟨80, _⟩ => ⟨S4x6144, .f32⟩
  | .hbm, ⟨81, _⟩ => ⟨S8x6144, .f32⟩
  | .hbm, ⟨82, _⟩ => ⟨S1x8x6144, .f32⟩
  | .hbm, ⟨83, _⟩ => ⟨S1x8x6144, .f32⟩
  | .hbm, ⟨84, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call3_v0 : Ref sig .tc := ⟨.hbm, 61, rfl⟩
abbrev main_call3_v1 : Ref sig .tc := ⟨.hbm, 62, rfl⟩
abbrev main_call3_cst : Ref sig .tc := ⟨.hbm, 63, rfl⟩
abbrev main_call3_v2 : Ref sig .tc := ⟨.hbm, 64, rfl⟩
abbrev main_call3_v3 : Ref sig .tc := ⟨.hbm, 65, rfl⟩
abbrev main_call3_cst_0 : Ref sig .tc := ⟨.hbm, 66, rfl⟩
abbrev main_call3_v4 : Ref sig .tc := ⟨.hbm, 67, rfl⟩
abbrev main_call3_v5 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩

abbrev nD : Nat := 1
abbrev τ : Topo := Topo.v7x

variable {F : FTy → Type} [FloatOps F]
-- ==== Proof.AttnMath.lean ====
module

public import Idealize.ShloMosaic.PureOps.Ideal.Laws
public import Idealize.ShloMosaic.Lib.ValueIdx
public import Idealize.ShloMosaic.Lib.Pointwise

/-!
# The arithmetic of softmax attention on extended reals

What the attention kernel's block theorems and the reference's theorem meet in: the lanes of one head
among the 128 of a pair, the weighted mean of values under softmax weights in the kernel's order (divide
last) and in the reference's order (divide the weights first), and the two agree for a finite maximum.
-/

@[expose] public section

noncomputable section

namespace Cert.Attn

open Idealize.ShloMosaic

/-- Lane `d` of head `h` among the 128 lanes of a head pair. -/
def lane (h : Fin 2) (d : Fin 64) : Fin 128 := ⟨64 * h.val + d.val, by omega⟩

/-- The head a lane belongs to. -/
def headOf (l : Fin 128) : Fin 2 := ⟨l.val / 64, by omega⟩

/-- A sum over all lanes of a term masked to the lower half is the sum over head 0. -/
theorem sum_low (f : Fin 128 → EReal) :
    (∑ x : Fin 128, Scalar.select (IntOp.cmpi .slt (BitVec.ofNat 32 ↑x) 64#32) (f x) 0)
      = ∑ d : Fin 64, f (lane 0 d) := by
  have e : ∀ x : Fin 128, IntOp.cmpi .slt (BitVec.ofNat 32 ↑x) 64#32 = if x.val < 64 then 1#1 else 0#1 := by
    decide +kernel
  rw [Fin.sum_univ_add (a := 64) (b := 64)
    (fun x : Fin 128 => Scalar.select (IntOp.cmpi .slt (BitVec.ofNat 32 ↑x) 64#32) (f x) 0)]
  have h2 : ∀ i : Fin 64, Scalar.select (IntOp.cmpi .slt (BitVec.ofNat 32 ↑(Fin.natAdd 64 i)) 64#32)
      (f (Fin.natAdd 64 i)) (0 : EReal) = 0 := fun i => by
    rw [e (Fin.natAdd 64 i), if_neg (by simp)]; rfl
  rw [Finset.sum_congr rfl (fun i _ => h2 i), Finset.sum_const_zero, add_zero]
  refine Finset.sum_congr rfl fun i _ => ?_
  rw [e (Fin.castAdd 64 i), if_pos (by simp)]
  show f _ = f _
  congr 1; apply Fin.ext; simp [lane]

/-- A sum over all lanes of a term masked to the upper half is the sum over head 1. -/
theorem sum_high (f : Fin 128 → EReal) :
    (∑ x : Fin 128, Scalar.select (IntOp.cmpi .sge (BitVec.ofNat 32 ↑x) 64#32) (f x) 0)
      = ∑ d : Fin 64, f (lane 1 d) := by
  have e : ∀ x : Fin 128, IntOp.cmpi .sge (BitVec.ofNat 32 ↑x) 64#32 = if x.val < 64 then 0#1 else 1#1 := by
    decide +kernel
  rw [Fin.sum_univ_add (a := 64) (b := 64)
    (fun x : Fin 128 => Scalar.select (IntOp.cmpi .sge (BitVec.ofNat 32 ↑x) 64#32) (f x) 0)]
  have h2 : ∀ i : Fin 64, Scalar.select (IntOp.cmpi .sge (BitVec.ofNat 32 ↑(Fin.castAdd 64 i)) 64#32)
      (f (Fin.castAdd 64 i)) (0 : EReal) = 0 := fun i => by
    rw [e (Fin.castAdd 64 i), if_pos (by simp)]; rfl
  rw [Finset.sum_congr rfl (fun i _ => h2 i), Finset.sum_const_zero, zero_add]
  refine Finset.sum_congr rfl fun i _ => ?_
  rw [e (Fin.natAdd 64 i), if_neg (by simp)]
  show f _ = f _
  congr 1

/-- A select on "the lane is in the lower half" picks the lane's head. -/
theorem select_lane (l : Fin 128) (f : Fin 2 → EReal) :
    Scalar.select (IntOp.cmpi .slt (BitVec.ofNat 32 ↑l) 64#32) (f 0) (f 1) = f (headOf l) := by
  have e : ∀ x : Fin 128, IntOp.cmpi .slt (BitVec.ofNat 32 ↑x) 64#32 = if x.val < 64 then 1#1 else 0#1 := by
    decide +kernel
  rw [e l]
  by_cases h : l.val < 64
  · rw [if_pos h]
    have : headOf l = 0 := Fin.ext (by show l.val / 64 = 0; omega)
    rw [this]; rfl
  · rw [if_neg h]
    have : headOf l = 1 := Fin.ext (by show l.val / 64 = 1; omega)
    rw [this]; rfl

/-- The −∞ a running maximum starts from. -/
theorem ofBits_neg_inf : Ideal.ofBits FTy.f32 0xFF800000#32 = ⊥ := by
  simp [Ideal.ofBits, Ideal.ieee]

/-- The scale of a score: the number 1/8. -/
abbrev scale : EReal := Ideal.ofBits FTy.f32 0x3E000000#32

theorem scale_eq : scale = (((1 : ℝ) / 8 : ℝ) : EReal) := by
  simp [Ideal.ofBits, Ideal.ieee, -EReal.coe_mul]; norm_num

theorem scale_nonneg : 0 ≤ scale := by
  rw [scale_eq]; exact_mod_cast (by norm_num : (0 : ℝ) ≤ 1 / 8)

theorem scale_ne_top : scale ≠ ⊤ := by rw [scale_eq]; exact EReal.coe_ne_top _

theorem scale_ne_bot : scale ≠ ⊥ := by rw [scale_eq]; exact EReal.coe_ne_bot _

/-- The greatest of finitely many scores. -/
def smax {ι : Type} [Fintype ι] (s : ι → EReal) : EReal :=
  Finset.univ.fold max (Ideal.ofBits FTy.f32 0xFF800000#32) s

theorem smax_eq_sup {ι : Type} [Fintype ι] (s : ι → EReal) : smax s = Finset.univ.sup s := by
  unfold smax; rw [ofBits_neg_inf]; rfl

/-- Softmax attention over two families of keys (a window of local keys, a context), in the kernel's order:
    the weighted values are summed and divided by the sum of the weights. -/
def att2 {ι κ : Type} [Fintype ι] [Fintype κ] (s v : ι → EReal) (s' v' : κ → EReal) : EReal :=
  Ideal.div
    (∑ i, Ideal.exp (s i - max (smax s) (smax s')) * v i + ∑ k, Ideal.exp (s' k - max (smax s) (smax s')) * v' k)
    (∑ i, Ideal.exp (s i - max (smax s) (smax s')) + ∑ k, Ideal.exp (s' k - max (smax s) (smax s')))

/-- Softmax attention over one family of keys, in the kernel's order. -/
def att {ι : Type} [Fintype ι] (s v : ι → EReal) : EReal :=
  Ideal.div (∑ i, Ideal.exp (s i - smax s) * v i) (∑ i, Ideal.exp (s i - smax s))

/-- The first column of the window of 16 that a query at column `a` sees. -/
def win (a : ℕ) : ℕ := min 48 (a - 8)

/-- The column `c` lies in the window of a query at column `a`. -/
abbrev inWin (a c : ℕ) : Prop := win a ≤ c ∧ c < win a + 16

/-- The first of the eight rows of keys that a query in row `r` sees. -/
def row0 (r : ℕ) : ℕ := min 8 (r - 4)

theorem row0_le (r : ℕ) : row0 r ≤ 8 := by unfold row0; omega

theorem win_le (a : ℕ) : win a ≤ 48 := by unfold win; omega

/-- The masking word of a query column and a key, as the kernel computes it. -/
theorem mask_word (a : Fin 64) (j : Fin 512) :
    IntOp.andi
      (IntOp.cmpi .sge (IntOp.andi (BitVec.ofNat 32 ↑j) 63#32)
        (IntOp.minsi 48#32 (IntOp.maxsi 0#32 (IntOp.subi (BitVec.ofNat 32 ↑a) 8#32))))
      (IntOp.cmpi .slt (IntOp.andi (BitVec.ofNat 32 ↑j) 63#32)
        (IntOp.addi (IntOp.minsi 48#32 (IntOp.maxsi 0#32 (IntOp.subi (BitVec.ofNat 32 ↑a) 8#32))) 16#32))
      = if inWin a.val (j.val % 64) then 1#1 else 0#1 := by
  have hj : ∀ j : Fin 512, IntOp.andi (BitVec.ofNat 32 ↑j) 63#32 = BitVec.ofNat 32 (j.val % 64) := by
    decide +kernel
  have key : ∀ (a c : Fin 64), IntOp.andi
      (IntOp.cmpi .sge (BitVec.ofNat 32 ↑c)
        (IntOp.minsi 48#32 (IntOp.maxsi 0#32 (IntOp.subi (BitVec.ofNat 32 ↑a) 8#32))))
      (IntOp.cmpi .slt (BitVec.ofNat 32 ↑c)
        (IntOp.addi (IntOp.minsi 48#32 (IntOp.maxsi 0#32 (IntOp.subi (BitVec.ofNat 32 ↑a) 8#32))) 16#32))
      = if inWin a.val c.val then 1#1 else 0#1 := by
    unfold inWin win
    decide +kernel
  rw [hj j]
  exact key a ⟨j.val % 64, by omega⟩

end Cert.Attn
-- ==== Proof.AttnBlock.lean ====
module

public import proofs.«01_k».proof.Proof.Gen.KernelIdeal.Frame
public import proofs.«01_k».proof.Proof.AttnMath
public import Idealize.ShloMosaic.Lib.Pipeline.Value
public import Idealize.ShloMosaic.PureOps.IdealRules

/-!
# What one grid point of the attention kernel computes

A grid point of a context group works through four chunks of 256 rows (`ctxPay`); one of a neighbourhood
group through sixteen grid rows for each of two heads (`rowVal`). Both are read at an element here.
-/

@[expose] public section

set_option maxRecDepth 16384

noncomputable section

namespace Cert.KernelIdeal.Attn

open Idealize.ShloMosaic Idealize.ShloMosaic.TcCoe Idealize.SL.Sem Idealize.ShloMosaic.Tactic
open Cert.KernelIdeal Cert.KernelIdeal.Gen Cert.Attn

/-- The result of one context chunk: 256 rows attend to the same 256 rows, in two heads of 64 lanes. -/
def ctxPay (q k v : Vec Ideal S256x128 .f32) : FVec Ideal S256x128 .f32 :=
  k0_pay10 (iota .tc S256x128 32 [1] iota_S256x128_d1_w32) (k0_pay6 q k v) (k0_pay8 q k v) (k0_pay9 q k)

/-- One element of a context chunk: softmax attention in the head its lane belongs to. -/
theorem ctxPay_apply (q k v : Vec Ideal S256x128 .f32) (a : Fin 256) (l : Fin 128) :
    ctxPay q k v (ix2 a l)
      = att (fun j : Fin 256 => ∑ d : Fin 64, q (ix2 a (lane (headOf l) d)) * scale * k (ix2 j (lane (headOf l) d)))
          (fun j => v (ix2 j l)) := by
  unfold ctxPay
  unfold_payloads
  pointwise [sum_low, sum_high]
  exact select_lane l fun h => att
    (fun j : Fin 256 => ∑ d : Fin 64, q (ix2 a (lane h d)) * scale * k (ix2 j (lane h d))) (fun j => v (ix2 j l))

/-- One grid row of one head: 64 queries with local scores `sl` (a window of them kept, the position bias
    `bias` added) and context scores `sc`, local values `v` and context values `vc`. -/
def rowVal (sl sc : FVec Ideal S64x512 .f32) (vc : FVec Ideal S512x128 .bf16) (bias : Vec Ideal S1x1x1x64x512 .f32)
    (v : Vec Ideal S512x128 .f32) : FVec Ideal S1x64x128 .f32 :=
  let s := select k0_pay29 (addf sl (shapeCast S64x512 bias shapeCasts_S1x1x1x64x512_S64x512))
    (broadcast S64x512 (Named.named (F := Ideal) κ "mask" 0xF149F2CA#32))
  let m := maximumf
    (shapeCast S64x1 (multiReduction .maximumf [1] S64 s 0xFF800000#32 reduces_S64x512_S64 (.inl rfl) rfl) shapeCasts_S64_S64x1)
    (shapeCast S64x1 (multiReduction .maximumf [1] S64 sc 0xFF800000#32 reduces_S64x512_S64 (.inl rfl) rfl) shapeCasts_S64_S64x1)
  let p := exp (subf s (broadcastTo S64x512 m broadcasts_S64x1_S64x512))
  let pc := exp (subf sc (broadcastTo S64x512 m broadcasts_S64x1_S64x512))
  let den := addf
    (shapeCast S64x1 (multiReduction .add [1] S64 p 0x00000000#32 reduces_S64x512_S64 (.inl rfl) rfl) shapeCasts_S64_S64x1)
    (shapeCast S64x1 (multiReduction .add [1] S64 pc 0x00000000#32 reduces_S64x512_S64 (.inl rfl) rfl) shapeCasts_S64_S64x1)
  let o := addf
    (matmul dot_S64x512_S512x128_S64x128_1_0_0_1_n_n none (truncf .bf16 p bitsLt_bf16_f32) (truncf .bf16 v bitsLt_bf16_f32)
      (constant S64x128 .f32 0x00000000#32))
    (matmul dot_S64x512_S512x128_S64x128_1_0_0_1_n_n none (truncf .bf16 pc bitsLt_bf16_f32) vc
      (constant S64x128 .f32 0x00000000#32))
  shapeCast S1x64x128 (divf o (broadcastTo S64x128 den broadcasts_S64x1_S64x128)) shapeCasts_S64x128_S1x64x128

/-- The named mask is −∞. -/
theorem mask_eq : (Named.named (F := Ideal) (φ := .f32) κ "mask" 0xF149F2CA#32 : EReal) = ⊥ :=
  IdealRules.named_const.ideal_named_scalar _ _ _ _ rfl

/-- A select on a decided word is an `if`. -/
theorem select_ite (p : Prop) [Decidable p] (x y : EReal) :
    Scalar.select (if p then 1#1 else 0#1) x y = if p then x else y := by
  by_cases h : p
  · rw [if_pos h, if_pos h]; rfl
  · rw [if_neg h, if_neg h]; rfl

/-- One element of a grid row. -/
theorem rowVal_apply (sl sc : FVec Ideal S64x512 .f32) (vc : FVec Ideal S512x128 .bf16)
    (bias : Vec Ideal S1x1x1x64x512 .f32) (v : Vec Ideal S512x128 .f32) (a : Fin 64) (l : Fin 128) :
    rowVal sl sc vc bias v (ix3 0 a l)
      = att2 (fun j : Fin 512 => if inWin a.val (j.val % 64) then sl (ix2 a j) + bias (ix5 0 0 0 a j) else ⊥)
          (fun j => v (ix2 j l)) (fun j : Fin 512 => sc (ix2 a j)) (fun j => vc (ix2 j l)) := by
  unfold rowVal
  dsimp only
  unfold_payloads
  pointwise [mask_word, mask_eq, select_ite]

  rfl

end Cert.KernelIdeal.Attn
-- ==== Proof.AttnPoint.lean ====
module

public import proofs.«01_k».proof.Proof.AttnBlock

/-!
# What a grid point of the attention kernel leaves in its output block

`out_ctx`: a context group's block, element by element. `out_nbr`: a neighbourhood group's block. Both are
softmax attention written over the point's input blocks: queries `x0`, keys `x1`, values `x2`, cached keys
`x3` and values `x4`, position bias `x5`.
-/

@[expose] public section

set_option maxRecDepth 100000

noncomputable section

namespace Cert.KernelIdeal.Attn

open Idealize.ShloMosaic Idealize.ShloMosaic.TcCoe Idealize.SL.Sem Idealize.ShloMosaic.Tactic
open Cert.KernelIdeal Cert.KernelIdeal.Gen Cert.Attn

/-- Row `j` of the chunk of 256 rows that row `ρ` lies in. -/
def chunkRow (ρ : Fin 1024) (j : Fin 256) : Fin 1024 := ⟨256 * (ρ.val / 256) + j.val, by omega⟩

/-- Element `(ρ, l)` of a context group's block. -/
def ctxOut (x0 x1 x2 : Vec Ideal S1024x128 .f32) (ρ : Fin 1024) (l : Fin 128) : EReal :=
  att (fun j : Fin 256 => ∑ d : Fin 64,
      x0 (ix2 ρ (lane (headOf l) d)) * scale * x1 (ix2 (chunkRow ρ j) (lane (headOf l) d)))
    (fun j => x2 (ix2 (chunkRow ρ j) l))

/-- Key `j` of the eight grid rows of keys that block row `ρ` sees. -/
def localRow (ρ : Fin 1024) (j : Fin 512) : Fin 1024 :=
  ⟨64 * row0 (ρ.val / 64) + j.val, by have := row0_le (ρ.val / 64); omega⟩

/-- Element `(ρ, l)` of a neighbourhood group's block, computed with head `h`. -/
def nbrOut (x0 x1 x2 : Vec Ideal S1024x128 .f32) (x3 x4 : Vec Ideal S1x1x512x128 .f32)
    (x5 : Vec Ideal S1x2x16x64x512 .f32) (h : Fin 2) (ρ : Fin 1024) (l : Fin 128) : EReal :=
  att2
    (fun j : Fin 512 => if inWin (ρ.val % 64) (j.val % 64) then
        (∑ d : Fin 64, x0 (ix2 ρ (lane h d)) * scale * x1 (ix2 (localRow ρ j) (lane h d)))
          + x5 (ix5 0 h ⟨ρ.val / 64, by omega⟩ ⟨ρ.val % 64, by omega⟩ j)
      else ⊥)
    (fun j => x2 (ix2 (localRow ρ j) l))
    (fun j : Fin 512 => ∑ d : Fin 64, x0 (ix2 ρ (lane h d)) * scale * x3 (ix4 0 0 j (lane h d)))
    (fun j => x4 (ix4 0 0 j l))

/-- `nbrOut` as a function of the index of the two heads' scratch. -/
def nbrScr (x0 x1 x2 : Vec Ideal S1024x128 .f32) (x3 x4 : Vec Ideal S1x1x512x128 .f32)
    (x5 : Vec Ideal S1x2x16x64x512 .f32) (i : S2x1024x128.Idx) : EReal :=
  nbrOut x0 x1 x2 x3 x4 x5 (i 0) (i 1) (i 2)

/-- The queries scaled, the lanes of the other head set to zero (`p` says which lanes stay). -/
def maskedQ (p : CmpIPredicate) (x0 : Vec Ideal S1024x128 .f32) : FVec Ideal S1024x128 .bf16 :=
  truncf .bf16 (select (cmpi p (iota .tc S1024x128 32 [1] iota_S1024x128_d1_w32) (broadcast S1024x128 64#32))
    (mulf x0 (broadcast S1024x128 (FloatOps.ofBits FTy.f32 0x3E000000#32)))
    (broadcast S1024x128 (FloatOps.ofBits FTy.f32 0#32))) bitsLt_bf16_f32

/-- Head `h` keeps the lanes that the predicate `p` selects. -/
def Keeps (p : CmpIPredicate) (h : Fin 2) : Prop :=
  ∀ f : Fin 128 → EReal, (∑ x : Fin 128, Scalar.select (IntOp.cmpi p (BitVec.ofNat 32 ↑x) 64#32) (f x) 0)
    = ∑ d : Fin 64, f (lane h d)

theorem keeps_low : Keeps .slt 0 := sum_low
theorem keeps_high : Keeps .sge 1 := sum_high

/-- Local scores of grid row `r`. -/
def locS (p : CmpIPredicate) (x0 : Vec Ideal S1024x128 .f32) (r : ℕ) (hq : S1024x128.Slices ![64 * r, 0] S64x128)
    (k : Vec Ideal S512x128 .f32) : FVec Ideal S64x512 .f32 :=
  matmul dot_S64x128_S512x128_S64x512_1_1_0_0_n_n none (extractStridedSlice S64x128 ![64 * r, 0] (maskedQ p x0) hq)
    (truncf .bf16 k bitsLt_bf16_f32) (constant S64x512 .f32 0x00000000#32)

/-- Context scores of all rows. -/
def ctxS (p : CmpIPredicate) (x0 : Vec Ideal S1024x128 .f32) (x3 : Vec Ideal S1x1x512x128 .f32) : FVec Ideal S1024x512 .f32 :=
  matmul dot_S1024x128_S512x128_S1024x512_1_1_0_0_n_n none (maskedQ p x0)
    (truncf .bf16 (shapeCast S512x128 x3 shapeCasts_S1x1x512x128_S512x128) bitsLt_bf16_f32)
    (constant S1024x512 .f32 0x00000000#32)

theorem locS_apply {p : CmpIPredicate} {h : Fin 2} (hp : Keeps p h) (x0 : Vec Ideal S1024x128 .f32) (r : Fin 16)
    (hq : S1024x128.Slices ![64 * r.val, 0] S64x128) (k : Vec Ideal S512x128 .f32) (a : Fin 64) (j : Fin 512) :
    locS p x0 r.val hq k (ix2 a j)
      = ∑ d : Fin 64, x0 (ix2 ⟨64 * r.val + a.val, by omega⟩ (lane h d)) * scale * k (ix2 j (lane h d)) := by
  unfold locS maskedQ
  pointwise
  exact hp fun x => x0 (ix2 ⟨64 * r.val + a.val, by omega⟩ x) * scale * k (ix2 j x)

theorem ctxS_apply {p : CmpIPredicate} {h : Fin 2} (hp : Keeps p h) (x0 : Vec Ideal S1024x128 .f32)
    (x3 : Vec Ideal S1x1x512x128 .f32) (a : Fin 1024) (j : Fin 512) :
    ctxS p x0 x3 (ix2 a j)
      = ∑ d : Fin 64, x0 (ix2 a (lane h d)) * scale * x3 (ix4 0 0 j (lane h d)) := by
  unfold ctxS maskedQ
  pointwise
  exact hp fun x => x0 (ix2 a x) * scale * x3 (ix4 0 0 j x)

/-- The stored grid row `r` of head `h`: its elements are those of `nbrOut`. -/
theorem row_piece (x0 x1 x2 : Vec Ideal S1024x128 .f32) (x3 x4 : Vec Ideal S1x1x512x128 .f32)
    (x5 : Vec Ideal S1x2x16x64x512 .f32) {p : CmpIPredicate} {h : Fin 2} (hp : Keeps p h) (r : Fin 16)
    (hq : S1024x128.Slices ![64 * r.val, 0] S64x128) (hs : S1024x512.Slices ![64 * r.val, 0] S64x512)
    (hk : ∀ a, (![64 * row0 r.val, 0] : Fin 2 → ℕ) a + S512x128.size a ≤ S1024x128.size a)
    (hb : ∀ a, (![0, h.val, r.val, 0, 0] : Fin 5 → ℕ) a + S1x1x1x64x512.size a ≤ S1x2x16x64x512.size a)
    (ho : ∀ a, (![h.val, 64 * r.val, 0] : Fin 3 → ℕ) a + S1x64x128.size a ≤ S2x1024x128.size a)
    (x : (Rect.unit (s := S2x1024x128) ![h.val, 64 * r.val, 0] S1x64x128.size ho).shape.Idx) :
    rowVal (locS p x0 r.val hq (View.ld x1 (Rect.unit (s := S1024x128) ![64 * row0 r.val, 0] S512x128.size hk)))
        (extractStridedSlice S64x512 ![64 * r.val, 0] (ctxS p x0 x3) hs)
        (truncf .bf16 (shapeCast S512x128 x4 shapeCasts_S1x1x512x128_S512x128) bitsLt_bf16_f32)
        (View.ld x5 (Rect.unit (s := S1x2x16x64x512) ![0, h.val, r.val, 0, 0] S1x1x1x64x512.size hb))
        (View.ld x2 (Rect.unit (s := S1024x128) ![64 * row0 r.val, 0] S512x128.size hk)) x
      = nbrScr x0 x1 x2 x3 x4 x5
          ((Rect.unit (s := S2x1024x128) ![h.val, 64 * r.val, 0] S1x64x128.size ho).emb x) := by
  obtain ⟨a, l, rfl⟩ : ∃ (a : Fin 64) (l : Fin 128), x = (ix3 (0 : Fin 1) a l) := ⟨x 1, x 2, by
    funext b; match b with
    | ⟨0, _⟩ => exact Fin.ext (by have := (x 0).isLt; change (x 0).val < 1 at this; show (x 0).val = 0; omega)
    | ⟨1, _⟩ => rfl
    | ⟨2, _⟩ => rfl⟩
  have e : (Rect.unit (s := S2x1024x128) ![h.val, 64 * r.val, 0] S1x64x128.size ho).emb (ix3 (0 : Fin 1) a l)
      = ix3 h ⟨64 * r.val + a.val, by omega⟩ l := by
    funext b; match b with
    | ⟨0, _⟩ => exact Fin.ext (by show h.val + 1 * 0 = h.val; omega)
    | ⟨1, _⟩ => exact Fin.ext (by show 64 * r.val + 1 * a.val = 64 * r.val + a.val; omega)
    | ⟨2, _⟩ => exact Fin.ext (by show 0 + 1 * l.val = l.val; omega)
  rw [e]
  show _ = nbrOut x0 x1 x2 x3 x4 x5 h ⟨64 * r.val + a.val, by omega⟩ l
  have hd : (64 * r.val + a.val) / 64 = r.val := by omega
  have hm : (64 * r.val + a.val) % 64 = a.val := by omega
  have hrow : ∀ j : Fin 512, localRow ⟨64 * r.val + a.val, by omega⟩ j
      = ⟨64 * row0 r.val + j.val, by have := row0_le r.val; omega⟩ := fun j =>
    Fin.ext (by show 64 * row0 ((64 * r.val + a.val) / 64) + j.val = _; rw [hd])
  rw [rowVal_apply]
  unfold nbrOut
  simp only [hrow, hm]
  congr 1
  · funext j
    congr 1
    congr 1
    · rw [locS_apply hp]
      refine Finset.sum_congr rfl fun d _ => ?_
      congr 1
      pointwise
    · pointwise
      exact congrArg (fun b : Fin 16 => x5 (ix5 0 h b a j)) (Fin.ext hd.symm)
  · funext j
    pointwise
  · funext j
    pointwise [ctxS_apply hp]
  · funext j
    pointwise

/-- A load of a whole block is the block. -/
theorem ld_whole2 (x : Vec Ideal S1024x128 .f32) (inb : ∀ a, (![0, 0] : Fin 2 → ℕ) a + S1024x128.size a ≤ S1024x128.size a) :
    View.ld x (Rect.unit (s := S1024x128) ![0, 0] ![1024, 128] inb) = x :=
  View.ld_unit_zero (by decide) inb x

theorem ld_whole4 (x : Vec Ideal S1x1x512x128 .f32)
    (inb : ∀ a, (![0, 0, 0, 0] : Fin 4 → ℕ) a + S1x1x512x128.size a ≤ S1x1x512x128.size a) :
    View.ld x (Rect.unit (s := S1x1x512x128) ![0, 0, 0, 0] ![1, 1, 512, 128] inb) = x :=
  View.ld_unit_zero (by decide) inb x

section Run

variable (c : Dev nD) (i : grid0.Coords) (arg2 : Memref sig .tc .vmem S1024x128 .f32) (harg2 : arg2.IsWhole) (arg3 : Memref
    sig .tc .vmem S1024x128 .f32) (harg3 : arg3.IsWhole) (arg4 : Memref sig .tc .vmem S1024x128 .f32) (harg4 :
    arg4.IsWhole) (arg5 : Memref sig .tc .vmem S1x1x512x128 .f32) (harg5 : arg5.IsWhole) (arg6 : Memref sig .tc .vmem
    S1x1x512x128 .f32) (harg6 : arg6.IsWhole) (arg7 : Memref sig .tc .vmem S1x2x16x64x512 .f32) (harg7 : arg7.IsWhole)
    (arg8 : Memref sig .tc .vmem S1024x128 .f32) (harg8 : arg8.IsWhole) (arg9 : Memref sig .tc .vmem S2x1024x128 .f32)
    (harg9 : arg9.IsWhole)
    (x0 x1 x2 : Vec Ideal S1024x128 .f32) (x3 x4 : Vec Ideal S1x1x512x128 .f32) (x5 : Vec Ideal S1x2x16x64x512 .f32)

set_option maxHeartbeats 4000000 in
/-- The two heads' scratch after the sixteen grid rows of each. -/
theorem scratch_nbr (hc0 : ¬ cond0_0 i) (hc1 : cond0_1 i) (y : S2x1024x128.Idx) :
    View.canon (kernelRun0_B (F := Ideal) c i arg2 harg2 arg3 harg3 arg4 harg4 arg5 harg5 arg6 harg6 arg7 harg7 arg8 harg8 arg9 harg9 hc0 hc1 x0 x1 x2 x3 x4 x5).2.1 y
      = nbrScr x0 x1 x2 x3 x4 x5 y := by
  refine View.canon_apply_of_pieces (nbrScr x0 x1 x2 x3 x4 x5) _ ?_ y
    (View.cover_of_tiledL (kernelRun0_B (F := Ideal) c i arg2 harg2 arg3 harg3 arg4 harg4 arg5 harg5 arg6 harg6 arg7 harg7 arg8 harg8 arg9 harg9 hc0 hc1 x0 x1 x2 x3 x4 x5).2.1 S1x64x128.size (by sl_kernel_rfl) y)
  unfold kernelRun0_B
  dsimp only
  sl_unfold_words
  simp only [View.readAt_eq_ld, Memref.IsWhole.read_unread, harg2, harg3, harg4, harg5, harg6, harg7]
  simp only [ld_whole2, ld_whole4]
  refine List.forall_mem_cons.2 ⟨fun x => row_piece x0 x1 x2 x3 x4 x5 keeps_high 15 (by decide) (by decide) (by decide) (by decide) (by decide) x, ?_⟩
  refine List.forall_mem_cons.2 ⟨fun x => row_piece x0 x1 x2 x3 x4 x5 keeps_high 14 (by decide) (by decide) (by decide) (by decide) (by decide) x, ?_⟩
  refine List.forall_mem_cons.2 ⟨fun x => row_piece x0 x1 x2 x3 x4 x5 keeps_high 13 (by decide) (by decide) (by decide) (by decide) (by decide) x, ?_⟩
  refine List.forall_mem_cons.2 ⟨fun x => row_piece x0 x1 x2 x3 x4 x5 keeps_high 12 (by decide) (by decide) (by decide) (by decide) (by decide) x, ?_⟩
  refine List.forall_mem_cons.2 ⟨fun x => row_piece x0 x1 x2 x3 x4 x5 keeps_high 11 (by decide) (by decide) (by decide) (by decide) (by decide) x, ?_⟩
  refine List.forall_mem_cons.2 ⟨fun x => row_piece x0 x1 x2 x3 x4 x5 keeps_high 10 (by decide) (by decide) (by decide) (by decide) (by decide) x, ?_⟩
  refine List.forall_mem_cons.2 ⟨fun x => row_piece x0 x1 x2 x3 x4 x5 keeps_high 9 (by decide) (by decide) (by decide) (by decide) (by decide) x, ?_⟩
  refine List.forall_mem_cons.2 ⟨fun x => row_piece x0 x1 x2 x3 x4 x5 keeps_high 8 (by decide) (by decide) (by decide) (by decide) (by decide) x, ?_⟩
  refine List.forall_mem_cons.2 ⟨fun x => row_piece x0 x1 x2 x3 x4 x5 keeps_high 7 (by decide) (by decide) (by decide) (by decide) (by decide) x, ?_⟩
  refine List.forall_mem_cons.2 ⟨fun x => row_piece x0 x1 x2 x3 x4 x5 keeps_high 6 (by decide) (by decide) (by decide) (by decide) (by decide) x, ?_⟩
  refine List.forall_mem_cons.2 ⟨fun x => row_piece x0 x1 x2 x3 x4 x5 keeps_high 5 (by decide) (by decide) (by decide) (by decide) (by decide) x, ?_⟩
  refine List.forall_mem_cons.2 ⟨fun x => row_piece x0 x1 x2 x3 x4 x5 keeps_high 4 (by decide) (by decide) (by decide) (by decide) (by decide) x, ?_⟩
  refine List.forall_mem_cons.2 ⟨fun x => row_piece x0 x1 x2 x3 x4 x5 keeps_high 3 (by decide) (by decide) (by decide) (by decide) (by decide) x, ?_⟩
  refine List.forall_mem_cons.2 ⟨fun x => row_piece x0 x1 x2 x3 x4 x5 keeps_high 2 (by decide) (by decide) (by decide) (by decide) (by decide) x, ?_⟩
  refine List.forall_mem_cons.2 ⟨fun x => row_piece x0 x1 x2 x3 x4 x5 keeps_high 1 (by decide) (by decide) (by decide) (by decide) (by decide) x, ?_⟩
  refine List.forall_mem_cons.2 ⟨fun x => row_piece x0 x1 x2 x3 x4 x5 keeps_high 0 (by decide) (by decide) (by decide) (by decide) (by decide) x, ?_⟩
  refine List.forall_mem_cons.2 ⟨fun x => row_piece x0 x1 x2 x3 x4 x5 keeps_low 15 (by decide) (by decide) (by decide) (by decide) (by decide) x, ?_⟩
  refine List.forall_mem_cons.2 ⟨fun x => row_piece x0 x1 x2 x3 x4 x5 keeps_low 14 (by decide) (by decide) (by decide) (by decide) (by decide) x, ?_⟩
  refine List.forall_mem_cons.2 ⟨fun x => row_piece x0 x1 x2 x3 x4 x5 keeps_low 13 (by decide) (by decide) (by decide) (by decide) (by decide) x, ?_⟩
  refine List.forall_mem_cons.2 ⟨fun x => row_piece x0 x1 x2 x3 x4 x5 keeps_low 12 (by decide) (by decide) (by decide) (by decide) (by decide) x, ?_⟩
  refine List.forall_mem_cons.2 ⟨fun x => row_piece x0 x1 x2 x3 x4 x5 keeps_low 11 (by decide) (by decide) (by decide) (by decide) (by decide) x, ?_⟩
  refine List.forall_mem_cons.2 ⟨fun x => row_piece x0 x1 x2 x3 x4 x5 keeps_low 10 (by decide) (by decide) (by decide) (by decide) (by decide) x, ?_⟩
  refine List.forall_mem_cons.2 ⟨fun x => row_piece x0 x1 x2 x3 x4 x5 keeps_low 9 (by decide) (by decide) (by decide) (by decide) (by decide) x, ?_⟩
  refine List.forall_mem_cons.2 ⟨fun x => row_piece x0 x1 x2 x3 x4 x5 keeps_low 8 (by decide) (by decide) (by decide) (by decide) (by decide) x, ?_⟩
  refine List.forall_mem_cons.2 ⟨fun x => row_piece x0 x1 x2 x3 x4 x5 keeps_low 7 (by decide) (by decide) (by decide) (by decide) (by decide) x, ?_⟩
  refine List.forall_mem_cons.2 ⟨fun x => row_piece x0 x1 x2 x3 x4 x5 keeps_low 6 (by decide) (by decide) (by decide) (by decide) (by decide) x, ?_⟩
  refine List.forall_mem_cons.2 ⟨fun x => row_piece x0 x1 x2 x3 x4 x5 keeps_low 5 (by decide) (by decide) (by decide) (by decide) (by decide) x, ?_⟩
  refine List.forall_mem_cons.2 ⟨fun x => row_piece x0 x1 x2 x3 x4 x5 keeps_low 4 (by decide) (by decide) (by decide) (by decide) (by decide) x, ?_⟩
  refine List.forall_mem_cons.2 ⟨fun x => row_piece x0 x1 x2 x3 x4 x5 keeps_low 3 (by decide) (by decide) (by decide) (by decide) (by decide) x, ?_⟩
  refine List.forall_mem_cons.2 ⟨fun x => row_piece x0 x1 x2 x3 x4 x5 keeps_low 2 (by decide) (by decide) (by decide) (by decide) (by decide) x, ?_⟩
  refine List.forall_mem_cons.2 ⟨fun x => row_piece x0 x1 x2 x3 x4 x5 keeps_low 1 (by decide) (by decide) (by decide) (by decide) (by decide) x, ?_⟩
  refine List.forall_mem_cons.2 ⟨fun x => row_piece x0 x1 x2 x3 x4 x5 keeps_low 0 (by decide) (by decide) (by decide) (by decide) (by decide) x, ?_⟩
  exact fun p hp => absurd hp List.not_mem_nil

/-- The one store of a neighbourhood point: per lane the scratch half of the lane's head. -/
theorem store_nbr (hc0 : ¬ cond0_0 i) (hc1 : cond0_1 i) :
    (kernelRun0_B (F := Ideal) c i arg2 harg2 arg3 harg3 arg4 harg4 arg5 harg5 arg6 harg6 arg7 harg7 arg8 harg8 arg9 harg9 hc0 hc1 x0 x1 x2 x3 x4 x5).1
      = [⟨Rect.unit (s := S1024x128) ![0, 0] S1024x128.size inb_S1024x128_S1024x128_0_0,
          k0_pay2 (iota .tc S1024x128 32 [1] iota_S1024x128_d1_w32) 64#32
            (arg9.view.readCov (kernelRun0_B (F := Ideal) c i arg2 harg2 arg3 harg3 arg4 harg4 arg5 harg5 arg6 harg6 arg7 harg7 arg8 harg8 arg9 harg9 hc0 hc1 x0 x1 x2 x3 x4 x5).2.1
              (Rect.unit (s := S2x1024x128) ![0, 0, 0] S1x1024x128.size inb_S2x1024x128_S1x1024x128_0_0_0).toLoadRect)
            (arg9.view.readCov (kernelRun0_B (F := Ideal) c i arg2 harg2 arg3 harg3 arg4 harg4 arg5 harg5 arg6 harg6 arg7 harg7 arg8 harg8 arg9 harg9 hc0 hc1 x0 x1 x2 x3 x4 x5).2.1
              (Rect.unit (s := S2x1024x128) ![1, 0, 0] S1x1024x128.size inb_S2x1024x128_S1x1024x128_1_0_0).toLoadRect)⟩] :=
  rfl

/-- An element of a neighbourhood group's output block. -/
theorem out_nbr (hc0 : ¬ cond0_0 i) (hc1 : cond0_1 i) (ρ : Fin 1024) (l : Fin 128) :
    out0_B_6 (F := Ideal) c i arg2 harg2 arg3 harg3 arg4 harg4 arg5 harg5 arg6 harg6 arg7 harg7 arg8 harg8 arg9 harg9 hc0 hc1 x0 x1 x2 x3 x4 x5 (ix2 ρ l)
      = nbrOut x0 x1 x2 x3 x4 x5 (headOf l) ρ l := by
  unfold out0_B_6
  rw [View.read_writes_junk_eq_canon, store_nbr, View.canon_unit_zero (by decide), View.readCov_eq_canon',
    View.readCov_eq_canon']
  simp only [scratch_nbr]
  unfold_payloads
  pointwise
  exact select_lane l fun h => nbrOut x0 x1 x2 x3 x4 x5 h ρ l

/-- The stored chunk `n`: its elements are those of `ctxOut`. -/
theorem chunk_piece (n : Fin 4)
    (hq : ∀ a, (![256 * n.val, 0] : Fin 2 → ℕ) a + S256x128.size a ≤ S1024x128.size a)
    (x : (Rect.unit (s := S1024x128) ![256 * n.val, 0] S256x128.size hq).shape.Idx) :
    ctxPay (View.ld x0 (Rect.unit (s := S1024x128) ![256 * n.val, 0] S256x128.size hq))
        (View.ld x1 (Rect.unit (s := S1024x128) ![256 * n.val, 0] S256x128.size hq))
        (View.ld x2 (Rect.unit (s := S1024x128) ![256 * n.val, 0] S256x128.size hq)) x
      = (fun i : S1024x128.Idx => ctxOut x0 x1 x2 (i 0) (i 1))
          ((Rect.unit (s := S1024x128) ![256 * n.val, 0] S256x128.size hq).emb x) := by
  obtain ⟨a, l, rfl⟩ : ∃ (a : Fin 256) (l : Fin 128), x = (ix2 a l) := ⟨x 0, x 1, by
    funext b; match b with
    | ⟨0, _⟩ => rfl
    | ⟨1, _⟩ => rfl⟩
  have e : (Rect.unit (s := S1024x128) ![256 * n.val, 0] S256x128.size hq).emb (ix2 a l)
      = ix2 ⟨256 * n.val + a.val, by omega⟩ l := by
    funext b; match b with
    | ⟨0, _⟩ => exact Fin.ext (by show 256 * n.val + 1 * a.val = 256 * n.val + a.val; omega)
    | ⟨1, _⟩ => exact Fin.ext (by show 0 + 1 * l.val = l.val; omega)
  rw [e]
  show _ = ctxOut x0 x1 x2 ⟨256 * n.val + a.val, by omega⟩ l
  have hrow : ∀ j : Fin 256, chunkRow ⟨256 * n.val + a.val, by omega⟩ j = ⟨256 * n.val + j.val, by omega⟩ := fun j =>
    Fin.ext (by show 256 * ((256 * n.val + a.val) / 256) + j.val = 256 * n.val + j.val; omega)
  rw [ctxPay_apply]
  unfold ctxOut
  simp only [hrow]
  pointwise

set_option maxHeartbeats 4000000 in
/-- An element of a context group's output block. -/
theorem out_ctx (hc0 : cond0_0 i) (hc1 : ¬ cond0_1 i) (ρ : Fin 1024) (l : Fin 128) :
    out0_A_6 (F := Ideal) c i arg2 harg2 arg3 harg3 arg4 harg4 arg5 harg5 arg6 harg6 arg7 harg7 arg8 harg8 arg9 harg9 hc0 hc1 x0 x1 x2 x3 x4 x5 (ix2 ρ l)
      = ctxOut x0 x1 x2 ρ l := by
  unfold out0_A_6
  rw [View.read_writes_junk_eq_canon]
  refine View.canon_apply_of_pieces (fun i : S1024x128.Idx => ctxOut x0 x1 x2 (i 0) (i 1)) _ ?_ (ix2 ρ l)
    (cover0_A_6 c i arg2 harg2 arg3 harg3 arg4 harg4 arg5 harg5 arg6 harg6 arg7 harg7 arg8 harg8 arg9 harg9 hc0 hc1 x0 x1 x2 x3 x4 x5 (ix2 ρ l))
  unfold kernelRun0_A
  dsimp only
  sl_unfold_words
  simp only [View.readAt_eq_ld, Memref.IsWhole.read_unread, harg2, harg3, harg4]
  refine List.forall_mem_cons.2 ⟨fun x => chunk_piece x0 x1 x2 3 (by decide) x, ?_⟩
  refine List.forall_mem_cons.2 ⟨fun x => chunk_piece x0 x1 x2 2 (by decide) x, ?_⟩
  refine List.forall_mem_cons.2 ⟨fun x => chunk_piece x0 x1 x2 1 (by decide) x, ?_⟩
  refine List.forall_mem_cons.2 ⟨fun x => chunk_piece x0 x1 x2 0 (by decide) x, ?_⟩
  exact fun p hp => absurd hp List.not_mem_nil

end Run

end Cert.KernelIdeal.Attn
-- ==== Proof.AttnSpec.lean ====
module

public import proofs.«01_k».proof.Proof.AttnMath
public import Idealize.ShloMosaic.Lib.Pointwise

/-! # The attention layer, element by element

What the layer's attention computes, as functions of its four arguments: the fused projection `z`, the cached keys and
values, and the relative position bias. Head `h` takes the columns `64 h …` of the queries (from 2560), the keys (from 3072)
and the values (from 3584). -/

@[expose] public section

noncomputable section

namespace Cert.Attn

open Idealize.ShloMosaic

/-- The fused projection's index set. -/
abbrev ZIdx := (⟨2, ![8192, 4096]⟩ : Shape).Idx
/-- The caches' index set. -/
abbrev CacheIdx := (⟨5, ![4, 2, 512, 8, 64]⟩ : Shape).Idx
/-- The relative position bias's index set. -/
abbrev BiasIdx := (⟨3, ![8, 15, 31]⟩ : Shape).Idx

/-- Query entry `d` of head `h` in row `R`. -/
def zq (z : ZIdx → EReal) (R : Fin 8192) (h : Fin 8) (d : Fin 64) : EReal := z (ix2 R ⟨2560 + (64 * h + d), by omega⟩)
/-- Key entry. -/
def zk (z : ZIdx → EReal) (R : Fin 8192) (h : Fin 8) (d : Fin 64) : EReal := z (ix2 R ⟨3072 + (64 * h + d), by omega⟩)
/-- Value entry. -/
def zv (z : ZIdx → EReal) (R : Fin 8192) (h : Fin 8) (d : Fin 64) : EReal := z (ix2 R ⟨3584 + (64 * h + d), by omega⟩)

/-- Row `j` of context sequence `b`. -/
def seqRow (b : Fin 16) (j : Fin 256) : Fin 8192 := ⟨256 * b + j, by omega⟩
/-- Row of grid position `(r, q)` of sample `b`. -/
def gridRow (b : Fin 4) (r : Fin 16) (q : Fin 64) : Fin 8192 := ⟨4096 + 1024 * b + 64 * r + q, by omega⟩
/-- Row of key `j` of the 8 grid rows that query row `r` attends to. -/
def keyRow (b : Fin 4) (r : Fin 16) (j : Fin 512) : Fin 8192 := ⟨4096 + 1024 * b + 64 * row0 r + j, by have := row0_le r; omega⟩

theorem bias_row_lt (r : Fin 16) (a : Fin 8) : row0 r + a + 7 - r < 15 := by revert r a; decide

/-- The bias of query `(r, q)` to key `j` of its 8 grid rows. -/
def biasAt (rp : BiasIdx → EReal) (h : Fin 8) (r : Fin 16) (q : Fin 64) (j : Fin 512) : EReal :=
  rp (ix3 h ⟨row0 r + j / 64 + 7 - r, bias_row_lt r ⟨j / 64, by omega⟩⟩ ⟨min 30 (j % 64 + 15 - q), by omega⟩)

/-- Context attention: row `r` of sequence `b` attends to its own 256 rows. -/
def ctxAt (z : ZIdx → EReal) (b : Fin 16) (r : Fin 256) (h : Fin 8) (d : Fin 64) : EReal :=
  att (fun j : Fin 256 => ∑ e : Fin 64, zq z (seqRow b r) h e * scale * zk z (seqRow b j) h e)
    (fun j => zv z (seqRow b j) h d)

/-- Neighbourhood attention: grid position `(r, q)` of sample `b` attends to the 8×16 window round it and to the 512 cached
    rows. -/
def nbrAt (z : ZIdx → EReal) (kc vc : CacheIdx → EReal) (rp : BiasIdx → EReal) (b : Fin 4) (r : Fin 16) (q : Fin 64)
    (h : Fin 8) (d : Fin 64) : EReal :=
  att2 (fun j : Fin 512 => if inWin q (j % 64)
      then (∑ e : Fin 64, zq z (gridRow b r q) h e * scale * zk z (keyRow b r j) h e) + biasAt rp h r q j else ⊥)
    (fun j => zv z (keyRow b r j) h d)
    (fun j : Fin 512 => ∑ e : Fin 64, zq z (gridRow b r q) h e * scale * kc (ix5 b 0 j h e))
    (fun j => vc (ix5 b 0 j h d))

/-- The layer's attention at row `R`, column `C`. -/
def attnAt (z : ZIdx → EReal) (kc vc : CacheIdx → EReal) (rp : BiasIdx → EReal) (R : Fin 8192) (C : Fin 512) : EReal :=
  if hR : R.val < 4096 then ctxAt z ⟨R / 256, by omega⟩ ⟨R % 256, by omega⟩ ⟨C / 64, by omega⟩ ⟨C % 64, by omega⟩
  else nbrAt z kc vc rp ⟨(R - 4096) / 1024, by omega⟩ ⟨R / 64 % 16, by omega⟩ ⟨R % 64, by omega⟩ ⟨C / 64, by omega⟩ ⟨C % 64, by omega⟩

end Cert.Attn
-- ==== Proof.AttnArray.lean ====
module

public import proofs.«01_k».proof.Proof.Gen.KernelIdeal.Value
public import proofs.«01_k».proof.Proof.AttnPoint
public import proofs.«01_k».proof.Proof.AttnSpec
public import Idealize.ShloMosaic.Lib.StableHlo.ReadAt
public import Idealize.ShloMosaic.Lib.Routing.OpsPair

/-! # The attention kernel's result array

Each of the 32 grid points reads blocks of the arguments and writes one block of the result; here the blocks are read at
an element and the result array is stated element by element. -/

@[expose] public section

set_option maxRecDepth 100000

noncomputable section

namespace Cert.KernelIdeal.Attn

open Idealize.ShloMosaic Idealize.ShloMosaic.TcCoe Idealize.ShloMosaic.Tactic
open Cert.KernelIdeal Cert.KernelIdeal.Gen Cert.Attn
open Idealize.ShloMosaic.Pipeline (Dat Cfg Window)

variable (m : (ℓ : Loc nD τ sig) → Buf (Elt Ideal) ℓ)

theorem index0 (t : Fin cfg0.N) : (cfg0.win 0).index t 0 = t.val % 8 ∧ (cfg0.win 0).index t 1 = 20 + t.val / 8 := by
  revert t; decide +kernel
theorem index1 (t : Fin cfg0.N) : (cfg0.win 1).index t 0 = t.val % 8 ∧ (cfg0.win 1).index t 1 = 24 + t.val / 8 := by
  revert t; decide +kernel
theorem index2 (t : Fin cfg0.N) : (cfg0.win 2).index t 0 = t.val % 8 ∧ (cfg0.win 2).index t 1 = 28 + t.val / 8 := by
  revert t; decide +kernel
theorem index3 (t : Fin cfg0.N) : (cfg0.win 3).index t 0 = t.val % 8 - 4 ∧ (cfg0.win 3).index t 1 = 0
    ∧ (cfg0.win 3).index t 2 = 0 ∧ (cfg0.win 3).index t 3 = t.val / 8 := by
  revert t; decide +kernel
theorem index4 (t : Fin cfg0.N) : (cfg0.win 4).index t 0 = t.val % 8 - 4 ∧ (cfg0.win 4).index t 1 = 0
    ∧ (cfg0.win 4).index t 2 = 0 ∧ (cfg0.win 4).index t 3 = t.val / 8 := by
  revert t; decide +kernel
theorem index5 (t : Fin cfg0.N) : (cfg0.win 5).index t 0 = t.val / 8 ∧ (cfg0.win 5).index t 1 = 0
    ∧ (cfg0.win 5).index t 2 = 0 ∧ (cfg0.win 5).index t 3 = 0 ∧ (cfg0.win 5).index t 4 = 0 := by
  revert t; decide +kernel
theorem index6 (t : Fin cfg0.N) : (cfg0.win 6).index t 0 = t.val % 8 ∧ (cfg0.win 6).index t 1 = t.val / 8 := by
  revert t; decide +kernel

theorem t_div (t : Fin cfg0.N) : t.val / 8 < 4 := by
  have : t.val < 32 := t.isLt
  omega
theorem t_mod (t : Fin cfg0.N) : t.val % 8 < 8 := by omega

/-- The queries' block at a point is rows `1024 g …` and columns `2560 + 128 p …` of the fused projection. -/
theorem iblk0_apply (c : Dev nD) (t : Fin cfg0.N) (a : Fin 1024) (b : Fin 128) :
    iblk m c 0 t (ix2 a b) = (m (c, main_arg0) : S8192x4096.Idx → EReal)
      (ix2 ⟨1024 * (t.val % 8) + a, by omega⟩ ⟨2560 + 128 * (t.val / 8) + b, by have := t_div t; omega⟩) := by
  unfold iblk
  rw [View.read_apply, show V m c (Pipeline.arrRef spec0 0) = m (c, main_arg0) from V_main_arg0 m c]
  have h := index0 t
  refine congrArg (m (c, main_arg0) : S8192x4096.Idx → EReal) (funext fun x => Fin.ext ?_)
  refine (Window.rect_emb_val (cfg0.win 0) t (ix2 a b) x).trans ?_
  match x with
  | 0 => rw [h.1]; show _ * 1024 + a.val = _ + a.val; omega
  | 1 => rw [h.2]; show _ * 128 + b.val = _ + b.val; omega

/-- The keys' block likewise, its columns from 3072. -/
theorem iblk1_apply (c : Dev nD) (t : Fin cfg0.N) (a : Fin 1024) (b : Fin 128) :
    iblk m c 1 t (ix2 a b) = (m (c, main_arg0) : S8192x4096.Idx → EReal)
      (ix2 ⟨1024 * (t.val % 8) + a, by omega⟩ ⟨3072 + 128 * (t.val / 8) + b, by have := t_div t; omega⟩) := by
  unfold iblk
  rw [View.read_apply, show V m c (Pipeline.arrRef spec0 1) = m (c, main_arg0) from V_main_arg0 m c]
  have h := index1 t
  refine congrArg (m (c, main_arg0) : S8192x4096.Idx → EReal) (funext fun x => Fin.ext ?_)
  refine (Window.rect_emb_val (cfg0.win 1) t (ix2 a b) x).trans ?_
  match x with
  | 0 => rw [h.1]; show _ * 1024 + a.val = _ + a.val; omega
  | 1 => rw [h.2]; show _ * 128 + b.val = _ + b.val; omega

/-- The values' block likewise, its columns from 3584. -/
theorem iblk2_apply (c : Dev nD) (t : Fin cfg0.N) (a : Fin 1024) (b : Fin 128) :
    iblk m c 2 t (ix2 a b) = (m (c, main_arg0) : S8192x4096.Idx → EReal)
      (ix2 ⟨1024 * (t.val % 8) + a, by omega⟩ ⟨3584 + 128 * (t.val / 8) + b, by have := t_div t; omega⟩) := by
  unfold iblk
  rw [View.read_apply, show V m c (Pipeline.arrRef spec0 2) = m (c, main_arg0) from V_main_arg0 m c]
  have h := index2 t
  refine congrArg (m (c, main_arg0) : S8192x4096.Idx → EReal) (funext fun x => Fin.ext ?_)
  refine (Window.rect_emb_val (cfg0.win 2) t (ix2 a b) x).trans ?_
  match x with
  | 0 => rw [h.1]; show _ * 1024 + a.val = _ + a.val; omega
  | 1 => rw [h.2]; show _ * 128 + b.val = _ + b.val; omega

/-- The cached keys the launch reads: the cache with its last two axes joined. -/
theorem V_v0_apply (c : Dev nD) (s : Fin 4) (l : Fin 2) (j : Fin 512) (e : Fin 512) :
    (V m c main_v0 : S4x2x512x512.Idx → EReal) (ix4 s l j e)
      = (m (c, main_arg1) : S4x2x512x8x64.Idx → EReal) (ix5 s l j ⟨e / 64, by omega⟩ ⟨e % 64, by omega⟩) := by
  unfold V
  after_reads_at

/-- The cached values likewise. -/
theorem V_v1_apply (c : Dev nD) (s : Fin 4) (l : Fin 2) (j : Fin 512) (e : Fin 512) :
    (V m c main_v1 : S4x2x512x512.Idx → EReal) (ix4 s l j e)
      = (m (c, main_arg2) : S4x2x512x8x64.Idx → EReal) (ix5 s l j ⟨e / 64, by omega⟩ ⟨e % 64, by omega⟩) := by
  unfold V
  after_reads_at

/-- The cached keys' block at a point: of sample `g - 4`, layer 0, the columns of head pair `p`. -/
theorem iblk3_apply (c : Dev nD) (t : Fin cfg0.N) (h4 : 4 ≤ t.val % 8) (j : Fin 512) (b : Fin 128) :
    iblk m c 3 t (ix4 0 0 j b) = (V m c main_v0 : S4x2x512x512.Idx → EReal)
      (ix4 ⟨t.val % 8 - 4, by omega⟩ 0 j ⟨128 * (t.val / 8) + b, by have := t_div t; omega⟩) := by
  unfold iblk
  rw [View.read_apply]
  obtain ⟨h0, h1, h2, h3⟩ := index3 t
  refine congrArg (V m c main_v0 : S4x2x512x512.Idx → EReal) (funext fun x => Fin.ext ?_)
  refine (Window.rect_emb_val (cfg0.win 3) t (ix4 0 0 j b) x).trans ?_
  match x with
  | 0 => rw [h0]; exact Nat.mul_one _
  | 1 => rw [h1]; rfl
  | 2 => rw [h2]; show 0 * 512 + j.val = j.val; omega
  | 3 => rw [h3]; show _ * 128 + b.val = _ + b.val; omega

/-- The cached values' block likewise. -/
theorem iblk4_apply (c : Dev nD) (t : Fin cfg0.N) (h4 : 4 ≤ t.val % 8) (j : Fin 512) (b : Fin 128) :
    iblk m c 4 t (ix4 0 0 j b) = (V m c main_v1 : S4x2x512x512.Idx → EReal)
      (ix4 ⟨t.val % 8 - 4, by omega⟩ 0 j ⟨128 * (t.val / 8) + b, by have := t_div t; omega⟩) := by
  unfold iblk
  rw [View.read_apply]
  obtain ⟨h0, h1, h2, h3⟩ := index4 t
  refine congrArg (V m c main_v1 : S4x2x512x512.Idx → EReal) (funext fun x => Fin.ext ?_)
  refine (Window.rect_emb_val (cfg0.win 4) t (ix4 0 0 j b) x).trans ?_
  match x with
  | 0 => rw [h0]; exact Nat.mul_one _
  | 1 => rw [h1]; rfl
  | 2 => rw [h2]; show 0 * 512 + j.val = j.val; omega
  | 3 => rw [h3]; show _ * 128 + b.val = _ + b.val; omega

/-- The bias block at a point: the two heads of pair `p`. -/
theorem iblk5_apply (c : Dev nD) (t : Fin cfg0.N) (h : Fin 2) (r : Fin 16) (q : Fin 64) (k : Fin 512) :
    iblk m c 5 t (ix5 0 h r q k) = (V m c main_v48 : S4x2x16x64x512.Idx → EReal)
      (ix5 ⟨t.val / 8, t_div t⟩ h r q k) := by
  unfold iblk
  rw [View.read_apply]
  obtain ⟨h0, h1, h2, h3, h4⟩ := index5 t
  refine congrArg (V m c main_v48 : S4x2x16x64x512.Idx → EReal) (funext fun x => Fin.ext ?_)
  refine (Window.rect_emb_val (cfg0.win 5) t (ix5 0 h r q k) x).trans ?_
  match x with
  | 0 => rw [h0]; exact Nat.mul_one _
  | 1 => rw [h1]; show 0 * 2 + h.val = h.val; omega
  | 2 => rw [h2]; show 0 * 16 + r.val = r.val; omega
  | 3 => rw [h3]; show 0 * 64 + q.val = q.val; omega
  | 4 => rw [h4]; show 0 * 512 + k.val = k.val; omega

/-- Of an index word below an axis's extent, the start the gather reads is the word. -/
theorem start_word {n e : Nat} (he : e < n) (hn : n < 2 ^ 31) (x : BitVec 32) (hx : x = BitVec.ofNat 32 e) :
    min x.toInt.toNat (n - 1) = e := by
  subst hx
  have : (BitVec.ofNat 32 e).toInt = e := by
    rw [BitVec.toInt_eq_toNat_of_lt] <;> simp <;> omega
  rw [this]; simp; omega

/-- The gather of the bias table at an element: the two index words name the table's row and column. -/
theorem gather_bias (x : S8x15x31.Idx → EReal) (idx : IVec S16x64x8x64x2 32) (h : Fin 8) (r : Fin 16) (q : Fin 64) (a : Fin 8) (c : Fin 64)
    (e0 : Fin 15) (e1 : Fin 31) (h0 : idx (ix5 r q a c 0) = BitVec.ofNat 32 e0) (h1 : idx (ix5 r q a c 1) = BitVec.ofNat 32 e1) :
    Host.gather gather_S8x15x31_S16x64x8x64x2_S8x16x64x8x64_0_12_n_n_12_4_811 x idx (ix5 h r q a c) = x (ix3 h e0 e1) := by
  unfold Host.gather
  refine congrArg x (funext fun b => Fin.ext ?_)
  match b with
  | 0 =>
    show 0 + 0 + h.val = h.val
    omega
  | 1 =>
    refine Eq.trans ?_ (start_word e0.isLt (by decide) _ h0)
    show min (idx _).toInt.toNat (15 - 1) + 0 + 0 = min _ _
    refine congrArg (fun i => min (idx i).toInt.toNat 14) (funext fun b => Fin.ext ?_)
    match b with
    | 0 => rfl
    | 1 => rfl
    | 2 => rfl
    | 3 => rfl
    | 4 => rfl
  | 2 =>
    refine Eq.trans ?_ (start_word e1.isLt (by decide) _ h1)
    show min (idx _).toInt.toNat (31 - 1) + 0 + 0 = min _ _
    refine congrArg (fun i => min (idx i).toInt.toNat 30) (funext fun b => Fin.ext ?_)
    match b with
    | 0 => rfl
    | 1 => rfl
    | 2 => rfl
    | 3 => rfl
    | 4 => rfl

/-- The first index word of a joined pair. -/
theorem pair_left (x y : IVec S16x64x8x64x1 32) (h : Shape.Concatenates [S16x64x8x64x1, S16x64x8x64x1] S16x64x8x64x2 4)
    (r : Fin 16) (q : Fin 64) (a : Fin 8) (c : Fin 64) :
    concatenate S16x64x8x64x2 4 [⟨S16x64x8x64x1, x⟩, ⟨S16x64x8x64x1, y⟩] h (ix5 r q a c 0) = x (ix5 r q a c 0) := by
  refine concatenate_pair_apply_left 4 x y h _ rfl (ix5 r q a c (0 : Fin 1)) fun b => ?_
  match b with
  | 0 => rfl
  | 1 => rfl
  | 2 => rfl
  | 3 => rfl
  | 4 => rfl

/-- The second index word of a joined pair. -/
theorem pair_right (x y : IVec S16x64x8x64x1 32) (h : Shape.Concatenates [S16x64x8x64x1, S16x64x8x64x1] S16x64x8x64x2 4)
    (r : Fin 16) (q : Fin 64) (a : Fin 8) (c : Fin 64) :
    concatenate S16x64x8x64x2 4 [⟨S16x64x8x64x1, x⟩, ⟨S16x64x8x64x1, y⟩] h (ix5 r q a c 1) = y (ix5 r q a c 0) := by
  refine concatenate_pair_apply_right 4 x y h _ rfl rfl (ix5 r q a c (0 : Fin 1)) (fun b hb => ?_) rfl
  match b with
  | 0 => rfl
  | 1 => rfl
  | 2 => rfl
  | 3 => rfl
  | 4 => exact absurd rfl hb

/-- The kernel's row index word of the bias table. -/
theorem word_row (r : Fin 16) (a : Fin 8) :
    let w := IntOp.subi (IntOp.addi (IntOp.subi (IntOp.addi (IntOp.minsi 8#32 (IntOp.maxsi 0#32
      (IntOp.subi (BitVec.ofNat 32 r) 4#32))) (BitVec.ofNat 32 a)) (BitVec.ofNat 32 r)) 8#32) 1#32
    Scalar.select (IntOp.cmpi .slt w 0#32) (IntOp.addi w 15#32) w = BitVec.ofNat 32 (row0 r + a + 7 - r) := by
  revert r a; decide +kernel

/-- The kernel's column index word of the bias table. -/
theorem word_col (q c : Fin 64) :
    let w := IntOp.minsi 30#32 (IntOp.maxsi 0#32 (IntOp.subi (IntOp.addi (IntOp.subi (BitVec.ofNat 32 c) (BitVec.ofNat 32 q)) 16#32) 1#32))
    Scalar.select (IntOp.cmpi .slt w 0#32) (IntOp.addi w 31#32) w = BitVec.ofNat 32 (min 30 (c + 15 - q)) := by
  revert q c; decide +kernel

/-- The bias array the launch reads: for query `(r, q)` and key `k` of its 8 grid rows, the entry of the relative position
    table at their row and (clamped) column offset. -/
theorem V_v48_apply (c : Dev nD) (p : Fin 4) (h : Fin 2) (r : Fin 16) (q : Fin 64) (k : Fin 512) :
    (V m c main_v48 : S4x2x16x64x512.Idx → EReal) (ix5 p h r q k)
      = biasAt (m (c, main_arg3) : S8x15x31.Idx → EReal) ⟨p * 2 + h, by omega⟩ r q k := by
  unfold V biasAt
  after_reads_at
  refine gather_bias _ _ _ _ _ _ _ _ _ ?_ ?_
  · rw [pair_left]
    after_reads_at
    exact word_row r ⟨k / 64, by omega⟩
  · rw [pair_right]
    after_reads_at
    exact word_col q ⟨k % 64, by omega⟩

/-- Two entries of a matrix at the same coordinates are equal. -/
theorem at_ix2 {A B : Nat} (z : (⟨2, ![A, B]⟩ : Shape).Idx → EReal) {a a' : Fin A} {b b' : Fin B} (ha : a.val = a'.val) (hb : b.val = b'.val) :
    z (ix2 a b) = z (ix2 a' b') := by
  obtain rfl := Fin.ext ha; obtain rfl := Fin.ext hb; rfl

/-- Two entries of a cache at the same coordinates are equal. -/
theorem at_ix5 {A B C D E : Nat} (z : (⟨5, ![A, B, C, D, E]⟩ : Shape).Idx → EReal) {a a' : Fin A} {b b' : Fin B} {c c' : Fin C} {d d' : Fin D}
    {e e' : Fin E} (ha : a.val = a'.val) (hb : b.val = b'.val) (hc : c.val = c'.val) (hd : d.val = d'.val) (he : e.val = e'.val) :
    z (ix5 a b c d e) = z (ix5 a' b' c' d' e') := by
  obtain rfl := Fin.ext ha; obtain rfl := Fin.ext hb; obtain rfl := Fin.ext hc; obtain rfl := Fin.ext hd; obtain rfl := Fin.ext he; rfl

/-- The result array at row `R`, column `C` is the layer's attention there. -/
theorem final_apply (c : Dev nD) (R : Fin 8192) (C : Fin 512) :
    ((dats m 0 c).arrAt 6 cfg0.N : S8192x512.Idx → EReal) (ix2 R C)
      = attnAt (m (c, main_arg0) : S8192x4096.Idx → EReal) (m (c, main_arg1) : S4x2x512x8x64.Idx → EReal)
          (m (c, main_arg2) : S4x2x512x8x64.Idx → EReal) (m (c, main_arg3) : S8x15x31.Idx → EReal) R C := by
  have hN : 8 * (C.val / 128) + R.val / 1024 < cfg0.N := by show _ < 32; omega
  obtain ⟨t, ht⟩ : ∃ t : Fin cfg0.N, t.val = 8 * (C.val / 128) + R.val / 1024 := ⟨⟨_, hN⟩, rfl⟩
  have hd : t.val / 8 = C.val / 128 := by omega
  have hm : t.val % 8 = R.val / 1024 := by omega
  have hb := congrFun (Value.blocks6 m c t (flush0_6 t)) (ix2 (⟨R % 1024, by omega⟩ : Fin 1024) (⟨C % 128, by omega⟩ : Fin 128))
  rw [View.read_apply] at hb
  have hidx : (((cfg0.win 6).blk t).view.emb (ix2 (⟨R % 1024, by omega⟩ : Fin 1024) (⟨C % 128, by omega⟩ : Fin 128)) : S8192x512.Idx) = ix2 R C := by
    have h := index6 t
    refine funext fun x => Fin.ext ?_
    refine (Window.rect_emb_val (cfg0.win 6) t _ x).trans ?_
    match x with
    | 0 => rw [h.1]; show _ * 1024 + R.val % 1024 = R.val; omega
    | 1 => rw [h.2]; show _ * 128 + C.val % 128 = C.val; omega
  rw [hidx] at hb
  refine Eq.trans hb ?_
  unfold attnAt
  split
  · next hR =>
    rw [Value.flushed6_A m c t (by omega) (by omega)]
    refine (out_ctx ..).trans ?_
    unfold ctxOut ctxAt
    refine congrArg₂ att (funext fun j => Finset.sum_congr rfl fun e _ => ?_) (funext fun j => ?_)
    · refine congrArg₂ (fun a b => a * scale * b) ((iblk0_apply m c t _ _).trans (at_ix2 _ ?_ ?_))
        ((iblk1_apply m c t _ _).trans (at_ix2 _ ?_ ?_)) <;>
        simp only [seqRow, lane, headOf, chunkRow] <;> omega
    · refine (iblk2_apply m c t _ _).trans (at_ix2 _ ?_ ?_) <;> simp only [seqRow, chunkRow] <;> omega
  · next hR =>
    rw [Value.flushed6_B m c t (by omega) (by omega)]
    refine (out_nbr ..).trans ?_
    have hq : R.val % 1024 % 64 = R.val % 64 := by omega
    have hr : R.val % 1024 / 64 = R.val / 64 % 16 := by omega
    unfold nbrOut nbrAt
    refine congr (congr (congrArg₂ att2 (funext fun j => ?_) (funext fun j => ?_)) (funext fun j => Finset.sum_congr rfl fun e _ => ?_)) (funext fun j => ?_)
    · dsimp only
      refine if_congr (by rw [hq]) (congrArg₂ (· + ·) (Finset.sum_congr rfl fun e _ => ?_) ?_) rfl
      · refine congrArg₂ (fun a b => a * scale * b) ((iblk0_apply m c t _ _).trans (at_ix2 _ ?_ ?_))
          ((iblk1_apply m c t _ _).trans (at_ix2 _ ?_ ?_)) <;>
          simp only [gridRow, keyRow, lane, headOf, localRow, hr] <;> omega
      · refine (iblk5_apply m c t _ _ _ _).trans ((V_v48_apply m c _ _ _ _ _).trans ?_)
        congr 1 <;> apply Fin.ext <;> simp only [headOf] <;> omega
    · refine (iblk2_apply m c t _ _).trans (at_ix2 _ ?_ ?_) <;> simp only [keyRow, localRow, hr] <;> omega
    · refine congrArg₂ (fun a b => a * scale * b) ((iblk0_apply m c t _ _).trans (at_ix2 _ ?_ ?_))
        ((iblk3_apply m c t (by omega) _ _).trans ((V_v0_apply m c _ _ _ _).trans (at_ix5 _ ?_ ?_ ?_ ?_ ?_))) <;>
        first | rfl | (simp only [gridRow, lane, headOf]; omega)
    · refine (iblk4_apply m c t (by omega) _ _).trans ((V_v1_apply m c _ _ _ _).trans (at_ix5 _ ?_ ?_ ?_ ?_ ?_)) <;>
        first | rfl | (simp only []; omega)

end Cert.KernelIdeal.Attn
-- ==== Proof.AttnRef.lean ====
module

public import proofs.«01_k».proof.Proof.Gen.ReferenceIdeal.Read
public import proofs.«01_k».proof.Proof.AttnSpec

/-! # The reference's attention, element by element -/

@[expose] public section

set_option maxRecDepth 100000

noncomputable section

namespace Cert.ReferenceIdeal.Attn

open Idealize.ShloMosaic Idealize.ShloMosaic.TcCoe Idealize.ShloMosaic.Tactic
open Cert.ReferenceIdeal Cert.ReferenceIdeal.Gen Cert.ReferenceIdeal.Read Cert.Attn

variable (z : S8192x4096.Idx → EReal)

/-- Context scores. -/
theorem v10_at (b : Fin 16) (h : Fin 8) (q k : Fin 256) :
    val_main_v10 (F := Ideal) z (ix4 b h q k) = (∑ e : Fin 64, zq z (seqRow b q) h e * zk z (seqRow b k) h e) * scale := by
  unfold val_main_v10 val_main_v8 val_main_v9 val_main_cst val_main_v3 val_main_v5 val_main_v2 val_main_v4 val_main_v0
  pointwise
  refine congrArg (· * scale) (Finset.sum_congr rfl fun e _ => ?_)
  refine congrArg₂ (· * ·) ?_ ?_
  · unfold zq seqRow; congr 2 <;> apply Fin.ext <;> simp only [] <;> omega
  · unfold zk seqRow; congr 2 <;> apply Fin.ext <;> simp only [] <;> omega

theorem v7_at (b : Fin 16) (k : Fin 256) (h : Fin 8) (d : Fin 64) :
    val_main_v7 (F := Ideal) z (ix4 b k h d) = zv z (seqRow b k) h d := by
  unfold val_main_v7 val_main_v6 val_main_v0
  pointwise
  unfold zv seqRow; congr 2 <;> apply Fin.ext <;> simp only [] <;> omega

/-- The first column of the span of 32 that query block `j` gathers. -/
def span0 (j : ℕ) : ℕ := min 32 (16 * j - 8)

/-! ## Index words -/

theorem v42_at (r : Fin 16) (k : Fin 8) : val_main_v42 (F := Ideal) (ix2 r k) = BitVec.ofNat 32 (row0 r + k) := by
  unfold val_main_v42 val_main_v41 val_main_v40 val_main_v39 val_main_v38 val_main_v37 val_main_v36 val_main_call0_v4 val_main_call0_v3 val_main_call0_v2 val_main_call0_v1 val_main_call0_v0 val_main_c_3 val_main_c_2 val_main_v35 val_main_v34 val_main_c val_main_v33
  pointwise
  revert r k; decide +kernel

theorem v59_at (j : Fin 4) (s : Fin 32) : val_main_v59 (F := Ideal) (ix2 j s) = BitVec.ofNat 32 (span0 j + s) := by
  unfold val_main_v59 val_main_v58 val_main_v57 val_main_v56 val_main_v55 val_main_v54 val_main_v53 val_main_call2_v4 val_main_call2_v3 val_main_call2_v2 val_main_call2_v1 val_main_call2_v0 val_main_c_10 val_main_c_9 val_main_v52 val_main_v51 val_main_c_8 val_main_v50 val_main_v49 val_main_c_7 val_main_v48
  pointwise
  revert j s; decide +kernel

theorem v44_at (j : Fin 4) (q : Fin 16) : val_main_v44 (F := Ideal) (ix2 j q) = BitVec.ofNat 32 (16 * j + q) := by
  unfold val_main_v44 val_main_v43
  pointwise
  revert j q; decide +kernel

theorem v47_at (j : Fin 4) (q : Fin 16) : val_main_v47 (F := Ideal) (ix2 j q) = BitVec.ofNat 32 (win (16 * j + q)) := by
  unfold val_main_v47 val_main_call1_v4 val_main_call1_v3 val_main_call1_v2 val_main_call1_v1 val_main_call1_v0 val_main_c_6 val_main_c_5 val_main_v46 val_main_v45 val_main_c_4
  pointwise [v44_at]
  revert j q; decide +kernel

theorem v73_at (r : Fin 16) (j : Fin 4) (k : Fin 8) (s : Fin 32) :
    val_main_v73 (F := Ideal) (ix4 r j k s) = BitVec.ofNat 32 (row0 r + k) := by
  unfold val_main_v73 val_main_v67 val_main_v66 val_main_v65 val_main_c_12 val_main_v64 val_main_v63 val_main_c_11 val_main_v60
  pointwise [v42_at]
  revert r k; decide +kernel

theorem v74_at (r : Fin 16) (j : Fin 4) (k : Fin 8) (s : Fin 32) :
    val_main_v74 (F := Ideal) (ix4 r j k s) = BitVec.ofNat 32 (span0 j + s) := by
  unfold val_main_v74 val_main_v72 val_main_v71 val_main_v70 val_main_c_14 val_main_v69 val_main_v68 val_main_c_13 val_main_v61
  pointwise [v59_at]
  revert j s; decide +kernel

theorem v90_at (r : Fin 16) (j : Fin 4) (k : Fin 8) (s : Fin 32) :
    val_main_v90 (F := Ideal) (ix4 r j k s) = BitVec.ofNat 32 (row0 r + k) := by
  unfold val_main_v90 val_main_v84 val_main_v83 val_main_v82 val_main_c_16 val_main_v81 val_main_v80 val_main_c_15 val_main_v60
  pointwise [v42_at]
  revert r k; decide +kernel

theorem v91_at (r : Fin 16) (j : Fin 4) (k : Fin 8) (s : Fin 32) :
    val_main_v91 (F := Ideal) (ix4 r j k s) = BitVec.ofNat 32 (span0 j + s) := by
  unfold val_main_v91 val_main_v89 val_main_v88 val_main_v87 val_main_c_18 val_main_v86 val_main_v85 val_main_c_17 val_main_v61
  pointwise [v59_at]
  revert j s; decide +kernel

/-- The mask: the key's column is in the query's window. -/
theorem v111_at (j : Fin 4) (q : Fin 16) (s : Fin 32) :
    val_main_v111 (F := Ideal) (ix3 j q s) = if inWin (16 * j + q) (span0 j + s) then 1#1 else 0#1 := by
  unfold val_main_v111 val_main_v110 val_main_v109 val_main_v108 val_main_v107 val_main_v106 val_main_c_20 val_main_v105 val_main_v104 val_main_v103 val_main_v102 val_main_v101 val_main_v100
  pointwise [v59_at, v47_at]
  revert j q s; decide +kernel

theorem v140_at (r : Fin 16) (j : Fin 4) (q : Fin 16) (k : Fin 8) (s : Fin 32) :
    val_main_v140 (F := Ideal) (ix5 r j q k s) = BitVec.ofNat 32 (row0 r + k + 7 - r) := by
  unfold val_main_v140 val_main_v134 val_main_v133 val_main_v132 val_main_c_28 val_main_v131 val_main_v130 val_main_c_27 val_main_v128 val_main_v118 val_main_v117 val_main_c_22 val_main_v116 val_main_v115 val_main_c_21 val_main_v114 val_main_v113 val_main_v112 val_main_v33
  pointwise [v42_at]
  revert r k; decide +kernel

theorem v141_at (r : Fin 16) (j : Fin 4) (q : Fin 16) (k : Fin 8) (s : Fin 32) :
    val_main_v141 (F := Ideal) (ix5 r j q k s) = BitVec.ofNat 32 (min 30 (span0 j + s + 15 - (16 * j + q))) := by
  unfold val_main_v141 val_main_v139 val_main_v138 val_main_v137 val_main_c_30 val_main_v136 val_main_v135 val_main_c_29 val_main_v129 val_main_v127 val_main_call3_v4 val_main_call3_v3 val_main_call3_v2 val_main_call3_v1 val_main_call3_v0 val_main_c_26 val_main_c_25 val_main_v126 val_main_v125 val_main_c_24 val_main_v124 val_main_v123 val_main_c_23 val_main_v122 val_main_v121 val_main_v120 val_main_v119 val_main_v100
  pointwise [v59_at, v44_at]
  revert j q s; decide +kernel

end Cert.ReferenceIdeal.Attn
-- ==== Proof.AttnSoftmax.lean ====
module

public import proofs.«01_k».proof.Proof.AttnMath

/-! # Softmax attention in two orders

The kernel sums the unnormalised weights and divides once; the reference divides each weight first. The two agree where the
largest score is finite. -/

@[expose] public section

noncomputable section

namespace Cert.Attn

open Idealize.ShloMosaic

/-- A finite extended real. -/
abbrev Finite (x : EReal) : Prop := x ≠ ⊤ ∧ x ≠ ⊥

/-- Softmax attention, each weight divided before it is used, over two families of keys. -/
def attRef2 {ι κ : Type} [Fintype ι] [Fintype κ] (s v : ι → EReal) (s' v' : κ → EReal) : EReal :=
  ∑ i, v i * Ideal.div (Ideal.exp (s i - max (smax s) (smax s')))
      (∑ i, Ideal.exp (s i - max (smax s) (smax s')) + ∑ k, Ideal.exp (s' k - max (smax s) (smax s')))
    + ∑ k, v' k * Ideal.div (Ideal.exp (s' k - max (smax s) (smax s')))
      (∑ i, Ideal.exp (s i - max (smax s) (smax s')) + ∑ k, Ideal.exp (s' k - max (smax s) (smax s')))

/-- The same over one family. -/
def attRef {ι : Type} [Fintype ι] (s v : ι → EReal) : EReal :=
  ∑ i, v i * Ideal.div (Ideal.exp (s i - smax s)) (∑ i, Ideal.exp (s i - smax s))

theorem exp_nonneg (x : EReal) : 0 ≤ Ideal.exp x := by
  induction x with
  | bot => simp
  | coe x => simp [Ideal.exp_coe]; positivity
  | top => simp

theorem sum_exp_nonneg {ι : Type} [Fintype ι] (s : ι → EReal) (M : EReal) : 0 ≤ ∑ i, Ideal.exp (s i - M) :=
  Finset.sum_nonneg fun _ _ => exp_nonneg _

theorem exp_ne_zero_of_finite {x : EReal} (h : Finite x) : Ideal.exp (x - x) ≠ 0 := by
  lift x to ℝ using h
  rw [← EReal.coe_sub, sub_self, Ideal.exp_coe, Real.exp_zero]
  exact one_ne_zero

/-- A constant with the sum. -/
theorem sum_mul_const {ι : Type} [Fintype ι] (f : ι → EReal) {c : EReal} (h0 : 0 ≤ c) (hT : c ≠ ⊤) :
    (∑ i, f i) * c = ∑ i, f i * c := by
  classical
  induction (Finset.univ : Finset ι) using Finset.induction_on with
  | empty => simp
  | insert a S ha ih => rw [Finset.sum_insert ha, Finset.sum_insert ha, EReal.right_distrib_of_nonneg_of_ne_top h0 hT, ih]

theorem inv_ne_top (D : EReal) (h : 0 ≤ D) : D⁻¹ ≠ ⊤ := by
  induction D with
  | bot => simp
  | coe x => rw [← EReal.coe_inv]; exact EReal.coe_ne_top _
  | top => simp

theorem sum_div {ι : Type} [Fintype ι] (w v : ι → EReal) {D : EReal} (h0 : 0 ≤ D) (hD : D ≠ 0) :
    ∑ i, v i * Ideal.div (w i) D = (∑ i, w i * v i) * D⁻¹ := by
  rw [sum_mul_const _ (EReal.inv_nonneg_of_nonneg h0) (inv_ne_top D h0)]
  refine Finset.sum_congr rfl fun i _ => ?_
  unfold Ideal.div
  rw [if_neg hD, mul_comm (v i), mul_assoc, mul_assoc, mul_comm (D⁻¹)]

theorem smax_ge {ι : Type} [Fintype ι] (s : ι → EReal) (i : ι) : s i ≤ smax s := by
  rw [smax_eq_sup]; exact Finset.le_sup (Finset.mem_univ i)

theorem smax_attained {ι : Type} [Fintype ι] (s : ι → EReal) (h : smax s ≠ ⊥) : ∃ i, s i = smax s := by
  have hn : (Finset.univ : Finset ι).Nonempty := by
    rw [Finset.nonempty_iff_ne_empty]; intro he; apply h; rw [smax_eq_sup, he, Finset.sup_empty]
  obtain ⟨i, -, hi⟩ := Finset.exists_mem_eq_sup _ hn s
  exact ⟨i, by rw [smax_eq_sup, hi]⟩

theorem attRef_eq {ι : Type} [Fintype ι] (s v : ι → EReal) (h : Finite (smax s)) : attRef s v = att s v := by
  have h0 := sum_exp_nonneg s (smax s)
  have hD : ∑ i, Ideal.exp (s i - smax s) ≠ 0 := by
    obtain ⟨i, hi⟩ := smax_attained s h.2
    intro e
    have := (Finset.sum_eq_zero_iff_of_nonneg (fun i _ => exp_nonneg _)).1 e i (Finset.mem_univ i)
    rw [hi] at this
    exact exp_ne_zero_of_finite h this
  unfold attRef att
  rw [sum_div _ _ h0 hD, Ideal.div, if_neg hD]

theorem attRef2_eq {ι κ : Type} [Fintype ι] [Fintype κ] (s v : ι → EReal) (s' v' : κ → EReal) (h : Finite (max (smax s) (smax s'))) :
    attRef2 s v s' v' = att2 s v s' v' := by
  unfold attRef2 att2
  have hM : (∃ i, s i = max (smax s) (smax s')) ∨ ∃ k, s' k = max (smax s) (smax s') := by
    rcases le_total (smax s) (smax s') with hl | hl
    · right; rw [max_eq_right hl] at h ⊢; exact smax_attained s' h.2
    · left; rw [max_eq_left hl] at h ⊢; exact smax_attained s h.2
  generalize max (smax s) (smax s') = M at h hM ⊢
  have h1 := sum_exp_nonneg s M
  have h2 := sum_exp_nonneg s' M
  have h0 : 0 ≤ ∑ i, Ideal.exp (s i - M) + ∑ k, Ideal.exp (s' k - M) := add_nonneg h1 h2
  have hD : ∑ i, Ideal.exp (s i - M) + ∑ k, Ideal.exp (s' k - M) ≠ 0 := by
    intro e
    obtain ⟨e1, e2⟩ := (add_eq_zero_iff_of_nonneg h1 h2).1 e
    rcases hM with ⟨i, hi⟩ | ⟨k, hk⟩
    · have := (Finset.sum_eq_zero_iff_of_nonneg (fun i _ => exp_nonneg _)).1 e1 i (Finset.mem_univ i)
      rw [hi] at this
      exact exp_ne_zero_of_finite h this
    · have := (Finset.sum_eq_zero_iff_of_nonneg (fun i _ => exp_nonneg _)).1 e2 k (Finset.mem_univ k)
      rw [hk] at this
      exact exp_ne_zero_of_finite h this
  rw [sum_div _ _ h0 hD, sum_div _ _ h0 hD, Ideal.div, if_neg hD,
    EReal.right_distrib_of_nonneg_of_ne_top (EReal.inv_nonneg_of_nonneg h0) (inv_ne_top _ h0)]

/-- Keys that score `-∞` do not count: attention over the image of an injection is attention over the whole. -/
theorem att2_reindex {α ι κ : Type} [Fintype α] [Fintype ι] [Fintype κ] (e : α → ι) (he : Function.Injective e) (s v : ι → EReal)
    (s' v' : κ → EReal) (h : ∀ i, i ∉ Set.range e → s i = ⊥) :
    att2 (fun a => s (e a)) (fun a => v (e a)) s' v' = att2 s v s' v' := by
  have hm : smax (fun a => s (e a)) = smax s := by
    rw [smax_eq_sup, smax_eq_sup]
    refine le_antisymm (Finset.sup_le fun a _ => Finset.le_sup (f := s) (Finset.mem_univ (e a))) (Finset.sup_le fun i _ => ?_)
    by_cases hi : i ∈ Set.range e
    · obtain ⟨a, rfl⟩ := hi
      exact Finset.le_sup (f := fun a => s (e a)) (Finset.mem_univ a)
    · rw [h i hi]; exact bot_le
  unfold att2
  rw [hm]
  have h1 : ∀ M : EReal, ∑ a, Ideal.exp (s (e a) - M) = ∑ i, Ideal.exp (s i - M) := fun M =>
    Fintype.sum_of_injective e he _ _ (fun i hi => by rw [h i hi, EReal.bot_sub]; simp) fun _ => rfl
  have h2 : ∀ M : EReal, ∑ a, Ideal.exp (s (e a) - M) * v (e a) = ∑ i, Ideal.exp (s i - M) * v i := fun M =>
    Fintype.sum_of_injective e he _ _ (fun i hi => by rw [h i hi, EReal.bot_sub]; simp) fun _ => rfl
  rw [h1, h2]

/-- The scale taken out of a score. -/
theorem score_scale {n : ℕ} (q k : Fin n → EReal) : (∑ e, q e * k e) * scale = ∑ e, q e * scale * k e := by
  rw [sum_mul_const _ scale_nonneg scale_ne_top]
  exact Finset.sum_congr rfl fun e _ => by rw [mul_assoc, mul_comm (k e), ← mul_assoc]

theorem finite_add {x y : EReal} (hx : Finite x) (hy : Finite y) : Finite (x + y) := by
  lift x to ℝ using hx
  lift y to ℝ using hy
  rw [← EReal.coe_add]
  exact ⟨EReal.coe_ne_top _, EReal.coe_ne_bot _⟩

theorem finite_mul {x y : EReal} (hx : Finite x) (hy : Finite y) : Finite (x * y) := by
  lift x to ℝ using hx
  lift y to ℝ using hy
  rw [← EReal.coe_mul]
  exact ⟨EReal.coe_ne_top _, EReal.coe_ne_bot _⟩

theorem finite_sum {ι : Type} [Fintype ι] (f : ι → EReal) (h : ∀ i, Finite (f i)) : Finite (∑ i, f i) := by
  classical
  induction (Finset.univ : Finset ι) using Finset.induction_on with
  | empty => simp [Finite]
  | insert a S ha ih => rw [Finset.sum_insert ha]; exact finite_add (h a) ih

/-- A score of finite queries and keys is finite. -/
theorem score_finite {n : ℕ} (q k : Fin n → EReal) (hq : ∀ e, Finite (q e)) (hk : ∀ e, Finite (k e)) :
    Finite (∑ e, q e * scale * k e) :=
  finite_sum _ fun e => finite_mul (finite_mul (hq e) ⟨scale_ne_top, scale_ne_bot⟩) (hk e)

theorem smax_ne_top {ι : Type} [Fintype ι] (s : ι → EReal) (h : ∀ i, s i ≠ ⊤) : smax s ≠ ⊤ := by
  intro e
  by_cases hb : smax s = ⊥
  · rw [hb] at e; exact bot_ne_top e
  · obtain ⟨i, hi⟩ := smax_attained s hb
    exact h i (hi.trans e)

theorem smax_ne_bot {ι : Type} [Fintype ι] (s : ι → EReal) (i : ι) (h : s i ≠ ⊥) : smax s ≠ ⊥ := by
  intro e
  have := smax_ge s i
  rw [e, le_bot_iff] at this
  exact h this

end Cert.Attn
-- ==== Proof.AttnRefValue.lean ====
module

public import proofs.«01_k».proof.Proof.AttnRef
public import proofs.«01_k».proof.Proof.AttnSoftmax

/-! # The reference's attention, element by element: the gathers, the scores and the result -/

@[expose] public section

set_option maxRecDepth 100000

noncomputable section

namespace Cert.ReferenceIdeal.Attn

open Idealize.ShloMosaic Idealize.ShloMosaic.TcCoe Idealize.ShloMosaic.Tactic
open Cert.ReferenceIdeal Cert.ReferenceIdeal.Gen Cert.ReferenceIdeal.Read Cert.Attn

variable (z : S8192x4096.Idx → EReal)

/-- Of an index word below an axis's extent, the start the gather reads is the word. -/
theorem start_word {n e : Nat} (he : e < n) (hn : n < 2 ^ 31) (x : BitVec 32) (hx : x = BitVec.ofNat 32 e) :
    min x.toInt.toNat (n - 1) = e := by
  subst hx
  have : (BitVec.ofNat 32 e).toInt = e := by
    rw [BitVec.toInt_eq_toNat_of_lt] <;> simp <;> omega
  rw [this]; simp; omega

/-- The gather of grid rows and columns at an element: the two index words name the row and the column. -/
theorem gather_grid (x : S4x16x64x8x64.Idx → EReal) (idx : IVec S16x4x8x32x2 32) (b : Fin 4) (r : Fin 16) (j : Fin 4) (k : Fin 8)
    (s : Fin 32) (h : Fin 8) (d : Fin 64) (e0 : Fin 16) (e1 : Fin 64)
    (h0 : idx (ix5 r j k s 0) = BitVec.ofNat 32 e0) (h1 : idx (ix5 r j k s 1) = BitVec.ofNat 32 e1) :
    Host.gather gather_S4x16x64x8x64_S16x4x8x32x2_S4x16x4x8x32x8x64_056_12_n_n_12_4_411864 x idx (ix7 b r j k s h d)
      = x (ix5 b e0 e1 h d) := by
  unfold Host.gather
  refine congrArg x (funext fun a => Fin.ext ?_)
  match a with
  | 0 => show 0 + 0 + b.val = b.val; omega
  | 1 =>
    refine Eq.trans ?_ (start_word e0.isLt (by decide) _ h0)
    show min (idx _).toInt.toNat (16 - 1) + 0 + 0 = min _ _
    refine congrArg (fun i => min (idx i).toInt.toNat 15) (funext fun a => Fin.ext ?_)
    match a with
    | 0 => rfl
    | 1 => rfl
    | 2 => rfl
    | 3 => rfl
    | 4 => rfl
  | 2 =>
    refine Eq.trans ?_ (start_word e1.isLt (by decide) _ h1)
    show min (idx _).toInt.toNat (64 - 1) + 0 + 0 = min _ _
    refine congrArg (fun i => min (idx i).toInt.toNat 63) (funext fun a => Fin.ext ?_)
    match a with
    | 0 => rfl
    | 1 => rfl
    | 2 => rfl
    | 3 => rfl
    | 4 => rfl
  | 3 => show 0 + 0 + h.val = h.val; omega
  | 4 => show 0 + 0 + d.val = d.val; omega

/-- The gather of the bias table at an element. -/
theorem gather_bias (x : S8x15x31.Idx → EReal) (idx : IVec S16x4x16x8x32x2 32) (h : Fin 8) (r : Fin 16) (j : Fin 4) (q : Fin 16)
    (k : Fin 8) (s : Fin 32) (e0 : Fin 15) (e1 : Fin 31)
    (h0 : idx (ix6 r j q k s 0) = BitVec.ofNat 32 e0) (h1 : idx (ix6 r j q k s 1) = BitVec.ofNat 32 e1) :
    Host.gather gather_S8x15x31_S16x4x16x8x32x2_S8x16x4x16x8x32_0_12_n_n_12_5_811 x idx (ix6 h r j q k s) = x (ix3 h e0 e1) := by
  unfold Host.gather
  refine congrArg x (funext fun a => Fin.ext ?_)
  match a with
  | 0 => show 0 + 0 + h.val = h.val; omega
  | 1 =>
    refine Eq.trans ?_ (start_word e0.isLt (by decide) _ h0)
    show min (idx _).toInt.toNat (15 - 1) + 0 + 0 = min _ _
    refine congrArg (fun i => min (idx i).toInt.toNat 14) (funext fun a => Fin.ext ?_)
    match a with
    | 0 => rfl
    | 1 => rfl
    | 2 => rfl
    | 3 => rfl
    | 4 => rfl
    | 5 => rfl
  | 2 =>
    refine Eq.trans ?_ (start_word e1.isLt (by decide) _ h1)
    show min (idx _).toInt.toNat (31 - 1) + 0 + 0 = min _ _
    refine congrArg (fun i => min (idx i).toInt.toNat 30) (funext fun a => Fin.ext ?_)
    match a with
    | 0 => rfl
    | 1 => rfl
    | 2 => rfl
    | 3 => rfl
    | 4 => rfl
    | 5 => rfl

theorem span0_le (j : Fin 4) : span0 j ≤ 32 := by unfold span0; omega

theorem v77_at (r : Fin 16) (j : Fin 4) (k : Fin 8) (s : Fin 32) :
    val_main_v77 (F := Ideal) (ix5 r j k s 0) = BitVec.ofNat 32 (row0 r + k)
      ∧ val_main_v77 (F := Ideal) (ix5 r j k s 1) = BitVec.ofNat 32 (span0 j + s) := by
  unfold val_main_v77 val_main_v76 val_main_v75
  constructor <;> pointwise [v73_at, v74_at]

theorem v94_at (r : Fin 16) (j : Fin 4) (k : Fin 8) (s : Fin 32) :
    val_main_v94 (F := Ideal) (ix5 r j k s 0) = BitVec.ofNat 32 (row0 r + k)
      ∧ val_main_v94 (F := Ideal) (ix5 r j k s 1) = BitVec.ofNat 32 (span0 j + s) := by
  unfold val_main_v94 val_main_v93 val_main_v92
  constructor <;> pointwise [v90_at, v91_at]

theorem v144_at (r : Fin 16) (j : Fin 4) (q : Fin 16) (k : Fin 8) (s : Fin 32) :
    val_main_v144 (F := Ideal) (ix6 r j q k s 0) = BitVec.ofNat 32 (row0 r + k + 7 - r)
      ∧ val_main_v144 (F := Ideal) (ix6 r j q k s 1) = BitVec.ofNat 32 (min 30 (span0 j + s + 15 - (16 * j + q))) := by
  unfold val_main_v144 val_main_v143 val_main_v142
  constructor <;> pointwise [v140_at, v141_at]

/-- Key `y` of the 8×32 span that query block `j` gathers, as a key of the 8 whole grid rows. -/
def spanKey (j : Fin 4) (y : Fin 256) : Fin 512 := ⟨64 * (y / 32) + (span0 j + y % 32), by have := span0_le j; omega⟩

/-- The gathered keys. -/
theorem v78_at (b : Fin 4) (r : Fin 16) (j : Fin 4) (y : Fin 256) (h : Fin 8) (d : Fin 64) :
    val_main_v78 (F := Ideal) z (ix7 b r j ⟨y / 32, by omega⟩ ⟨y % 32, by omega⟩ h d) = zk z (keyRow b r (spanKey j y)) h d := by
  have hs := span0_le j
  have hr := row0_le r
  unfold val_main_v78
  rw [gather_grid _ _ b r j _ _ h d ⟨row0 r + y / 32, by omega⟩ ⟨span0 j + y % 32, by omega⟩ (v77_at ..).1 (v77_at ..).2]
  unfold val_main_v62 val_main_v26 val_main_v25 val_main_v1
  pointwise
  unfold zk keyRow spanKey
  congr 2 <;> apply Fin.ext <;> simp only [] <;> omega

/-- The gathered values. -/
theorem v95_at (b : Fin 4) (r : Fin 16) (j : Fin 4) (y : Fin 256) (h : Fin 8) (d : Fin 64) :
    val_main_v95 (F := Ideal) z (ix7 b r j ⟨y / 32, by omega⟩ ⟨y % 32, by omega⟩ h d) = zv z (keyRow b r (spanKey j y)) h d := by
  have hs := span0_le j
  have hr := row0_le r
  unfold val_main_v95
  rw [gather_grid _ _ b r j _ _ h d ⟨row0 r + y / 32, by omega⟩ ⟨span0 j + y % 32, by omega⟩ (v94_at ..).1 (v94_at ..).2]
  unfold val_main_v79 val_main_v28 val_main_v27 val_main_v1
  pointwise
  unfold zv keyRow spanKey
  congr 2 <;> apply Fin.ext <;> simp only [] <;> omega

/-- The gathered bias. -/
theorem v145_at (rp : S8x15x31.Idx → EReal) (h : Fin 8) (r : Fin 16) (j : Fin 4) (q : Fin 16) (y : Fin 256) :
    val_main_v145 (F := Ideal) rp (ix6 h r j q ⟨y / 32, by omega⟩ ⟨y % 32, by omega⟩)
      = biasAt rp h r ⟨16 * j + q, by omega⟩ (spanKey j y) := by
  have hs := span0_le j
  have hr := row0_le r
  have hk : (spanKey j y).val / 64 = y / 32 := by unfold spanKey; simp only []; omega
  have hc : (spanKey j y).val % 64 = span0 j + y % 32 := by unfold spanKey; simp only []; omega
  unfold val_main_v145 biasAt
  refine (gather_bias rp _ h r j q _ _ ⟨row0 r + y / 32 + 7 - r, bias_row_lt r ⟨y / 32, by omega⟩⟩
    ⟨min 30 (span0 j + y % 32 + 15 - (16 * j + q)), by omega⟩ (v144_at ..).1 (v144_at ..).2).trans ?_
  congr 2 <;> apply Fin.ext <;> simp only [hk, hc]

/-- A neighbourhood score over the gathered keys. -/
def locRef (rp : S8x15x31.Idx → EReal) (b : Fin 4) (h : Fin 8) (r : Fin 16) (j : Fin 4) (q : Fin 16) (y : Fin 256) : EReal :=
  if inWin (16 * j + q) (span0 j + y % 32) then
    (∑ e : Fin 64, zq z (gridRow b r ⟨16 * j + q, by omega⟩) h e * zk z (keyRow b r (spanKey j y)) h e) * scale
      + biasAt rp h r ⟨16 * j + q, by omega⟩ (spanKey j y)
  else ⊥

/-- A score over the cached keys. -/
def ctxRef (kc : S4x2x512x8x64.Idx → EReal) (b : Fin 4) (h : Fin 8) (r : Fin 16) (j : Fin 4) (q : Fin 16) (k : Fin 512) : EReal :=
  (∑ e : Fin 64, zq z (gridRow b r ⟨16 * j + q, by omega⟩) h e * kc (ix5 b 0 k h e)) * scale

theorem zq_at (b : Fin 4) (r : Fin 16) (j : Fin 4) (q : Fin 16) (h : Fin 8) (e : Fin 64)
    (h0 : 4096 + (b.val * 1024 + r.val * 64 + j.val * 16 + q.val) < 8192) (h1 : 2560 + (h.val * 64 + e.val) < 4096) :
    z (ix2 ⟨4096 + (b.val * 1024 + r.val * 64 + j.val * 16 + q.val), h0⟩ ⟨2560 + (h.val * 64 + e.val), h1⟩)
      = zq z (gridRow b r ⟨16 * j + q, by omega⟩) h e := by
  unfold zq gridRow
  congr 2 <;> apply Fin.ext <;> simp only [] <;> omega

/-- The scores over both families of keys, joined. -/
theorem v155_at (kc : S4x2x512x8x64.Idx → EReal) (rp : S8x15x31.Idx → EReal) (b : Fin 4) (h : Fin 8) (r : Fin 16) (j : Fin 4) (q : Fin 16)
    (k : Fin 768) : val_main_v155 (F := Ideal) z kc rp (ix6 b h r j q k)
      = if hk : k.val < 256 then locRef z rp b h r j q ⟨k, hk⟩ else ctxRef z kc b h r j q ⟨k - 256, by omega⟩ := by
  unfold val_main_v155 val_main_v154 val_main_v153 val_main_cst_32 val_main_v152 val_main_v151 val_main_v150 val_main_call4_v2
    val_main_call4_v1 val_main_call4_v0 val_main_cst_31 val_main_v149 val_main_v148 val_main_v147 val_main_v146 val_main_v99 val_main_v98
    val_main_cst_19 val_main_v97 val_main_v96 val_main_v30 val_main_v29 val_main_v24 val_main_v23 val_main_v1
  pointwise [v111_at]
  refine dite_congr rfl (fun hk => ?_) (fun hk => ?_)
  · unfold locRef
    rw [v145_at rp h r j q ⟨k, hk⟩]
    by_cases hw : inWin (16 * j + q) (span0 j + k % 32)
    · rw [if_pos hw, if_pos hw]
      refine Eq.trans (if_pos rfl) ?_
      refine congrArg (· * scale + _) (Finset.sum_congr rfl fun e _ => ?_)
      exact congrArg₂ (· * ·) (zq_at z b r j q h e _ _) (v78_at z b r j ⟨k, hk⟩ h e)
    · rw [if_neg hw, if_neg hw]
      exact Eq.trans (if_neg (by decide)) ofBits_neg_inf
  · unfold ctxRef
    refine congrArg (· * scale) (Finset.sum_congr rfl fun e _ => ?_)
    exact congrArg (· * kc (ix5 b 0 _ h e)) (zq_at z b r j q h e _ _)

/-- All scores of a query of the grid, the gathered keys first. -/
def scoreRef (kc : S4x2x512x8x64.Idx → EReal) (rp : S8x15x31.Idx → EReal) (b : Fin 4) (h : Fin 8) (r : Fin 16) (j : Fin 4) (q : Fin 16)
    (k : Fin 768) : EReal :=
  if hk : k.val < 256 then locRef z rp b h r j q ⟨k, hk⟩ else ctxRef z kc b h r j q ⟨k - 256, by omega⟩

/-- The score indices over the query `(b, h, r, j, q)`. -/
theorem scores_of (b : Fin 4) (h : Fin 8) (r : Fin 16) (j : Fin 4) (q : Fin 16) (i : S4x8x16x4x16x768.Idx) :
    reducesTo_S4x8x16x4x16x768_S4x8x16x4x16_d5.drop i = ix5 b h r j q ↔ ∃ k : Fin 768, ix6 b h r j q k = i := by
  constructor
  · intro e
    refine ⟨i 5, funext fun a => Fin.ext ?_⟩
    match a with
    | 0 => exact (congrArg Fin.val (congrFun e 0)).symm
    | 1 => exact (congrArg Fin.val (congrFun e 1)).symm
    | 2 => exact (congrArg Fin.val (congrFun e 2)).symm
    | 3 => exact (congrArg Fin.val (congrFun e 3)).symm
    | 4 => exact (congrArg Fin.val (congrFun e 4)).symm
    | 5 => rfl
  · rintro ⟨k, rfl⟩
    refine funext fun a => Fin.ext ?_
    match a with
    | 0 => rfl
    | 1 => rfl
    | 2 => rfl
    | 3 => rfl
    | 4 => rfl

theorem max_scores (b : Fin 4) (h : Fin 8) (r : Fin 16) (j : Fin 4) (q : Fin 16) (a : EReal) (v : S4x8x16x4x16x768.Idx → EReal) :
    (Finset.univ.filter fun i => reducesTo_S4x8x16x4x16x768_S4x8x16x4x16_d5.drop i = ix5 b h r j q).fold max a v
      = (Finset.univ : Finset (Fin 768)).fold max a fun k => v (ix6 b h r j q k) :=
  Finset.fold_filter_eq_fold_of_fiber max _ (fun k : Fin 768 => ix6 b h r j q k) (fun _ _ e => congrFun e 5) (scores_of b h r j q) a v

theorem sum_scores (b : Fin 4) (h : Fin 8) (r : Fin 16) (j : Fin 4) (q : Fin 16) (a : EReal) (v : S4x8x16x4x16x768.Idx → EReal) :
    Ideal.hostReduceAdd reducesTo_S4x8x16x4x16x768_S4x8x16x4x16_d5 v a (ix5 b h r j q) = a + ∑ k : Fin 768, v (ix6 b h r j q k) :=
  congrArg (a + ·) (Finset.sum_filter_eq_sum_of_fiber _ (fun k : Fin 768 => ix6 b h r j q k) (fun _ _ e => congrFun e 5)
    (scores_of b h r j q) v)

/-- The unnormalised weights. -/
theorem v160_at (kc : S4x2x512x8x64.Idx → EReal) (rp : S8x15x31.Idx → EReal) (b : Fin 4) (h : Fin 8) (r : Fin 16) (j : Fin 4) (q : Fin 16)
    (k : Fin 768) : val_main_v160 (F := Ideal) z kc rp (ix6 b h r j q k)
      = Ideal.exp (scoreRef z kc rp b h r j q k - smax (scoreRef z kc rp b h r j q)) := by
  have hs : scoreRef z kc rp b h r j q = fun k => val_main_v155 (F := Ideal) z kc rp (ix6 b h r j q k) :=
    funext fun k => (v155_at ..).symm
  rw [hs]
  unfold val_main_v160 val_main_v159 val_main_v158 val_main_v157 val_main_v156 val_main_cst_33
  pointwise [max_scores]
  rfl

/-- The weights. -/
theorem v164_at (kc : S4x2x512x8x64.Idx → EReal) (rp : S8x15x31.Idx → EReal) (b : Fin 4) (h : Fin 8) (r : Fin 16) (j : Fin 4) (q : Fin 16)
    (k : Fin 768) : val_main_v164 (F := Ideal) z kc rp (ix6 b h r j q k)
      = Ideal.div (Ideal.exp (scoreRef z kc rp b h r j q k - smax (scoreRef z kc rp b h r j q)))
          (∑ k, Ideal.exp (scoreRef z kc rp b h r j q k - smax (scoreRef z kc rp b h r j q))) := by
  unfold val_main_v164 val_main_v163 val_main_v162 val_main_v161 val_main_cst_34
  pointwise [sum_scores, v160_at]

/-- The largest of 768 is the larger of the largest of the first 256 and of the others. -/
theorem smax_768 (s : Fin 256 → EReal) (s' : Fin 512 → EReal) :
    smax (fun k : Fin 768 => if hk : k.val < 256 then s ⟨k, hk⟩ else s' ⟨k - 256, by omega⟩) = max (smax s) (smax s') := by
  apply le_antisymm
  · rw [smax_eq_sup (fun k : Fin 768 => _)]
    refine Finset.sup_le fun k _ => ?_
    split
    · exact le_max_of_le_left (smax_ge s _)
    · exact le_max_of_le_right (smax_ge s' _)
  · refine max_le ?_ ?_
    · rw [smax_eq_sup s]
      refine Finset.sup_le fun k _ => ?_
      have := smax_ge (fun k : Fin 768 => if hk : k.val < 256 then s ⟨k, hk⟩ else s' ⟨k - 256, by omega⟩) ⟨k, by omega⟩
      simpa only [dif_pos k.isLt] using this
    · rw [smax_eq_sup s']
      refine Finset.sup_le fun k _ => ?_
      have := smax_ge (fun k : Fin 768 => if hk : k.val < 256 then s ⟨k, hk⟩ else s' ⟨k - 256, by omega⟩) ⟨256 + k, by omega⟩
      have hk : ¬ (256 + k.val < 256) := by omega
      simpa only [dif_neg hk, Nat.add_sub_cancel_left] using this

/-- A sum of 768 terms, the first 256 and the others. -/
theorem sum_768 (s : Fin 256 → EReal) (s' : Fin 512 → EReal) (f : EReal → EReal) :
    ∑ k : Fin 768, f (if hk : k.val < 256 then s ⟨k, hk⟩ else s' ⟨k - 256, by omega⟩) = ∑ k, f (s k) + ∑ k, f (s' k) := by
  refine (Fin.sum_univ_add (a := 256) (b := 512) _).trans ?_
  refine congrArg₂ (· + ·) (Finset.sum_congr rfl fun k _ => ?_) (Finset.sum_congr rfl fun k _ => ?_)
  · rw [dif_pos (show (Fin.castAdd 512 k).val < 256 from k.isLt)]; rfl
  · rw [dif_neg (show ¬ (Fin.natAdd 256 k).val < 256 by simp)]
    exact congrArg (fun k => f (s' k)) (Fin.ext (by simp))

theorem sum_8_32 (f : Fin 8 → Fin 32 → EReal) :
    ∑ x, ∑ y, f x y = ∑ t : Fin 256, f ⟨t / 32, by omega⟩ ⟨t % 32, by omega⟩ := by
  rw [← Fintype.sum_prod_type']
  refine Fintype.sum_equiv finProdFinEquiv _ _ fun ⟨x, y⟩ => ?_
  have hx := x.isLt
  have hy := y.isLt
  refine congrArg₂ f (Fin.ext ?_) (Fin.ext ?_) <;> simp only [finProdFinEquiv_apply_val] <;> omega

theorem v174_sum (kc vc : S4x2x512x8x64.Idx → EReal) (rp : S8x15x31.Idx → EReal) (b : Fin 4) (h : Fin 8) (r : Fin 16) (j : Fin 4)
    (q : Fin 16) (d : Fin 64) :
    (∑ x : Fin 8, ∑ y : Fin 32, val_main_v95 (F := Ideal) z (ix7 b r j x y h d)
        * val_main_v164 (F := Ideal) z kc rp (ix6 b h r j q ⟨x * 32 + y, by omega⟩))
      + ∑ k : Fin 512, vc (ix5 b 0 k h d) * val_main_v164 (F := Ideal) z kc rp (ix6 b h r j q ⟨256 + k, by omega⟩)
    = attRef2 (locRef z rp b h r j q) (fun y => zv z (keyRow b r (spanKey j y)) h d) (ctxRef z kc b h r j q)
        (fun k => vc (ix5 b 0 k h d)) := by
  have hs : scoreRef z kc rp b h r j q
      = fun k : Fin 768 => if hk : k.val < 256 then locRef z rp b h r j q ⟨k, hk⟩ else ctxRef z kc b h r j q ⟨k - 256, by omega⟩ := rfl
  have hm := smax_768 (locRef z rp b h r j q) (ctxRef z kc b h r j q)
  rw [← hs] at hm
  have hd := fun M => sum_768 (locRef z rp b h r j q) (ctxRef z kc b h r j q) fun x => Ideal.exp (x - M)
  unfold attRef2
  simp only [v164_at, hm]
  have hd' := hd (max (smax (locRef z rp b h r j q)) (smax (ctxRef z kc b h r j q)))
  rw [show (∑ k, Ideal.exp (scoreRef z kc rp b h r j q k - max (smax (locRef z rp b h r j q)) (smax (ctxRef z kc b h r j q)))) = _ from hd']
  refine congrArg₂ (· + ·) ((sum_8_32 _).trans (Finset.sum_congr rfl fun y _ => ?_)) (Finset.sum_congr rfl fun k _ => ?_)
  · rw [v95_at]
    have e : (⟨y.val / 32 * 32 + y.val % 32, by omega⟩ : Fin 768) = ⟨y.val, by omega⟩ := Fin.ext (by simp only []; omega)
    rw [e, scoreRef, dif_pos y.isLt]
  · rw [scoreRef, dif_neg (by simp)]
    refine congrArg (fun i => _ * Ideal.div (Ideal.exp (ctxRef z kc b h r j q i - _)) _) (Fin.ext ?_)
    simp

/-- The attention of a grid row. -/
theorem v174_at (kc vc : S4x2x512x8x64.Idx → EReal) (rp : S8x15x31.Idx → EReal) (R : Fin 4096) (C : Fin 512) :
    val_main_v174 (F := Ideal) z kc vc rp (ix2 R C)
      = attRef2 (locRef z rp ⟨R / 1024, by omega⟩ ⟨C / 64, by omega⟩ ⟨R / 64 % 16, by omega⟩ ⟨R / 16 % 4, by omega⟩ ⟨R % 16, by omega⟩)
          (fun y => zv z (keyRow ⟨R / 1024, by omega⟩ ⟨R / 64 % 16, by omega⟩ (spanKey ⟨R / 16 % 4, by omega⟩ y)) ⟨C / 64, by omega⟩
            ⟨C % 64, by omega⟩)
          (ctxRef z kc ⟨R / 1024, by omega⟩ ⟨C / 64, by omega⟩ ⟨R / 64 % 16, by omega⟩ ⟨R / 16 % 4, by omega⟩ ⟨R % 16, by omega⟩)
          (fun k => vc (ix5 ⟨R / 1024, by omega⟩ 0 k ⟨C / 64, by omega⟩ ⟨C % 64, by omega⟩)) := by
  unfold val_main_v174 val_main_v173 val_main_v172 val_main_v171 val_main_v170 val_main_v169 val_main_v168 val_main_v167 val_main_v166
    val_main_v165 val_main_v32 val_main_v31
  pointwise
  exact v174_sum z kc vc rp ⟨R / 1024, by omega⟩ ⟨C / 64, by omega⟩ ⟨R / 64 % 16, by omega⟩ ⟨R / 16 % 4, by omega⟩ ⟨R % 16, by omega⟩
    ⟨C % 64, by omega⟩

/-- The attention of a context row. -/
theorem v22_at (R : Fin 4096) (C : Fin 512) :
    val_main_v22 (F := Ideal) z (ix2 R C)
      = attRef (fun k : Fin 256 => (∑ e : Fin 64, zq z (seqRow ⟨R / 256, by omega⟩ ⟨R % 256, by omega⟩) ⟨C / 64, by omega⟩ e
            * zk z (seqRow ⟨R / 256, by omega⟩ k) ⟨C / 64, by omega⟩ e) * scale)
          (fun k => zv z (seqRow ⟨R / 256, by omega⟩ k) ⟨C / 64, by omega⟩ ⟨C % 64, by omega⟩) := by
  unfold val_main_v22 val_main_v21 val_main_v20 val_main_v19 val_main_v18 val_main_v17 val_main_v16 val_main_v15 val_main_v14 val_main_v13
    val_main_v12 val_main_v11 val_main_cst_1 val_main_cst_0
  pointwise [v10_at, v7_at]
  rfl

end Cert.ReferenceIdeal.Attn
-- ==== Proof.AttnEq.lean ====
module

public import proofs.«01_k».proof.Proof.AttnRefValue

/-! # The reference computes the layer's attention

Where queries, keys, cached keys and biases are finite, the reference's result at row `R`, column `C` is `attnAt`. -/

@[expose] public section

set_option maxRecDepth 100000

noncomputable section

namespace Cert.ReferenceIdeal.Attn

open Idealize.ShloMosaic Idealize.ShloMosaic.TcCoe Idealize.ShloMosaic.Tactic
open Cert.ReferenceIdeal Cert.ReferenceIdeal.Gen Cert.ReferenceIdeal.Read Cert.Attn

variable (z : S8192x4096.Idx → EReal)

/-- The context rows. -/
theorem ctx_eq (b : Fin 16) (r : Fin 256) (h : Fin 8) (d : Fin 64) (hq : ∀ R h e, Finite (zq z R h e)) (hk : ∀ R h e, Finite (zk z R h e)) :
    attRef (fun k : Fin 256 => (∑ e : Fin 64, zq z (seqRow b r) h e * zk z (seqRow b k) h e) * scale) (fun k => zv z (seqRow b k) h d)
      = ctxAt z b r h d := by
  simp only [score_scale]
  have hf : ∀ k : Fin 256, Finite (∑ e : Fin 64, zq z (seqRow b r) h e * scale * zk z (seqRow b k) h e) := fun k =>
    score_finite _ _ (fun e => hq _ _ e) (fun e => hk _ _ e)
  exact attRef_eq _ _ ⟨smax_ne_top _ fun k => (hf k).1, smax_ne_bot _ (0 : Fin 256) (hf 0).2⟩

theorem spanKey_injective (j : Fin 4) : Function.Injective (spanKey j) := by
  intro a b e
  have h := congrArg Fin.val e
  have := span0_le j
  unfold spanKey at h
  simp only [] at h
  exact Fin.ext (by omega)

/-- A key outside the gathered span lies outside the window. -/
theorem not_inWin (j : Fin 4) (q : Fin 16) (k : Fin 512) (h : k ∉ Set.range (spanKey j)) : ¬ inWin (16 * j + q) (k % 64) := by
  intro hw
  apply h
  unfold inWin win at hw
  have hs : span0 j ≤ k.val % 64 ∧ k.val % 64 < span0 j + 32 := by
    unfold span0
    omega
  refine ⟨⟨32 * (k / 64) + (k % 64 - span0 j), by omega⟩, Fin.ext ?_⟩
  unfold spanKey
  simp only []
  omega

/-- The grid rows. -/
theorem nbr_eq (kc vc : S4x2x512x8x64.Idx → EReal) (rp : S8x15x31.Idx → EReal) (b : Fin 4) (h : Fin 8) (r : Fin 16) (j : Fin 4) (q : Fin 16)
    (d : Fin 64) (hq : ∀ R h e, Finite (zq z R h e)) (hk : ∀ R h e, Finite (zk z R h e)) (hc : ∀ b k h e, Finite (kc (ix5 b 0 k h e)))
    (hr : ∀ i, Finite (rp i)) :
    attRef2 (locRef z rp b h r j q) (fun y => zv z (keyRow b r (spanKey j y)) h d) (ctxRef z kc b h r j q) (fun k => vc (ix5 b 0 k h d))
      = nbrAt z kc vc rp b r ⟨16 * j + q, by omega⟩ h d := by
  have hctx : ctxRef z kc b h r j q = fun k => ∑ e : Fin 64, zq z (gridRow b r ⟨16 * j + q, by omega⟩) h e * scale * kc (ix5 b 0 k h e) :=
    funext fun k => score_scale _ _
  have hloc : locRef z rp b h r j q = fun y => (fun k : Fin 512 => if inWin (16 * j + q) (k % 64)
      then (∑ e : Fin 64, zq z (gridRow b r ⟨16 * j + q, by omega⟩) h e * scale * zk z (keyRow b r k) h e)
        + biasAt rp h r ⟨16 * j + q, by omega⟩ k else ⊥) (spanKey j y) := by
    funext y
    have hs := span0_le j
    have hm : (spanKey j y).val % 64 = span0 j + y % 32 := by unfold spanKey; simp only []; omega
    unfold locRef
    simp only [hm, score_scale]
  have hf : ∀ k, Finite (ctxRef z kc b h r j q k) := fun k => by
    rw [hctx]
    exact score_finite _ _ (fun e => hq _ _ e) (fun e => hc _ _ _ e)
  have hl : ∀ y, locRef z rp b h r j q y ≠ ⊤ := fun y => by
    rw [hloc]
    simp only []
    split
    · exact (finite_add (score_finite _ _ (fun e => hq _ _ e) (fun e => hk _ _ e)) (hr _)).1
    · exact bot_ne_top
  rw [attRef2_eq]
  · rw [hloc, hctx]
    exact att2_reindex (spanKey j) (spanKey_injective j) (fun k : Fin 512 => if inWin (16 * j + q) (k % 64)
      then (∑ e : Fin 64, zq z (gridRow b r ⟨16 * j + q, by omega⟩) h e * scale * zk z (keyRow b r k) h e)
        + biasAt rp h r ⟨16 * j + q, by omega⟩ k else ⊥) (fun k => zv z (keyRow b r k) h d) _ _
      fun k hk => if_neg (not_inWin j q k hk)
  · constructor
    · rcases max_choice (smax (locRef z rp b h r j q)) (smax (ctxRef z kc b h r j q)) with e | e <;> rw [e]
      · exact smax_ne_top _ hl
      · exact smax_ne_top _ fun k => (hf k).1
    · intro e
      have := le_max_right (smax (locRef z rp b h r j q)) (smax (ctxRef z kc b h r j q))
      rw [e, le_bot_iff] at this
      exact smax_ne_bot _ (0 : Fin 512) (hf 0).2 this

/-- The reference's result. -/
theorem ref_apply (kc vc : S4x2x512x8x64.Idx → EReal) (rp : S8x15x31.Idx → EReal) (R : Fin 8192) (C : Fin 512)
    (hq : ∀ R h e, Finite (zq z R h e)) (hk : ∀ R h e, Finite (zk z R h e)) (hc : ∀ b k h e, Finite (kc (ix5 b 0 k h e)))
    (hr : ∀ i, Finite (rp i)) : val_main_v175 (F := Ideal) z kc vc rp (ix2 R C) = attnAt z kc vc rp R C := by
  unfold val_main_v175 attnAt
  pointwise
  refine dite_congr rfl (fun hR => ?_) (fun hR => ?_)
  · exact (v22_at z ⟨R, hR⟩ C).trans (ctx_eq z ⟨R / 256, by omega⟩ ⟨R % 256, by omega⟩ ⟨C / 64, by omega⟩ ⟨C % 64, by omega⟩ hq hk)
  · refine (v174_at z kc vc rp ⟨R - 4096, by omega⟩ C).trans ((nbr_eq z kc vc rp ⟨(R - 4096) / 1024, by omega⟩ ⟨C / 64, by omega⟩
      ⟨(R - 4096) / 64 % 16, by omega⟩ ⟨(R - 4096) / 16 % 4, by omega⟩ ⟨(R - 4096) % 16, by omega⟩ ⟨C % 64, by omega⟩ hq hk hc hr).trans ?_)
    have e1 : (⟨(R.val - 4096) / 64 % 16, by omega⟩ : Fin 16) = ⟨R / 64 % 16, by omega⟩ := Fin.ext (by simp only []; omega)
    have e2 : (⟨16 * ((R.val - 4096) / 16 % 4) + (R.val - 4096) % 16, by omega⟩ : Fin 64) = ⟨R % 64, by omega⟩ :=
      Fin.ext (by simp only []; omega)
    rw [e1, e2]

end Cert.ReferenceIdeal.Attn
-- ==== Proof.AttnPre.lean ====
module

public import proofs.«01_k».proof.Pre_finite_scores
public import proofs.«01_k».proof.Proof.AttnSpec
public import proofs.«01_k».proof.Proof.AttnSoftmax
public import Idealize.ShloMosaic.Lib.Pointwise

/-! # What the precondition says

`finite_scores` is all ones exactly where queries, keys, cached keys and the bias table are finite; here the direction the
proof uses. -/

@[expose] public section

set_option maxRecDepth 100000

noncomputable section

namespace Cert.Pre_finite_scores

open Idealize.ShloMosaic Idealize.ShloMosaic.TcCoe Idealize.ShloMosaic.Tactic
open Cert.Attn

instance facts : Facts where
  slices_S8192x4096_S8192x1024_0_2560 := by decide
  bcast_S_S8192x1024 := by decide
  reducesTo_S8192x1024_S_d0_1 := by decide
  h_S_ := by decide
  slices_S4x2x512x8x64_S4x1x512x8x64_0_0_0_0_0 := by decide
  shapeCasts_S4x1x512x8x64_S4x512x8x64 := by decide
  bcast_S_S4x512x8x64 := by decide
  reducesTo_S4x512x8x64_S_d0_1_2_3 := by decide
  bcast_S_S8x15x31 := by decide
  reducesTo_S8x15x31_S_d0_1_2 := by decide
  bcast_S_S1 := by decide
  concatenates_S1_S1_S1_S3_d0 := by decide

/-- A conjunction of bits is one only where every bit is. -/
theorem all_of_fold {ι : Type} (S : Finset ι) (f : ι → BitVec 1) (h : S.fold IntOp.andi 1#1 f = 1#1) : ∀ i ∈ S, f i = 1#1 := by
  classical
  induction S using Finset.induction_on with
  | empty => simp
  | insert a S ha ih =>
    rw [Finset.fold_insert ha] at h
    have h2 : ∀ x y : BitVec 1, IntOp.andi x y = 1#1 → x = 1#1 ∧ y = 1#1 := by decide
    obtain ⟨h3, h4⟩ := h2 _ _ h
    intro i hi
    rcases Finset.mem_insert.1 hi with rfl | hi
    · exact h3
    · exact ih h4 i hi

/-- All bits of an array whose conjunction is one. -/
theorem all_of_reduce {s : Shape} {axes : List (Fin s.rank)} (h : s.ReducesTo axes S_) (x : IVec s 1) (hu : 0 < S_.numel)
    (e : Host.reduce IntOp.andi x (constantI S_ 1 1#1) h hu ix0 = 1#1) (i : s.Idx) : x i = 1#1 := by
  rw [Host.reduce_eq_fold] at e
  exact all_of_fold _ _ e i (Finset.mem_filter.2 ⟨Finset.mem_univ _, funext fun a => a.elim0⟩)

/-- An absolute value below infinity. -/
theorem finite_of_lt (x : EReal) (h : Ideal.cmp .olt (max x (-x)) (Ideal.ofBits .f32 0x7F800000#32) = 1#1) : Finite x := by
  have ht : Ideal.ofBits FTy.f32 0x7F800000#32 = ⊤ := by simp [Ideal.ofBits, Ideal.ieee]
  rw [ht] at h
  induction x with
  | bot => simp [Ideal.cmp] at h
  | coe x => exact ⟨EReal.coe_ne_top _, EReal.coe_ne_bot _⟩
  | top => simp [Ideal.cmp] at h

theorem join0 (a b c : IVec S1 1) (h) : concatenate S3 0 [⟨S1, a⟩, ⟨S1, b⟩, ⟨S1, c⟩] h (ix1 0) = a (ix1 0) := by
  pointwise
theorem join1 (a b c : IVec S1 1) (h) : concatenate S3 0 [⟨S1, a⟩, ⟨S1, b⟩, ⟨S1, c⟩] h (ix1 1) = b (ix1 0) := by
  pointwise
theorem join2 (a b c : IVec S1 1) (h) : concatenate S3 0 [⟨S1, a⟩, ⟨S1, b⟩, ⟨S1, c⟩] h (ix1 2) = c (ix1 0) := by
  pointwise

/-- A bit of an array all of whose entries are compared. -/
theorem finite_of_all {s : Shape} {axes : List (Fin s.rank)} (hr : s.ReducesTo axes S_) (hb : S_.BroadcastsInDim s (![] : Fin 0 → Fin s.rank))
    (x : FVec Ideal s .f32)
    (e : Host.reduce IntOp.andi (cmpf .olt (Host.absf x) (broadcastInDim s ![] hb (constant S_ .f32 0x7F800000#32))) (constantI S_ 1 1#1) hr
      Facts.h_S_ ix0 = 1#1) (i : s.Idx) : Finite (x i) :=
  finite_of_lt _ (all_of_reduce hr _ _ e i)

theorem at_first (a : IVec S_ 1) : broadcastInDim S1 ![] Facts.bcast_S_S1 a (ix1 0) = a ix0 := by
  pointwise

/-- Of finite scores: queries, keys, cached keys and biases are finite. -/
theorem finite_of_pre (z : S8192x4096.Idx → EReal) (kc vc : S4x2x512x8x64.Idx → EReal) (rp : S8x15x31.Idx → EReal)
    (h : fn (F := Ideal) z kc vc rp = fun _ => 1#1) :
    (∀ R h e, Finite (zq z R h e)) ∧ (∀ R h e, Finite (zk z R h e)) ∧ (∀ b k h e, Finite (kc (ix5 b 0 k h e))) ∧ ∀ i, Finite (rp i) := by
  have h0 := congrFun h (ix1 0)
  have h1 := congrFun h (ix1 1)
  have h2 := congrFun h (ix1 2)
  unfold fn fn_part1 at h0 h1 h2
  rw [join0, at_first] at h0
  rw [join1, at_first] at h1
  rw [join2, at_first] at h2
  have f0 := finite_of_all _ _ _ h0
  have f1 := finite_of_all _ _ _ h1
  have f2 := finite_of_all _ _ _ h2
  have g0 : ∀ R (k : Fin 1024), Finite (z (ix2 R ⟨2560 + k, by omega⟩)) := fun R k => by
    have e : extractStridedSlice S8192x1024 ![0, 2560] z Facts.slices_S8192x4096_S8192x1024_0_2560 (ix2 R k) = z (ix2 R ⟨2560 + k, by omega⟩) := by
      pointwise
    exact e ▸ f0 (ix2 R k)
  have g1 : ∀ b k h e, Finite (kc (ix5 b 0 k h e)) := fun b k h e => by
    have e' : shapeCast S4x512x8x64 (extractStridedSlice S4x1x512x8x64 ![0, 0, 0, 0, 0] kc
        Facts.slices_S4x2x512x8x64_S4x1x512x8x64_0_0_0_0_0) Facts.shapeCasts_S4x1x512x8x64_S4x512x8x64 (ix4 b k h e) = kc (ix5 b 0 k h e) := by
      pointwise
    exact e' ▸ f1 (ix4 b k h e)
  refine ⟨fun R h e => g0 R ⟨64 * h + e, by omega⟩, fun R h e => ?_, g1, f2⟩
  have := g0 R ⟨512 + (64 * h + e), by omega⟩
  have e' : (⟨2560 + (512 + (64 * h.val + e.val)), by omega⟩ : Fin 4096) = ⟨3072 + (64 * h + e), by omega⟩ := Fin.ext (by simp only []; omega)
  rw [e'] at this
  exact this

end Cert.Pre_finite_scores
-- ==== Proof.AttnClaim.lean ====
module

public import proofs.«01_k».proof.Defs
public import proofs.«01_k».proof.Proof.AttnArray
public import proofs.«01_k».proof.Proof.AttnEq
public import proofs.«01_k».proof.Proof.AttnPre
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Read

/-! # The attention's claims

Frames of the kernel, of its idealization and of the reference; the named mask; and that kernel and reference end with equal
results wherever the scores are finite. -/

@[expose] public section

set_option maxRecDepth 100000

noncomputable section

namespace Cert.Proof.Attn

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts

theorem frame_k : Cert.quiescent_Kernel := fun m ρ _ => Cert.Kernel.Gen.frame m ρ

theorem frame_ki : Cert.quiescent_KernelIdeal := fun m ρ _ => Cert.KernelIdeal.Gen.frame m ρ

theorem frame_ki_pre : Cert.quiescent_KernelIdeal_pre_finite_scores := fun m ρ _ => Cert.KernelIdeal.Gen.frame m ρ

/-- The reference leaves its arguments alone; it has no semaphores. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_finite_scores := fun m ρ _ => frame_ri m ρ trivial

/-- The mask the kernel writes as a large negative number is named as minus infinity. -/
theorem preserves : Cert.preserves_Kernel_KernelIdeal :=
  IdealRules.named_const.statement Cert.KernelIdeal.κ "mask" .f32 0xF149F2CA#32 ⊥ rfl

/-- An array index of two axes is its coordinates. -/
theorem eta2 (i : Cert.ReferenceIdeal.S8192x512.Idx) : ix2 (i 0) (i 1) = i := by
  funext a
  match a with
  | 0 => rfl
  | 1 => rfl

/-- The reference's result is the kernel's. -/
theorem same (m : (ℓ : Loc Cert.KernelIdeal.nD Cert.KernelIdeal.τ Cert.KernelIdeal.sig) → Buf (Elt Ideal) ℓ) (c : Dev Cert.KernelIdeal.nD)
    (hpre : Cert.Pre_KernelIdeal_finite_scores m) :
    Cert.ReferenceIdeal.Read.val_main_v175 (F := Ideal) (m ((c.tc : Thread _ Cert.KernelIdeal.τ).loc Cert.KernelIdeal.main_arg0))
      (m ((c.tc : Thread _ Cert.KernelIdeal.τ).loc Cert.KernelIdeal.main_arg1)) (m ((c.tc : Thread _ Cert.KernelIdeal.τ).loc Cert.KernelIdeal.main_arg2))
      (m ((c.tc : Thread _ Cert.KernelIdeal.τ).loc Cert.KernelIdeal.main_arg3))
    = (Cert.KernelIdeal.Gen.dats m 0 c).arrAt 6 Cert.KernelIdeal.cfg0.N := by
  obtain ⟨hq, hk, hc, hr⟩ := Cert.Pre_finite_scores.finite_of_pre _ _ _ _ (hpre c)
  funext i
  rw [← eta2 i]
  exact (Cert.ReferenceIdeal.Attn.ref_apply _ _ _ _ (i 0) (i 1) hq hk hc hr).trans (Cert.KernelIdeal.Attn.final_apply m c (i 0) (i 1)).symm

/-- Kernel and reference end with equal results. -/
theorem algebraic : Cert.algebraic_KernelIdeal_ReferenceIdeal_pre_finite_scores := by
  intro m g m' g' hpre hagree
  refine ⟨fun c => (Cert.KernelIdeal.Gen.dats m 0 c).arrAt 6 Cert.KernelIdeal.cfg0.N, Cert.KernelIdeal.Value.run_blocks m g, ?_⟩
  refine (θ_run Cert.ReferenceIdeal.defs _ _).mono (fun r h c => ⟨?_, (h c).2⟩) (Cert.ReferenceIdeal.Value.run (F := Ideal) m' g')
  refine ((h c).1.trans (Cert.ReferenceIdeal.Read.val_main_v175_eq (StableHlo.launchContents m' c))).trans ?_
  refine Eq.trans ?_ (same m c hpre)
  obtain ⟨h0, h1, h2, h3⟩ := hagree c
  exact congr (congr (congr (congrArg (Cert.ReferenceIdeal.Read.val_main_v175 (F := Ideal)) h0) h1) h2) h3

end Cert.Proof.Attn
-- ==== Proof.FfnBlock.lean ====
module

public import proofs.«01_k».proof.Proof.Gen.Kernel2Ideal.Frame
public import Idealize.ShloMosaic.Lib.Pipeline.Value
public import Idealize.ShloMosaic.Lib.Pointwise
public import Idealize.ShloMosaic.Lib.VecWindow
public import Idealize.ShloMosaic.PureOps.IdealRules

/-!
# What a grid point of the feed-forward kernel leaves in its output block

The point's 1024 rows are modulated, go through the up-projection and the convolution over rows eleven times 512 columns
at a time, and each chunk's gated part is projected down and added to the accumulator. The block is the layer
normalization of the residual sum.
-/

@[expose] public section

set_option maxRecDepth 100000

noncomputable section

namespace Cert.Kernel2Ideal.Ffn

open Idealize.ShloMosaic Idealize.ShloMosaic.TcCoe Idealize.SL.Sem Idealize.ShloMosaic.Tactic
open Cert.Kernel2Ideal Cert.Kernel2Ideal.Gen

/-- The 256 convolved columns starting at `n`. -/
def conv (i : grid0.Coords) (x0 : Vec Ideal S1024x1024 .f32) (x1 : Vec Ideal S1x1x6144 .f32) (x2 : Vec Ideal S1024x5632 .bf16)
    (x3 : Vec Ideal S3x5632 .f32) (x4 : Vec Ideal S1x5632 .f32) (n : ℕ)
    (hu : ∀ a, (![0, n] : Fin 2 → ℕ) a + S1024x256.size a ≤ S1024x5632.size a)
    (h0 : ∀ a, (![0, n] : Fin 2 → ℕ) a + S1x256.size a ≤ S3x5632.size a)
    (h1 : ∀ a, (![1, n] : Fin 2 → ℕ) a + S1x256.size a ≤ S3x5632.size a)
    (h2 : ∀ a, (![2, n] : Fin 2 → ℕ) a + S1x256.size a ≤ S3x5632.size a)
    (hb : ∀ a, (![0, n] : Fin 2 → ℕ) a + S1x256.size a ≤ S1x5632.size a) : FVec Ideal S1024x256 .f32 :=
  k0_pay11 (k0_pay3 x1 x0) (k0_pay5 i) (k0_pay6 i) (View.ld x2 (Rect.unit (s := S1024x5632) ![0, n] S1024x256.size hu))
    (View.ld x3 (Rect.unit (s := S3x5632) ![0, n] S1x256.size h0)) (View.ld x3 (Rect.unit (s := S3x5632) ![1, n] S1x256.size h1))
    (View.ld x3 (Rect.unit (s := S3x5632) ![2, n] S1x256.size h2)) (View.ld x4 (Rect.unit (s := S1x5632) ![0, n] S1x256.size hb))

/-- The gated columns: the tanh form of the Gaussian error unit of `a`, times `b`. -/
def gate (a b : FVec Ideal S1024x256 .f32) : FVec Ideal S1024x256 .bf16 :=
  truncf .bf16 (mulf (mulf (mulf (broadcast S1024x256 (Scalar.ofBits (F := Ideal) .f32 0x3F000000#32)) a)
    (addf (broadcast S1024x256 (Scalar.ofBits (F := Ideal) .f32 0x3F800000#32))
      (tanh (mulf (broadcast S1024x256 (Scalar.ofBits (F := Ideal) .f32 0x3F4C422A#32))
        (addf a (mulf (broadcast S1024x256 (Scalar.ofBits (F := Ideal) .f32 0x3D372713#32)) (mulf (mulf a a) a))))))) b)
    bitsLt_bf16_f32

/-- The part of the down-projection that 256 gated columns give. -/
def down (u : FVec Ideal S1024x256 .bf16) (wd : Vec Ideal S256x1024 .bf16) : FVec Ideal S1024x1024 .f32 :=
  matmul (φ₂ := .bf16) dot_S1024x256_S256x1024_S1024x1024_1_0_0_1_n_n none u (shapeCast (α := Ideal .bf16) S256x1024 wd shapeCasts_S256x1024_S256x1024)
    (constant S1024x1024 .f32 0x00000000#32)

/-- The same array under its own shape. -/
def same (v : FVec Ideal S1024x1024 .f32) : FVec Ideal S1024x1024 .f32 :=
  shapeCast S1024x1024 v shapeCasts_S1024x1024_S1024x1024

section Run

variable (c : Dev nD) (i : grid0.Coords) (arg1 : Memref sig .tc .vmem S1024x1024 .f32) (harg1 : arg1.IsWhole)
    (arg2 : Memref sig .tc .vmem S1x1x6144 .f32) (harg2 : arg2.IsWhole) (arg3 : Memref sig .tc .vmem S1024x5632 .bf16)
    (harg3 : arg3.IsWhole) (arg4 : Memref sig .tc .vmem S3x5632 .f32) (harg4 : arg4.IsWhole)
    (arg5 : Memref sig .tc .vmem S1x5632 .f32) (harg5 : arg5.IsWhole) (arg6 : Memref sig .tc .vmem S2816x1024 .bf16)
    (harg6 : arg6.IsWhole) (arg7 : Memref sig .tc .vmem S1x1024 .f32) (harg7 : arg7.IsWhole)
    (arg8 : Memref sig .tc .vmem S1x1024 .f32) (harg8 : arg8.IsWhole) (arg9 : Memref sig .tc .vmem S1024x1024 .f32)
    (harg9 : arg9.IsWhole) (arg10 : Memref sig .tc .vmem S1024x1024 .f32) (harg10 : arg10.IsWhole)
    (x0 : Vec Ideal S1024x1024 .f32) (x1 : Vec Ideal S1x1x6144 .f32) (x2 : Vec Ideal S1024x5632 .bf16)
    (x3 : Vec Ideal S3x5632 .f32) (x4 : Vec Ideal S1x5632 .f32) (x5 : Vec Ideal S2816x1024 .bf16)
    (x6 : Vec Ideal S1x1024 .f32) (x7 : Vec Ideal S1x1024 .f32)

/-- A load of the whole accumulator reads what was stored last. -/
theorem read_stored (inb inb' : ∀ a, (![0, 0] : Fin 2 → ℕ) a + (![1024, 1024] : Fin 2 → ℕ) a ≤ S1024x1024.size a)
    (w : (Rect.unit (s := S1024x1024) ![0, 0] ![1024, 1024] inb').shape.Idx → Elt Ideal .f32)
    (L : List (View.Piece (Elt Ideal) S1024x1024 .f32)) :
    arg10.view.readCov (⟨Rect.unit (s := S1024x1024) ![0, 0] ![1024, 1024] inb', w⟩ :: L)
      (Rect.unit (s := S1024x1024) ![0, 0] ![1024, 1024] inb).toLoadRect = w :=
  View.readCov_full arg10.view inb inb' w L

/-- A load of a whole block is the block. -/
theorem ld_rows (x : Vec Ideal S1024x1024 .f32) (inb : ∀ a, (![0, 0] : Fin 2 → ℕ) a + (![1024, 1024] : Fin 2 → ℕ) a ≤ S1024x1024.size a) :
    View.ld x (Rect.unit (s := S1024x1024) ![0, 0] ![1024, 1024] inb) = x :=
  View.ld_unit_zero (by decide) inb x

theorem ld_mod (x : Vec Ideal S1x1x6144 .f32) (inb : ∀ a, (![0, 0, 0] : Fin 3 → ℕ) a + (![1, 1, 6144] : Fin 3 → ℕ) a ≤ S1x1x6144.size a) :
    View.ld x (Rect.unit (s := S1x1x6144) ![0, 0, 0] ![1, 1, 6144] inb) = x :=
  View.ld_unit_zero (by decide) inb x

/-- What chunk `n` adds to the accumulator. -/
def chunk (n : Fin 11) : FVec Ideal S1024x1024 .f32 :=
  down
    (gate
      (conv i x0 x1 x2 x3 x4 (256 * n.val) (by revert n; decide) (by revert n; decide) (by revert n; decide) (by revert n; decide) (by revert n; decide))
      (conv i x0 x1 x2 x3 x4 (2816 + 256 * n.val) (by revert n; decide) (by revert n; decide) (by revert n; decide) (by revert n; decide) (by revert n; decide)))
    (View.ld x5 (Rect.unit (s := S2816x1024) ![256 * n.val, 0] S256x1024.size (by revert n; decide)))

/-- The accumulator after the chunks. -/
def acc : FVec Ideal S1024x1024 .f32 :=
  same (addf (same (addf (same (addf (same (addf (same (addf (same (addf (same (addf (same (addf (same (addf (same (addf (same
    (chunk i x0 x1 x2 x3 x4 x5 0)) (chunk i x0 x1 x2 x3 x4 x5 1))) (chunk i x0 x1 x2 x3 x4 x5 2))) (chunk i x0 x1 x2 x3 x4 x5 3)))
    (chunk i x0 x1 x2 x3 x4 x5 4))) (chunk i x0 x1 x2 x3 x4 x5 5))) (chunk i x0 x1 x2 x3 x4 x5 6))) (chunk i x0 x1 x2 x3 x4 x5 7)))
    (chunk i x0 x1 x2 x3 x4 x5 8))) (chunk i x0 x1 x2 x3 x4 x5 9))) (chunk i x0 x1 x2 x3 x4 x5 10))

set_option maxHeartbeats 400000 in
/-- The accumulator that the last statement reads. -/
theorem read_acc :
    kernelRun0_A.sl.v767 (F := Ideal) c i arg1 harg1 arg2 harg2 arg3 harg3 arg4 harg4 arg5 harg5 arg6 harg6 arg10 x0 x1 x2 x3 x4 x5
      = acc i x0 x1 x2 x3 x4 x5 := by
  sl_unfold_words
  simp only [View.readAt_eq_ld, Memref.IsWhole.read_unread, harg1, harg2, harg3, harg4, harg5, harg6, read_stored, ld_rows, ld_mod]
  rfl

end Run

end Cert.Kernel2Ideal.Ffn
-- ==== Proof.FfnSpec.lean ====
module

public import Idealize.ShloMosaic.PureOps.Ideal.Laws
public import Idealize.ShloMosaic.Lib.ValueIdx
public import Idealize.ShloMosaic.Lib.Pointwise

/-!
# The modulated gated feed-forward block, element by element

Rows `0 … 4095` are 16 prompt sequences of 256 rows, rows `4096 … 8191` are 4 sample sequences of 1024 rows; the
modulation has one row for every 1024 rows. What kernel and reference meet in.
-/

@[expose] public section

noncomputable section

namespace Cert.Ffn

open Idealize.ShloMosaic Idealize.ShloMosaic.Tactic

/-- A real number that a 32-bit word stands for. -/
abbrev word (b : BitVec 32) : EReal := Ideal.ofBits .f32 b

/-- The layer normalization of a row `v` at its element `C`, with gain `g` and offset `b`. -/
def lnAt (v : Fin 1024 → EReal) (g b : EReal) (C : Fin 1024) : EReal :=
  let mu := Ideal.div (∑ k : Fin 1024, v k) (word 0x44800000#32)
  (v C - mu) * Ideal.rsqrt (Ideal.div (∑ k : Fin 1024, (v k - mu) * (v k - mu)) (word 0x44800000#32) + word 0x3727C5AC#32) * g + b

/-- The gated value: the tanh form of the Gaussian error unit of `a`, times `b`. -/
def gateAt (a b : EReal) : EReal :=
  word 0x3F000000#32 * a * (1 + Ideal.tanh (word 0x3F4C422A#32 * (a + word 0x3D372713#32 * (a * a * a)))) * b

variable (X : (⟨2, ![8192, 1024]⟩ : Shape).Idx → EReal) (M : (⟨3, ![8, 1, 6144]⟩ : Shape).Idx → EReal)
  (WU : (⟨2, ![1024, 5632]⟩ : Shape).Idx → EReal) (CW : (⟨2, ![3, 5632]⟩ : Shape).Idx → EReal)
  (CB : (⟨1, ![5632]⟩ : Shape).Idx → EReal) (WD : (⟨2, ![2816, 1024]⟩ : Shape).Idx → EReal)
  (LG LB : (⟨1, ![1024]⟩ : Shape).Idx → EReal)

/-- The length of the sequence that row `R` lies in. -/
def len (R : ℕ) : ℕ := if R < 4096 then 256 else 1024

/-- The row above and the row below; where there is none the value is not used. -/
def above (R : Fin 8192) : Fin 8192 := ⟨R.val - 1, by omega⟩
def below (R : Fin 8192) : Fin 8192 := ⟨min (R.val + 1) 8191, by omega⟩

/-- Entry `d` of the modulated row `R`. -/
def hidAt (R : Fin 8192) (d : Fin 1024) : EReal :=
  X (ix2 R d) * (1 + M (ix3 ⟨R.val / 1024, by omega⟩ 0 ⟨4096 + d.val, by omega⟩)) + M (ix3 ⟨R.val / 1024, by omega⟩ 0 ⟨3072 + d.val, by omega⟩)

/-- Column `q` of the up-projection of row `R`. -/
def upAt (R : Fin 8192) (q : Fin 5632) : EReal := ∑ d : Fin 1024, hidAt X M R d * WU (ix2 d q)

/-- The convolution over three rows of a sequence, rows outside it being zero. -/
def convAt (R : Fin 8192) (q : Fin 5632) : EReal :=
  (if R.val % len R = 0 then 0 else upAt X M WU (above R) q * CW (ix2 0 q)) + upAt X M WU R q * CW (ix2 1 q)
    + (if R.val % len R = len R - 1 then 0 else upAt X M WU (below R) q * CW (ix2 2 q)) + CB (ix1 q)

/-- Gated column `k` of row `R`. -/
def gatedAt (R : Fin 8192) (k : Fin 2816) : EReal :=
  gateAt (convAt X M WU CW CB R ⟨k.val, by omega⟩) (convAt X M WU CW CB R ⟨2816 + k.val, by omega⟩)

/-- The residual sum. -/
def resAt (R : Fin 8192) (C : Fin 1024) : EReal :=
  word 0x3FB504F3#32 * X (ix2 R C) + M (ix3 ⟨R.val / 1024, by omega⟩ 0 ⟨5120 + C.val, by omega⟩)
    * ∑ k : Fin 2816, gatedAt X M WU CW CB R k * WD (ix2 k C)

/-- The block's result. -/
def ffnAt (R : Fin 8192) (C : Fin 1024) : EReal :=
  lnAt (fun d => resAt X M WU CW CB WD R d) (LG (ix1 C)) (LB (ix1 C)) C

end Cert.Ffn
-- ==== Proof.FfnPoint.lean ====
module

public import proofs.«01_k».proof.Proof.FfnBlock
public import proofs.«01_k».proof.Proof.FfnSpec

/-!
# A grid point of the feed-forward kernel, element by element

Point `g` holds the rows `1024 g …`. Given what its blocks hold of the arrays, its output block holds those rows of the
block's result.
-/

@[expose] public section

set_option maxRecDepth 100000

noncomputable section

namespace Cert.Kernel2Ideal.Ffn

open Idealize.ShloMosaic Idealize.ShloMosaic.TcCoe Idealize.SL.Sem Idealize.ShloMosaic.Tactic
open Cert.Kernel2Ideal Cert.Kernel2Ideal.Gen Cert.Ffn

/-- Row `r` of point `g`. -/
def rowOf (g : Fin 8) (r : Fin 1024) : Fin 8192 := ⟨1024 * g.val + r.val, by omega⟩

theorem rowOf_mod (g : Fin 8) (r : Fin 1024) :
    (⟨(rowOf g r).val / 1024, by have := (rowOf g r).isLt; omega⟩ : Fin 8) = g :=
  Fin.ext (by show (1024 * g.val + r.val) / 1024 = g.val; omega)

/-- A select on a decided word is an `if`. -/
theorem select_if {w : BitVec 1} {p : Prop} [Decidable p] (h : w = if p then 0#1 else 1#1) (x y : EReal) :
    Scalar.select w x y = if p then y else x := by
  subst h
  by_cases q : p
  · rw [if_pos q, if_pos q]; rfl
  · rw [if_neg q, if_neg q]; rfl

/-- The word for the last row number of the sequences at a point. -/
abbrev lastWord (g : ℕ) : BitVec 32 :=
  Scalar.subi (Scalar.select (Scalar.cmpi .slt (BitVec.ofNat 32 g) 4#32) 256#32 1024#32) 1#32

theorem last_prompt (g : Fin 8) (h : g.val < 4) : lastWord g.val = 255#32 := by
  revert g; decide
theorem last_sample (g : Fin 8) (h : ¬ g.val < 4) : lastWord g.val = 1023#32 := by
  revert g; decide

set_option maxHeartbeats 1000000 in
theorem first_word (g : Fin 8) (r : Fin 1024) :
    IntOp.cmpi .ne (IntOp.andi (BitVec.ofNat 32 r.val) (lastWord g.val)) 0#32
      = if (rowOf g r).val % len (rowOf g r).val = 0 then 0#1 else 1#1 := by
  have hp : ∀ r : Fin 1024, IntOp.cmpi .ne (IntOp.andi (BitVec.ofNat 32 r.val) 255#32) 0#32 = if r.val % 256 = 0 then 0#1 else 1#1 := by
    decide +kernel
  have hs : ∀ r : Fin 1024, IntOp.cmpi .ne (IntOp.andi (BitVec.ofNat 32 r.val) 1023#32) 0#32 = if r.val % 1024 = 0 then 0#1 else 1#1 := by
    decide +kernel
  by_cases h : g.val < 4
  · rw [last_prompt g h, hp, show len (rowOf g r).val = 256 from if_pos (by show 1024 * g.val + r.val < 4096; omega),
      show (rowOf g r).val % 256 = r.val % 256 by show (1024 * g.val + r.val) % 256 = _; omega]
  · rw [last_sample g h, hs, show len (rowOf g r).val = 1024 from if_neg (by show ¬ 1024 * g.val + r.val < 4096; omega),
      show (rowOf g r).val % 1024 = r.val % 1024 by show (1024 * g.val + r.val) % 1024 = _; omega]

set_option maxHeartbeats 1000000 in
theorem last_word (g : Fin 8) (r : Fin 1024) :
    IntOp.cmpi .ne (IntOp.andi (BitVec.ofNat 32 r.val) (lastWord g.val)) (lastWord g.val)
      = if (rowOf g r).val % len (rowOf g r).val = len (rowOf g r).val - 1 then 0#1 else 1#1 := by
  have hp : ∀ r : Fin 1024, IntOp.cmpi .ne (IntOp.andi (BitVec.ofNat 32 r.val) 255#32) 255#32 = if r.val % 256 = 256 - 1 then 0#1 else 1#1 := by
    decide +kernel
  have hs : ∀ r : Fin 1024, IntOp.cmpi .ne (IntOp.andi (BitVec.ofNat 32 r.val) 1023#32) 1023#32 = if r.val % 1024 = 1024 - 1 then 0#1 else 1#1 := by
    decide +kernel
  by_cases h : g.val < 4
  · rw [last_prompt g h, hp, show len (rowOf g r).val = 256 from if_pos (by show 1024 * g.val + r.val < 4096; omega),
      show (rowOf g r).val % 256 = r.val % 256 by show (1024 * g.val + r.val) % 256 = _; omega]
  · rw [last_sample g h, hs, show len (rowOf g r).val = 1024 from if_neg (by show ¬ 1024 * g.val + r.val < 4096; omega),
      show (rowOf g r).val % 1024 = r.val % 1024 by show (1024 * g.val + r.val) % 1024 = _; omega]

/-- A sum over 2816 columns is the sum of its eleven parts of 256, added in order. -/
theorem sum_chunks (f : Fin 2816 → EReal) :
    ∑ k, f k = (((((((((( (∑ x : Fin 256, f ⟨256 * (0 : Fin 11).val + x.val, by have := x.isLt; show 256 * 0 + x.val < 2816; omega⟩)
      + ∑ x : Fin 256, f ⟨256 * (1 : Fin 11).val + x.val, by have := x.isLt; show 256 * 1 + x.val < 2816; omega⟩)
      + ∑ x : Fin 256, f ⟨256 * (2 : Fin 11).val + x.val, by have := x.isLt; show 256 * 2 + x.val < 2816; omega⟩)
      + ∑ x : Fin 256, f ⟨256 * (3 : Fin 11).val + x.val, by have := x.isLt; show 256 * 3 + x.val < 2816; omega⟩)
      + ∑ x : Fin 256, f ⟨256 * (4 : Fin 11).val + x.val, by have := x.isLt; show 256 * 4 + x.val < 2816; omega⟩)
      + ∑ x : Fin 256, f ⟨256 * (5 : Fin 11).val + x.val, by have := x.isLt; show 256 * 5 + x.val < 2816; omega⟩)
      + ∑ x : Fin 256, f ⟨256 * (6 : Fin 11).val + x.val, by have := x.isLt; show 256 * 6 + x.val < 2816; omega⟩)
      + ∑ x : Fin 256, f ⟨256 * (7 : Fin 11).val + x.val, by have := x.isLt; show 256 * 7 + x.val < 2816; omega⟩)
      + ∑ x : Fin 256, f ⟨256 * (8 : Fin 11).val + x.val, by have := x.isLt; show 256 * 8 + x.val < 2816; omega⟩)
      + ∑ x : Fin 256, f ⟨256 * (9 : Fin 11).val + x.val, by have := x.isLt; show 256 * 9 + x.val < 2816; omega⟩)
      + ∑ x : Fin 256, f ⟨256 * (10 : Fin 11).val + x.val, by have := x.isLt; show 256 * 10 + x.val < 2816; omega⟩) := by
  have h : ∑ k, f k = ∑ p : Fin 11, ∑ x : Fin 256, f ⟨256 * p.val + x.val, by omega⟩ := by
    rw [← Fintype.sum_prod_type' (f := fun (p : Fin 11) (x : Fin 256) => f ⟨256 * p.val + x.val, by omega⟩)]
    refine (Fintype.sum_equiv (finProdFinEquiv (m := 11) (n := 256)) _ _ fun p => congrArg f (Fin.ext ?_)).symm
    show 256 * p.1.val + p.2.val = p.2.val + 256 * p.1.val
    omega
  have e : ∀ F : Fin 11 → EReal, ∑ p, F p = F 0 + F 1 + F 2 + F 3 + F 4 + F 5 + F 6 + F 7 + F 8 + F 9 + F 10 := by
    intro F
    simp only [Fin.sum_univ_castSucc, Fin.sum_univ_zero, zero_add]
    rfl
  exact h.trans (e fun p => ∑ x : Fin 256, f ⟨256 * p.val + x.val, by omega⟩)

theorem ld_vec (x : Vec Ideal S1x1024 .f32) (inb : ∀ a, (![0, 0] : Fin 2 → ℕ) a + (![1, 1024] : Fin 2 → ℕ) a ≤ S1x1024.size a) :
    View.ld x (Rect.unit (s := S1x1024) ![0, 0] ![1, 1024] inb) = x :=
  View.ld_unit_zero (by decide) inb x

section Point

variable (X : (⟨2, ![8192, 1024]⟩ : Shape).Idx → EReal) (M : (⟨3, ![8, 1, 6144]⟩ : Shape).Idx → EReal)
  (WU : (⟨2, ![1024, 5632]⟩ : Shape).Idx → EReal) (CW : (⟨2, ![3, 5632]⟩ : Shape).Idx → EReal)
  (CB : (⟨1, ![5632]⟩ : Shape).Idx → EReal) (WD : (⟨2, ![2816, 1024]⟩ : Shape).Idx → EReal)
  (LG LB : (⟨1, ![1024]⟩ : Shape).Idx → EReal)
variable (i : grid0.Coords)
    (x0 : Vec Ideal S1024x1024 .f32) (x1 : Vec Ideal S1x1x6144 .f32) (x2 : Vec Ideal S1024x5632 .bf16)
    (x3 : Vec Ideal S3x5632 .f32) (x4 : Vec Ideal S1x5632 .f32) (x5 : Vec Ideal S2816x1024 .bf16)
    (x6 : Vec Ideal S1x1024 .f32) (x7 : Vec Ideal S1x1024 .f32)
variable (g : Fin 8) (hi : (i 0).val = g.val)
  (h0 : ∀ r d, x0 (ix2 r d) = X (ix2 (rowOf g r) d)) (h1 : ∀ e, x1 (ix3 0 0 e) = M (ix3 g 0 e))
  (h2 : ∀ d q, x2 (ix2 d q) = WU (ix2 d q)) (h3 : ∀ a q, x3 (ix2 a q) = CW (ix2 a q))
  (h4 : ∀ q, x4 (ix2 0 q) = CB (ix1 q)) (h5 : ∀ k C, x5 (ix2 k C) = WD (ix2 k C))
  (h6 : ∀ C, x6 (ix2 0 C) = LG (ix1 C)) (h7 : ∀ C, x7 (ix2 0 C) = LB (ix1 C))

include hi h0 h1 h2 in
/-- The up-projection of a row of the point. -/
theorem up_at (r : Fin 1024) (q : Fin 5632) :
    ∑ x : Fin 1024, (x0 (ix2 r x) * (1 + x1 (ix3 0 0 ⟨4096 + x.val, by omega⟩)) + x1 (ix3 0 0 ⟨3072 + x.val, by omega⟩)) * x2 (ix2 x q)
      = upAt X M WU (rowOf g r) q := by
  unfold upAt hidAt
  rw [rowOf_mod]
  simp only [h0, h1, h2]

include hi h0 h1 h2 h3 h4 in
set_option maxHeartbeats 400000 in
/-- A convolved column of a row of the point. -/
theorem conv_at (n : ℕ) (hu h0' h1' h2' hb) (r : Fin 1024) (k : Fin 256) (q : Fin 5632) (hq : q.val = n + k.val) :
    conv i x0 x1 x2 x3 x4 n hu h0' h1' h2' hb (ix2 r k) = convAt X M WU CW CB (rowOf g r) q := by
  have hq' : ∀ h : n + k.val < 5632, (⟨n + k.val, h⟩ : Fin 5632) = q := fun h => Fin.ext hq.symm
  unfold conv
  unfold_payloads
  pointwise
  unfold convAt
  rw [hi]
  refine congrArg₂ (· + ·) (congrArg₂ (· + ·) (congrArg₂ (· + ·) ?_ ?_) ?_) ?_
  · refine (select_if (first_word g r) _ _).trans ?_
    split
    · rfl
    · next hr =>
      refine congrArg₂ (· * ·) ((up_at X M WU i x0 x1 x2 g hi h0 h1 h2 _ _).trans (congrArg₂ (upAt X M WU) (Fin.ext ?_) (hq' _))) ?_
      · have : r.val ≠ 0 := fun e => hr (by
          show (1024 * g.val + r.val) % len (1024 * g.val + r.val) = 0
          unfold len; split <;> omega)
        show 1024 * g.val + (r.val + 1024 - 1) % 1024 = 1024 * g.val + r.val - 1
        omega
      · rw [hq']; exact h3 0 q
  · refine congrArg₂ (· * ·) ((up_at X M WU i x0 x1 x2 g hi h0 h1 h2 _ _).trans (congrArg (upAt X M WU _) (hq' _))) ?_
    rw [hq']; exact h3 1 q
  · refine (select_if (last_word g r) _ _).trans ?_
    split
    · rfl
    · next hr =>
      refine congrArg₂ (· * ·) ((up_at X M WU i x0 x1 x2 g hi h0 h1 h2 _ _).trans (congrArg₂ (upAt X M WU) (Fin.ext ?_) (hq' _))) ?_
      · have : r.val ≠ 1023 := fun e => hr (by
          show (1024 * g.val + r.val) % len (1024 * g.val + r.val) = len (1024 * g.val + r.val) - 1
          unfold len; split <;> omega)
        show 1024 * g.val + (r.val + 1024 - 1023) % 1024 = min (1024 * g.val + r.val + 1) 8191
        omega
      · rw [hq']; exact h3 2 q
  · rw [hq']; exact h4 q

include hi h0 h1 h2 h3 h4 h5 in
/-- What chunk `n` adds. -/
theorem chunk_at (n : Fin 11) (r : Fin 1024) (C : Fin 1024) :
    chunk i x0 x1 x2 x3 x4 x5 n (ix2 r C)
      = ∑ x : Fin 256, (fun k : Fin 2816 => gatedAt X M WU CW CB (rowOf g r) k * WD (ix2 k C)) ⟨256 * n.val + x.val, by omega⟩ := by
  unfold chunk down gate
  pointwise
  refine Finset.sum_congr rfl fun x _ => ?_
  refine congrArg₂ (· * ·) ?_ (h5 _ _)
  rw [conv_at X M WU CW CB i x0 x1 x2 x3 x4 g hi h0 h1 h2 h3 h4 (256 * n.val) _ _ _ _ _ r x ⟨256 * n.val + x.val, by omega⟩ rfl,
    conv_at X M WU CW CB i x0 x1 x2 x3 x4 g hi h0 h1 h2 h3 h4 (2816 + 256 * n.val) _ _ _ _ _ r x ⟨2816 + (256 * n.val + x.val), by omega⟩
      (by show 2816 + (256 * n.val + x.val) = _; omega)]
  rfl

include hi h0 h1 h2 h3 h4 h5 in
/-- The down-projection. -/
theorem acc_at (r : Fin 1024) (C : Fin 1024) :
    acc i x0 x1 x2 x3 x4 x5 (ix2 r C) = ∑ k : Fin 2816, gatedAt X M WU CW CB (rowOf g r) k * WD (ix2 k C) := by
  unfold acc same
  pointwise
  simp only [chunk_at X M WU CW CB WD i x0 x1 x2 x3 x4 x5 g hi h0 h1 h2 h3 h4 h5]
  exact (sum_chunks (fun k : Fin 2816 => gatedAt X M WU CW CB (rowOf g r) k * WD (ix2 k C))).symm

include hi h0 h1 h2 h3 h4 h5 h6 h7 in
/-- The value the last statement stores. -/
theorem stored_at (r : Fin 1024) (C : Fin 1024) :
    k0_pay69 (k0_pay2 x1) x0 k0_pay68 (acc i x0 x1 x2 x3 x4 x5) x6 x7 (ix2 r C) = ffnAt X M WU CW CB WD LG LB (rowOf g r) C := by
  have hv : ∀ C : Fin 1024, Ideal.ofBits FTy.f32 1068827891#32 * x0 (ix2 r C) + x1 (ix3 0 0 ⟨5120 + C.val, by omega⟩)
      * acc i x0 x1 x2 x3 x4 x5 (ix2 r C) = resAt X M WU CW CB WD (rowOf g r) C := by
    intro C
    unfold resAt
    rw [rowOf_mod, h0, h1, acc_at X M WU CW CB WD i x0 x1 x2 x3 x4 x5 g hi h0 h1 h2 h3 h4 h5]
  unfold_payloads
  pointwise
  unfold ffnAt lnAt
  simp only [hv, h6, h7]

variable (c : Dev nD) (arg1 : Memref sig .tc .vmem S1024x1024 .f32) (harg1 : arg1.IsWhole)
    (arg2 : Memref sig .tc .vmem S1x1x6144 .f32) (harg2 : arg2.IsWhole) (arg3 : Memref sig .tc .vmem S1024x5632 .bf16)
    (harg3 : arg3.IsWhole) (arg4 : Memref sig .tc .vmem S3x5632 .f32) (harg4 : arg4.IsWhole)
    (arg5 : Memref sig .tc .vmem S1x5632 .f32) (harg5 : arg5.IsWhole) (arg6 : Memref sig .tc .vmem S2816x1024 .bf16)
    (harg6 : arg6.IsWhole) (arg7 : Memref sig .tc .vmem S1x1024 .f32) (harg7 : arg7.IsWhole)
    (arg8 : Memref sig .tc .vmem S1x1024 .f32) (harg8 : arg8.IsWhole) (arg9 : Memref sig .tc .vmem S1024x1024 .f32)
    (harg9 : arg9.IsWhole) (arg10 : Memref sig .tc .vmem S1024x1024 .f32) (harg10 : arg10.IsWhole)

/-- The output block is the value the last statement stores. -/
theorem out_eq :
    out0_A_8 c i arg1 harg1 arg2 harg2 arg3 harg3 arg4 harg4 arg5 harg5 arg6 harg6 arg7 harg7 arg8 harg8 arg9 harg9 arg10 harg10
        x0 x1 x2 x3 x4 x5 x6 x7
      = k0_pay69 (k0_pay2 x1) x0 k0_pay68 (acc i x0 x1 x2 x3 x4 x5) x6 x7 := by
  unfold out0_A_8
  rw [View.read_writes_junk_eq_canon]
  unfold kernelRun0_A
  dsimp only
  refine (View.canon_unit_zero (by decide) _ _).trans ?_
  unfold kernelRun0_A.sl.r_55
  rw [read_acc]
  unfold kernelRun0_A.sl.r kernelRun0_A.sl.r_1
  simp only [View.readAt_eq_ld, Memref.IsWhole.read_unread, harg1, harg2, harg7, harg8, ld_rows, ld_mod, ld_vec]

include hi h0 h1 h2 h3 h4 h5 h6 h7 in
/-- The output block at an element. -/
theorem out_at (r : Fin 1024) (C : Fin 1024) :
    out0_A_8 c i arg1 harg1 arg2 harg2 arg3 harg3 arg4 harg4 arg5 harg5 arg6 harg6 arg7 harg7 arg8 harg8 arg9 harg9 arg10 harg10
        x0 x1 x2 x3 x4 x5 x6 x7 (ix2 r C) = ffnAt X M WU CW CB WD LG LB (rowOf g r) C := by
  rw [out_eq]
  exact stored_at X M WU CW CB WD LG LB i x0 x1 x2 x3 x4 x5 x6 x7 g hi h0 h1 h2 h3 h4 h5 h6 h7 r C

end Point

end Cert.Kernel2Ideal.Ffn
-- ==== Proof.FfnArray.lean ====
module

public import proofs.«01_k».proof.Proof.Gen.Kernel2Ideal.Value
public import proofs.«01_k».proof.Proof.FfnPoint
public import Idealize.ShloMosaic.Lib.StableHlo.ReadAt

/-! # The feed-forward kernel's result array

Each of the 8 grid points reads 1024 rows, their modulation and all weights, and writes its 1024 rows of the result; here the
blocks are read at an element and the result array is stated element by element. -/

@[expose] public section

set_option maxRecDepth 100000

noncomputable section

namespace Cert.Kernel2Ideal.Ffn

open Idealize.ShloMosaic Idealize.ShloMosaic.TcCoe Idealize.ShloMosaic.Tactic
open Cert.Kernel2Ideal Cert.Kernel2Ideal.Gen Cert.Ffn
open Idealize.ShloMosaic.Pipeline (Dat Cfg Window)

variable (m : (ℓ : Loc nD τ sig) → Buf (Elt Ideal) ℓ)

theorem index0 (t : Fin cfg0.N) : (cfg0.win 0).index t 0 = t.val ∧ (cfg0.win 0).index t 1 = 0 := by
  revert t; decide +kernel
theorem index1 (t : Fin cfg0.N) : (cfg0.win 1).index t 0 = t.val ∧ (cfg0.win 1).index t 1 = 0 ∧ (cfg0.win 1).index t 2 = 0 := by
  revert t; decide +kernel
theorem index2 (t : Fin cfg0.N) : (cfg0.win 2).index t 0 = 0 ∧ (cfg0.win 2).index t 1 = 0 := by
  revert t; decide +kernel
theorem index3 (t : Fin cfg0.N) : (cfg0.win 3).index t 0 = 0 ∧ (cfg0.win 3).index t 1 = 0 := by
  revert t; decide +kernel
theorem index4 (t : Fin cfg0.N) : (cfg0.win 4).index t 0 = 0 ∧ (cfg0.win 4).index t 1 = 0 := by
  revert t; decide +kernel
theorem index5 (t : Fin cfg0.N) : (cfg0.win 5).index t 0 = 0 ∧ (cfg0.win 5).index t 1 = 0 := by
  revert t; decide +kernel
theorem index6 (t : Fin cfg0.N) : (cfg0.win 6).index t 0 = 0 ∧ (cfg0.win 6).index t 1 = 0 := by
  revert t; decide +kernel
theorem index7 (t : Fin cfg0.N) : (cfg0.win 7).index t 0 = 0 ∧ (cfg0.win 7).index t 1 = 0 := by
  revert t; decide +kernel
theorem index8 (t : Fin cfg0.N) : (cfg0.win 8).index t 0 = t.val ∧ (cfg0.win 8).index t 1 = 0 := by
  revert t; decide +kernel

/-- A point's number. -/
def num (t : Fin cfg0.N) : Fin 8 := ⟨t.val, t.isLt⟩

theorem coord (t : Fin cfg0.N) : ((grid0.coords t) 0).val = (num t).val := by
  revert t; decide +kernel

/-- The rows' block. -/
theorem iblk0_apply (c : Dev nD) (t : Fin cfg0.N) (r d : Fin 1024) :
    iblk m c 0 t (ix2 r d) = (m (c, main_arg0) : S8192x1024.Idx → EReal) (ix2 (rowOf (num t) r) d) := by
  unfold iblk
  rw [View.read_apply, show V m c (Pipeline.arrRef spec0 0) = m (c, main_arg0) from V_main_arg0 m c]
  have h := index0 t
  refine congrArg (m (c, main_arg0) : S8192x1024.Idx → EReal) (funext fun x => Fin.ext ?_)
  refine (Window.rect_emb_val (cfg0.win 0) t (ix2 r d) x).trans ?_
  match x with
  | 0 => rw [h.1]; show t.val * 1024 + r.val = 1024 * t.val + r.val; omega
  | 1 => rw [h.2]; show 0 * 1024 + d.val = d.val; omega

/-- The modulation's block. -/
theorem iblk1_apply (c : Dev nD) (t : Fin cfg0.N) (e : Fin 6144) :
    iblk m c 1 t (ix3 0 0 e) = (m (c, main_arg1) : S8x1x6144.Idx → EReal) (ix3 (num t) 0 e) := by
  unfold iblk
  rw [View.read_apply, show V m c (Pipeline.arrRef spec0 1) = m (c, main_arg1) from V_main_arg1 m c]
  obtain ⟨h0, h1, h2⟩ := index1 t
  refine congrArg (m (c, main_arg1) : S8x1x6144.Idx → EReal) (funext fun x => Fin.ext ?_)
  refine (Window.rect_emb_val (cfg0.win 1) t (ix3 0 0 e) x).trans ?_
  match x with
  | 0 => rw [h0]; show t.val * 1 + 0 = t.val; omega
  | 1 => rw [h1]; rfl
  | 2 => rw [h2]; show 0 * 6144 + e.val = e.val; omega

theorem V_v0_apply (c : Dev nD) (d : Fin 1024) (q : Fin 5632) :
    (V m c main_v0 : S1024x5632.Idx → EReal) (ix2 d q) = (m (c, main_arg2) : S1024x5632.Idx → EReal) (ix2 d q) := by
  unfold V
  after_reads_at
theorem V_v1_apply (c : Dev nD) (q : Fin 5632) :
    (V m c main_v1 : S1x5632.Idx → EReal) (ix2 0 q) = (m (c, main_arg4) : S5632.Idx → EReal) (ix1 q) := by
  unfold V
  after_reads_at
theorem V_v2_apply (c : Dev nD) (k : Fin 2816) (C : Fin 1024) :
    (V m c main_v2 : S2816x1024.Idx → EReal) (ix2 k C) = (m (c, main_arg5) : S2816x1024.Idx → EReal) (ix2 k C) := by
  unfold V
  after_reads_at
theorem V_v3_apply (c : Dev nD) (C : Fin 1024) :
    (V m c main_v3 : S1x1024.Idx → EReal) (ix2 0 C) = (m (c, main_arg6) : S1024.Idx → EReal) (ix1 C) := by
  unfold V
  after_reads_at
theorem V_v4_apply (c : Dev nD) (C : Fin 1024) :
    (V m c main_v4 : S1x1024.Idx → EReal) (ix2 0 C) = (m (c, main_arg7) : S1024.Idx → EReal) (ix1 C) := by
  unfold V
  after_reads_at

/-- The up-projection's weights. -/
theorem iblk2_apply (c : Dev nD) (t : Fin cfg0.N) (d : Fin 1024) (q : Fin 5632) :
    iblk m c 2 t (ix2 d q) = (m (c, main_arg2) : S1024x5632.Idx → EReal) (ix2 d q) := by
  refine Eq.trans ?_ (V_v0_apply m c d q)
  unfold iblk
  rw [View.read_apply]
  have h := index2 t
  refine congrArg (V m c main_v0 : S1024x5632.Idx → EReal) (funext fun x => Fin.ext ?_)
  refine (Window.rect_emb_val (cfg0.win 2) t (ix2 d q) x).trans ?_
  match x with
  | 0 => rw [h.1]; show 0 * 1024 + d.val = d.val; omega
  | 1 => rw [h.2]; show 0 * 5632 + q.val = q.val; omega

/-- The convolution's weights. -/
theorem iblk3_apply (c : Dev nD) (t : Fin cfg0.N) (a : Fin 3) (q : Fin 5632) :
    iblk m c 3 t (ix2 a q) = (m (c, main_arg3) : S3x5632.Idx → EReal) (ix2 a q) := by
  unfold iblk
  rw [View.read_apply, show V m c (Pipeline.arrRef spec0 3) = m (c, main_arg3) from V_main_arg3 m c]
  have h := index3 t
  refine congrArg (m (c, main_arg3) : S3x5632.Idx → EReal) (funext fun x => Fin.ext ?_)
  refine (Window.rect_emb_val (cfg0.win 3) t (ix2 a q) x).trans ?_
  match x with
  | 0 => rw [h.1]; show 0 * 3 + a.val = a.val; omega
  | 1 => rw [h.2]; show 0 * 5632 + q.val = q.val; omega

/-- The convolution's offset. -/
theorem iblk4_apply (c : Dev nD) (t : Fin cfg0.N) (q : Fin 5632) :
    iblk m c 4 t (ix2 0 q) = (m (c, main_arg4) : S5632.Idx → EReal) (ix1 q) := by
  refine Eq.trans ?_ (V_v1_apply m c q)
  unfold iblk
  rw [View.read_apply]
  have h := index4 t
  refine congrArg (V m c main_v1 : S1x5632.Idx → EReal) (funext fun x => Fin.ext ?_)
  refine (Window.rect_emb_val (cfg0.win 4) t (ix2 0 q) x).trans ?_
  match x with
  | 0 => rw [h.1]; rfl
  | 1 => rw [h.2]; show 0 * 5632 + q.val = q.val; omega

/-- The down-projection's weights. -/
theorem iblk5_apply (c : Dev nD) (t : Fin cfg0.N) (k : Fin 2816) (C : Fin 1024) :
    iblk m c 5 t (ix2 k C) = (m (c, main_arg5) : S2816x1024.Idx → EReal) (ix2 k C) := by
  refine Eq.trans ?_ (V_v2_apply m c k C)
  unfold iblk
  rw [View.read_apply]
  have h := index5 t
  refine congrArg (V m c main_v2 : S2816x1024.Idx → EReal) (funext fun x => Fin.ext ?_)
  refine (Window.rect_emb_val (cfg0.win 5) t (ix2 k C) x).trans ?_
  match x with
  | 0 => rw [h.1]; show 0 * 2816 + k.val = k.val; omega
  | 1 => rw [h.2]; show 0 * 1024 + C.val = C.val; omega

/-- The normalization's gain. -/
theorem iblk6_apply (c : Dev nD) (t : Fin cfg0.N) (C : Fin 1024) :
    iblk m c 6 t (ix2 0 C) = (m (c, main_arg6) : S1024.Idx → EReal) (ix1 C) := by
  refine Eq.trans ?_ (V_v3_apply m c C)
  unfold iblk
  rw [View.read_apply]
  have h := index6 t
  refine congrArg (V m c main_v3 : S1x1024.Idx → EReal) (funext fun x => Fin.ext ?_)
  refine (Window.rect_emb_val (cfg0.win 6) t (ix2 0 C) x).trans ?_
  match x with
  | 0 => rw [h.1]; rfl
  | 1 => rw [h.2]; show 0 * 1024 + C.val = C.val; omega

/-- The normalization's offset. -/
theorem iblk7_apply (c : Dev nD) (t : Fin cfg0.N) (C : Fin 1024) :
    iblk m c 7 t (ix2 0 C) = (m (c, main_arg7) : S1024.Idx → EReal) (ix1 C) := by
  refine Eq.trans ?_ (V_v4_apply m c C)
  unfold iblk
  rw [View.read_apply]
  have h := index7 t
  refine congrArg (V m c main_v4 : S1x1024.Idx → EReal) (funext fun x => Fin.ext ?_)
  refine (Window.rect_emb_val (cfg0.win 7) t (ix2 0 C) x).trans ?_
  match x with
  | 0 => rw [h.1]; rfl
  | 1 => rw [h.2]; show 0 * 1024 + C.val = C.val; omega

/-- The result array at row `R`, column `C`. -/
theorem final_apply (c : Dev nD) (R : Fin 8192) (C : Fin 1024) :
    ((dats m 0 c).arrAt 8 cfg0.N : S8192x1024.Idx → EReal) (ix2 R C)
      = ffnAt (m (c, main_arg0) : S8192x1024.Idx → EReal) (m (c, main_arg1) : S8x1x6144.Idx → EReal)
          (m (c, main_arg2) : S1024x5632.Idx → EReal) (m (c, main_arg3) : S3x5632.Idx → EReal)
          (m (c, main_arg4) : S5632.Idx → EReal) (m (c, main_arg5) : S2816x1024.Idx → EReal)
          (m (c, main_arg6) : S1024.Idx → EReal) (m (c, main_arg7) : S1024.Idx → EReal) R C := by
  have hN : R.val / 1024 < cfg0.N := by show _ < 8; omega
  obtain ⟨t, ht⟩ : ∃ t : Fin cfg0.N, t.val = R.val / 1024 := ⟨⟨_, hN⟩, rfl⟩
  have hb := congrFun (Value.blocks8 m c t (flush0_8 t)) (ix2 (⟨R % 1024, by omega⟩ : Fin 1024) C)
  rw [View.read_apply] at hb
  have hidx : (((cfg0.win 8).blk t).view.emb (ix2 (⟨R % 1024, by omega⟩ : Fin 1024) C) : S8192x1024.Idx) = ix2 R C := by
    have h := index8 t
    refine funext fun x => Fin.ext ?_
    refine (Window.rect_emb_val (cfg0.win 8) t _ x).trans ?_
    match x with
    | 0 => rw [h.1]; show _ * 1024 + R.val % 1024 = R.val; omega
    | 1 => rw [h.2]; show 0 * 1024 + C.val = C.val; omega
  rw [hidx] at hb
  refine Eq.trans hb ?_
  rw [Value.flushed8_A m c t]
  refine (out_at _ _ _ _ _ _ _ _ _ _ _ _ _ _ _ _ _ (num t) (coord t) (iblk0_apply m c t) (iblk1_apply m c t) (iblk2_apply m c t)
    (iblk3_apply m c t) (iblk4_apply m c t) (iblk5_apply m c t) (iblk6_apply m c t) (iblk7_apply m c t) ..).trans ?_
  refine congrArg (ffnAt _ _ _ _ _ _ _ _ · C) (Fin.ext ?_)
  show 1024 * t.val + R.val % 1024 = R.val
  omega

end Cert.Kernel2Ideal.Ffn
-- ==== Proof.FfnRef.lean ====
module

public import proofs.«01_k».proof.Proof.Gen.Reference2Ideal.Read
public import proofs.«01_k».proof.Proof.FfnSpec

/-!
# The feed-forward reference, element by element

The reference treats the prompt's 16 sequences and the samples' 4 sequences one after the other. Each stage of either part
is read at an element, from the modulated up-projection to the layer normalization.
-/

@[expose] public section

set_option maxRecDepth 100000

noncomputable section

namespace Cert.Reference2Ideal.Ffn

open Idealize.ShloMosaic Idealize.ShloMosaic.TcCoe Idealize.SL.Sem Idealize.ShloMosaic.Tactic
open Cert.Reference2Ideal Cert.Reference2Ideal.Gen Cert.Reference2Ideal.Read Cert.Ffn

variable (x0 : S8192x1024.Idx → EReal) (x1 : S8x1x6144.Idx → EReal) (x2 : S1024x5632.Idx → EReal) (x3 : S3x5632.Idx → EReal)
  (x4 : S5632.Idx → EReal) (x5 : S2816x1024.Idx → EReal) (x6 x7 : S1024.Idx → EReal)

/-- Row `t` of prompt sequence `b`. -/
def promptRow (b : Fin 16) (t : Fin 256) : Fin 8192 := ⟨b.val * 256 + t.val, by omega⟩
/-- Row `t` of sample sequence `b`. -/
def sampleRow (b : Fin 4) (t : Fin 1024) : Fin 8192 := ⟨4096 + (b.val * 1024 + t.val), by omega⟩

theorem promptMod (b : Fin 16) (t : Fin 256) :
    (⟨(promptRow b t).val / 1024, by have := (promptRow b t).isLt; omega⟩ : Fin 8) = ⟨b.val / 4, by omega⟩ :=
  Fin.ext (by show (b.val * 256 + t.val) / 1024 = b.val / 4; omega)
theorem sampleMod (b : Fin 4) (t : Fin 1024) :
    (⟨(sampleRow b t).val / 1024, by have := (sampleRow b t).isLt; omega⟩ : Fin 8) = ⟨4 + b.val, by omega⟩ :=
  Fin.ext (by show (4096 + (b.val * 1024 + t.val)) / 1024 = 4 + b.val; omega)

theorem zero_of_int : (FloatOps.sitofp (F := Ideal) FTy.f32 0#32 : EReal) = 0 := by
  show ((((0#32 : BitVec 32).toInt : ℝ)) : EReal) = 0
  norm_num

/-- A row of zeros contributes zero. -/
theorem pad_mul {p r : Prop} [Decidable p] [Decidable r] (u : p → EReal) (w z : EReal) (h : p ↔ ¬ r)
    (hu : ∀ q, u q = z) :
    (if q : p then u q else FloatOps.sitofp (F := Ideal) FTy.f32 0#32) * w = if r then 0 else z * w := by
  by_cases q : p
  · rw [dif_pos q, if_neg (h.1 q), hu]
  · rw [dif_neg q, if_pos (not_not.1 fun hr => q (h.2 hr)), zero_of_int, zero_mul]

/-- Where the factor one half stands does not matter. -/
theorem gate_assoc (a b t : EReal) : a * (word 0x3F000000#32 * t) * b = word 0x3F000000#32 * a * t * b := by
  rw [← mul_assoc, mul_comm a]

theorem v22_at (b : Fin 16) (t : Fin 256) (q : Fin 5632) :
    val_main_v22 (F := Ideal) x0 x1 x2 (ix3 b t q) = upAt x0 x1 x2 (promptRow b t) q := by
  unfold val_main_v22 val_main_v21 val_main_v20 val_main_v19 val_main_v18 val_main_v17 val_main_v16 val_main_cst
    val_main_v14 val_main_v13 val_main_v9 val_main_v8 val_main_v7 val_main_v6 val_main_v5 val_main_v2 val_main_v1 val_main_v0
  pointwise
  unfold upAt hidAt
  rw [promptMod]
  rfl

theorem v46_at (b : Fin 16) (t : Fin 256) (q : Fin 5632) :
    val_main_v46 (F := Ideal) x0 x1 x2 x3 x4 (ix3 b t q) = convAt x0 x1 x2 x3 x4 (promptRow b t) q := by
  unfold val_main_v46 val_main_v45 val_main_v44 val_main_v43 val_main_v42 val_main_v41 val_main_v40 val_main_v39
    val_main_v38 val_main_v37 val_main_v36 val_main_v35 val_main_v34 val_main_v33 val_main_v32 val_main_v31 val_main_v30
    val_main_v29 val_main_v28 val_main_v27 val_main_v26 val_main_v25 val_main_v24 val_main_v23 val_main_call0_v0 val_main_c
  pointwise
  have hl : len (promptRow b t).val = 256 := if_pos (by show b.val * 256 + t.val < 4096; omega)
  have hm : (promptRow b t).val % 256 = t.val := by
    show (b.val * 256 + t.val) % 256 = t.val
    omega
  unfold convAt
  rw [hl, hm]
  refine congrArg (· + x4 (ix1 q)) (congrArg₂ (· + ·) (congrArg₂ (· + ·) ?_ ?_) ?_)
  · refine pad_mul _ _ _ (by omega) fun h => (v22_at x0 x1 x2 b _ q).trans (congrArg (upAt x0 x1 x2 · q) (Fin.ext ?_))
    show b.val * 256 + (t.val - 1) = b.val * 256 + t.val - 1
    omega
  · exact congrArg (· * x3 (ix2 1 q)) (v22_at x0 x1 x2 b t q)
  · refine pad_mul _ _ _ (by omega) fun h => (v22_at x0 x1 x2 b _ q).trans (congrArg (upAt x0 x1 x2 · q) (Fin.ext ?_))
    show b.val * 256 + (2 + t.val - 1) = min (b.val * 256 + t.val + 1) 8191
    omega

theorem v62_at (b : Fin 16) (t : Fin 256) (k : Fin 2816) :
    val_main_v62 (F := Ideal) x0 x1 x2 x3 x4 (ix3 b t k) = gatedAt x0 x1 x2 x3 x4 (promptRow b t) k := by
  unfold val_main_v62 val_main_v61 val_main_v60 val_main_v59 val_main_cst_3 val_main_v58 val_main_v57 val_main_cst_2
    val_main_v56 val_main_v55 val_main_v54 val_main_cst_1 val_main_v53 val_main_v52 val_main_v51 val_main_cst_0 val_main_v50
    val_main_v49 val_main_v48 val_main_v47
  pointwise [v46_at]
  exact gate_assoc _ _ _

theorem v68_at (b : Fin 16) (t : Fin 256) (C : Fin 1024) :
    val_main_v68 (F := Ideal) x0 x1 x2 x3 x4 x5 (ix3 b t C) = resAt x0 x1 x2 x3 x4 x5 (promptRow b t) C := by
  unfold val_main_v68 val_main_v67 val_main_v66 val_main_v65 val_main_v64 val_main_cst_4 val_main_v63 val_main_v15
    val_main_v9 val_main_v8 val_main_v7 val_main_v6 val_main_v5 val_main_v2 val_main_v1 val_main_v0
  pointwise [v62_at]
  unfold resAt
  rw [promptMod]
  rfl

theorem v92_at (b : Fin 16) (t : Fin 256) (C : Fin 1024) :
    val_main_v92 (F := Ideal) x0 x1 x2 x3 x4 x5 x6 x7 (ix3 b t C) = ffnAt x0 x1 x2 x3 x4 x5 x6 x7 (promptRow b t) C := by
  unfold val_main_v92 val_main_v91 val_main_v90 val_main_v89 val_main_v88 val_main_v87 val_main_v86 val_main_v85
    val_main_v84 val_main_v83 val_main_v82 val_main_cst_9 val_main_v81 val_main_v80 val_main_v79 val_main_v78 val_main_cst_8
    val_main_v77 val_main_v76 val_main_cst_7 val_main_v75 val_main_v74 val_main_v73 val_main_v72 val_main_v71 val_main_cst_6
    val_main_v70 val_main_v69 val_main_cst_5
  pointwise [v68_at]
  rfl

theorem v107_at (b : Fin 4) (t : Fin 1024) (q : Fin 5632) :
    val_main_v107 (F := Ideal) x0 x1 x2 (ix3 b t q) = upAt x0 x1 x2 (sampleRow b t) q := by
  unfold val_main_v107 val_main_v106 val_main_v105 val_main_v104 val_main_v103 val_main_v102 val_main_v101 val_main_cst_10
    val_main_v99 val_main_v98 val_main_v94 val_main_v93 val_main_v4 val_main_v3 val_main_v0
  pointwise
  unfold upAt hidAt
  rw [sampleMod]
  rfl

theorem v131_at (b : Fin 4) (t : Fin 1024) (q : Fin 5632) :
    val_main_v131 (F := Ideal) x0 x1 x2 x3 x4 (ix3 b t q) = convAt x0 x1 x2 x3 x4 (sampleRow b t) q := by
  unfold val_main_v131 val_main_v130 val_main_v129 val_main_v128 val_main_v127 val_main_v126 val_main_v125 val_main_v124
    val_main_v123 val_main_v122 val_main_v121 val_main_v120 val_main_v119 val_main_v118 val_main_v117 val_main_v116
    val_main_v115 val_main_v114 val_main_v113 val_main_v112 val_main_v111 val_main_v110 val_main_v109 val_main_v108
    val_main_call1_v0 val_main_c_11
  pointwise
  have hl : len (sampleRow b t).val = 1024 := if_neg (by show ¬ 4096 + (b.val * 1024 + t.val) < 4096; omega)
  have hm : (sampleRow b t).val % 1024 = t.val := by
    show (4096 + (b.val * 1024 + t.val)) % 1024 = t.val
    omega
  unfold convAt
  rw [hl, hm]
  refine congrArg (· + x4 (ix1 q)) (congrArg₂ (· + ·) (congrArg₂ (· + ·) ?_ ?_) ?_)
  · refine pad_mul _ _ _ (by omega) fun h => (v107_at x0 x1 x2 b _ q).trans (congrArg (upAt x0 x1 x2 · q) (Fin.ext ?_))
    show 4096 + (b.val * 1024 + (t.val - 1)) = 4096 + (b.val * 1024 + t.val) - 1
    omega
  · exact congrArg (· * x3 (ix2 1 q)) (v107_at x0 x1 x2 b t q)
  · refine pad_mul _ _ _ (by omega) fun h => (v107_at x0 x1 x2 b _ q).trans (congrArg (upAt x0 x1 x2 · q) (Fin.ext ?_))
    show 4096 + (b.val * 1024 + (2 + t.val - 1)) = min (4096 + (b.val * 1024 + t.val) + 1) 8191
    omega

theorem v147_at (b : Fin 4) (t : Fin 1024) (k : Fin 2816) :
    val_main_v147 (F := Ideal) x0 x1 x2 x3 x4 (ix3 b t k) = gatedAt x0 x1 x2 x3 x4 (sampleRow b t) k := by
  unfold val_main_v147 val_main_v146 val_main_v145 val_main_v144 val_main_cst_15 val_main_v143 val_main_v142 val_main_cst_14
    val_main_v141 val_main_v140 val_main_v139 val_main_cst_13 val_main_v138 val_main_v137 val_main_v136 val_main_cst_12
    val_main_v135 val_main_v134 val_main_v133 val_main_v132
  pointwise [v131_at]
  exact gate_assoc _ _ _

theorem v153_at (b : Fin 4) (t : Fin 1024) (C : Fin 1024) :
    val_main_v153 (F := Ideal) x0 x1 x2 x3 x4 x5 (ix3 b t C) = resAt x0 x1 x2 x3 x4 x5 (sampleRow b t) C := by
  unfold val_main_v153 val_main_v152 val_main_v151 val_main_v150 val_main_v149 val_main_cst_16 val_main_v148 val_main_v100
    val_main_v94 val_main_v93 val_main_v4 val_main_v3 val_main_v0
  pointwise [v147_at]
  unfold resAt
  rw [sampleMod]
  rfl

theorem v177_at (b : Fin 4) (t : Fin 1024) (C : Fin 1024) :
    val_main_v177 (F := Ideal) x0 x1 x2 x3 x4 x5 x6 x7 (ix3 b t C) = ffnAt x0 x1 x2 x3 x4 x5 x6 x7 (sampleRow b t) C := by
  unfold val_main_v177 val_main_v176 val_main_v175 val_main_v174 val_main_v173 val_main_v172 val_main_v171 val_main_v170
    val_main_v169 val_main_v168 val_main_v167 val_main_cst_21 val_main_v166 val_main_v165 val_main_v164 val_main_v163
    val_main_cst_20 val_main_v162 val_main_v161 val_main_cst_19 val_main_v160 val_main_v159 val_main_v158 val_main_v157
    val_main_v156 val_main_cst_18 val_main_v155 val_main_v154 val_main_cst_17
  pointwise [v153_at]
  rfl

/-- The reference's result at row `R`, column `C`. -/
theorem ref_at (R : Fin 8192) (C : Fin 1024) :
    val_main_v180 (F := Ideal) x0 x1 x2 x3 x4 x5 x6 x7 (ix2 R C) = ffnAt x0 x1 x2 x3 x4 x5 x6 x7 R C := by
  unfold val_main_v180 val_main_v179 val_main_v178
  pointwise
  split
  · refine (v92_at x0 x1 x2 x3 x4 x5 x6 x7 _ _ C).trans (congrArg (ffnAt x0 x1 x2 x3 x4 x5 x6 x7 · C) (Fin.ext ?_))
    show R.val / 256 * 256 + R.val % 256 = R.val
    omega
  · refine (v177_at x0 x1 x2 x3 x4 x5 x6 x7 _ _ C).trans (congrArg (ffnAt x0 x1 x2 x3 x4 x5 x6 x7 · C) (Fin.ext ?_))
    show 4096 + ((R.val - 4096) / 1024 * 1024 + (R.val - 4096) % 1024) = R.val
    omega

end Cert.Reference2Ideal.Ffn
-- ==== Proof.FfnClaim.lean ====
module

public import proofs.«01_k».proof.Defs
public import proofs.«01_k».proof.Proof.FfnArray
public import proofs.«01_k».proof.Proof.FfnRef
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read

/-! # The feed-forward block's claims

Frames of the kernel, of its idealization and of the reference; and that kernel and reference end with equal results. -/

@[expose] public section

set_option maxRecDepth 100000

noncomputable section

namespace Cert.Proof.Ffn

open Idealize.ShloMosaic Idealize.ShloMosaic.TcCoe Idealize.SL.Sem

instance : Cert.Kernel2.Facts := Cert.Kernel2.Gen.facts
instance : Cert.Kernel2Ideal.Facts := Cert.Kernel2Ideal.Gen.facts
instance : Cert.Reference2Ideal.Facts := Cert.Reference2Ideal.Gen.facts

theorem frame_k : Cert.quiescent_Kernel2 := fun m ρ _ => Cert.Kernel2.Gen.frame m ρ

theorem frame_ki : Cert.quiescent_Kernel2Ideal := fun m ρ _ => Cert.Kernel2Ideal.Gen.frame m ρ

/-- The reference leaves its arguments alone; it has no semaphores. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- An array index of two axes is its coordinates. -/
theorem eta2 (i : Cert.Reference2Ideal.S8192x1024.Idx) : ix2 (i 0) (i 1) = i := by
  funext a
  match a with
  | 0 => rfl
  | 1 => rfl

/-- The reference's result is the kernel's. -/
theorem same (m : (ℓ : Loc Cert.Kernel2Ideal.nD Cert.Kernel2Ideal.τ Cert.Kernel2Ideal.sig) → Buf (Elt Ideal) ℓ)
    (c : Dev Cert.Kernel2Ideal.nD) :
    Cert.Reference2Ideal.Read.val_main_v180 (F := Ideal) (m ((c.tc : Thread _ Cert.Kernel2Ideal.τ).loc Cert.Kernel2Ideal.main_arg0))
      (m ((c.tc : Thread _ Cert.Kernel2Ideal.τ).loc Cert.Kernel2Ideal.main_arg1)) (m ((c.tc : Thread _ Cert.Kernel2Ideal.τ).loc Cert.Kernel2Ideal.main_arg2))
      (m ((c.tc : Thread _ Cert.Kernel2Ideal.τ).loc Cert.Kernel2Ideal.main_arg3)) (m ((c.tc : Thread _ Cert.Kernel2Ideal.τ).loc Cert.Kernel2Ideal.main_arg4))
      (m ((c.tc : Thread _ Cert.Kernel2Ideal.τ).loc Cert.Kernel2Ideal.main_arg5)) (m ((c.tc : Thread _ Cert.Kernel2Ideal.τ).loc Cert.Kernel2Ideal.main_arg6))
      (m ((c.tc : Thread _ Cert.Kernel2Ideal.τ).loc Cert.Kernel2Ideal.main_arg7))
    = (Cert.Kernel2Ideal.Gen.dats m 0 c).arrAt 8 Cert.Kernel2Ideal.cfg0.N := by
  funext i
  rw [← eta2 i]
  exact (Cert.Reference2Ideal.Ffn.ref_at _ _ _ _ _ _ _ _ (i 0) (i 1)).trans (Cert.Kernel2Ideal.Ffn.final_apply m c (i 0) (i 1)).symm

/-- Kernel and reference end with equal results. -/
theorem algebraic : Cert.algebraic_Kernel2Ideal_Reference2Ideal := by
  intro m g m' g' _ hagree
  refine ⟨fun c => (Cert.Kernel2Ideal.Gen.dats m 0 c).arrAt 8 Cert.Kernel2Ideal.cfg0.N, Cert.Kernel2Ideal.Value.run_blocks m g, ?_⟩
  refine (θ_run Cert.Reference2Ideal.defs _ _).mono (fun r h c => ⟨?_, (h c).2⟩) (Cert.Reference2Ideal.Value.run (F := Ideal) m' g')
  refine ((h c).1.trans (Cert.Reference2Ideal.Read.val_main_v180_eq (StableHlo.launchContents m' c))).trans ?_
  refine Eq.trans ?_ (same m c)
  obtain ⟨h0, h1, h2, h3, h4, h5, h6, h7⟩ := hagree c
  exact congr (congr (congr (congr (congr (congr (congr (congrArg (Cert.Reference2Ideal.Read.val_main_v180 (F := Ideal)) h0) h1) h2)
    h3) h4) h5) h6) h7

end Cert.Proof.Ffn
-- ==== Proof.MergeSpec.lean ====
module

public import proofs.«01_k».proof.Proof.FfnSpec

/-!
# The gated merge of the three branches, element by element

Retention, state space and attention each give 512 columns. The state-space branch gets its skip term, the Gaussian error
unit and a gate of its own; every branch is projected, gated by the modulated row and added; the sum is projected, added to
the row and normalized. What kernel and reference meet in.
-/

@[expose] public section

noncomputable section

namespace Cert.Merge

open Idealize.ShloMosaic Idealize.ShloMosaic.Tactic Cert.Ffn

/-- The logistic function. -/
def sigmAt (a : EReal) : EReal := Ideal.div 1 (1 + Ideal.exp (-a))

/-- The tanh form of the Gaussian error unit. -/
def geluAt (a : EReal) : EReal :=
  word 0x3F000000#32 * a * (1 + Ideal.tanh (word 0x3F4C422A#32 * (a + word 0x3D372713#32 * (a * a * a))))

variable (X : (⟨2, ![8192, 1024]⟩ : Shape).Idx → EReal) (M : (⟨3, ![8, 1, 6144]⟩ : Shape).Idx → EReal)
  (RO Y : (⟨2, ![8192, 512]⟩ : Shape).Idx → EReal) (Z : (⟨2, ![8192, 4096]⟩ : Shape).Idx → EReal)
  (NO : (⟨2, ![8192, 512]⟩ : Shape).Idx → EReal) (WI : (⟨2, ![1024, 7168]⟩ : Shape).Idx → EReal)
  (WG : (⟨2, ![512, 512]⟩ : Shape).Idx → EReal) (D : (⟨1, ![512]⟩ : Shape).Idx → EReal)
  (WB : (⟨3, ![3, 512, 1024]⟩ : Shape).Idx → EReal) (WO : (⟨2, ![1024, 1024]⟩ : Shape).Idx → EReal)
  (LG LB : (⟨1, ![1024]⟩ : Shape).Idx → EReal)

/-- Entry `d` of the modulated row `R`. -/
def hidAt (R : Fin 8192) (d : Fin 1024) : EReal :=
  X (ix2 R d) * (1 + M (ix3 ⟨R.val / 1024, by omega⟩ 0 ⟨1024 + d.val, by omega⟩)) + M (ix3 ⟨R.val / 1024, by omega⟩ 0 ⟨d.val, by omega⟩)

/-- Column `j` of the state-space branch with its skip term, after the error unit. -/
def ssmAt (R : Fin 8192) (j : Fin 512) : EReal := geluAt (D (ix1 j) * Z (ix2 R ⟨2048 + j.val, by omega⟩) + Y (ix2 R j))

/-- Column `j` of the state-space branch behind its own gate. -/
def sideAt (R : Fin 8192) (j : Fin 512) : EReal :=
  ssmAt Y Z D R j * sigmAt (∑ e : Fin 512, ssmAt Y Z D R e * WG (ix2 e j))

/-- Gate column `q` of row `R`. -/
def gateAt (R : Fin 8192) (q : Fin 3072) : EReal := sigmAt (∑ d : Fin 1024, hidAt X M R d * WI (ix2 d ⟨4096 + q.val, by omega⟩))

/-- Column `C` of the gated sum of the projected branches. -/
def mergedAt (R : Fin 8192) (C : Fin 1024) : EReal :=
  gateAt X M WI R ⟨C.val, by omega⟩ * (∑ j : Fin 512, RO (ix2 R j) * WB (ix3 0 j C))
    + gateAt X M WI R ⟨1024 + C.val, by omega⟩ * (∑ j : Fin 512, sideAt Y Z WG D R j * WB (ix3 1 j C))
    + gateAt X M WI R ⟨2048 + C.val, by omega⟩ * (∑ j : Fin 512, NO (ix2 R j) * WB (ix3 2 j C))

/-- The residual sum. -/
def resAt (R : Fin 8192) (C : Fin 1024) : EReal :=
  word 0x3FB504F3#32 * X (ix2 R C) + M (ix3 ⟨R.val / 1024, by omega⟩ 0 ⟨2048 + C.val, by omega⟩)
    * ∑ k : Fin 1024, mergedAt X M RO Y Z NO WI WG D WB R k * WO (ix2 k C)

/-- The merge's result. -/
def mergeAt (R : Fin 8192) (C : Fin 1024) : EReal :=
  lnAt (fun d => resAt X M RO Y Z NO WI WG D WB WO R d) (LG (ix1 C)) (LB (ix1 C)) C

end Cert.Merge
-- ==== Proof.MergePoint.lean ====
module

public import proofs.«01_k».proof.Proof.Gen.Kernel3Ideal.Frame
public import Idealize.ShloMosaic.Lib.Pipeline.Value
public import Idealize.ShloMosaic.Lib.VecWindow
public import Idealize.ShloMosaic.PureOps.IdealRules
public import proofs.«01_k».proof.Proof.MergeSpec

/-!
# A grid point of the merge kernel, element by element

Point `g` holds the rows `512 g …`. Given what its blocks hold of the arrays, its output block holds those rows of the
merge's result.
-/

@[expose] public section

set_option maxRecDepth 100000

noncomputable section

namespace Cert.Kernel3Ideal.Merge

open Idealize.ShloMosaic Idealize.ShloMosaic.TcCoe Idealize.SL.Sem Idealize.ShloMosaic.Tactic
open Cert.Kernel3Ideal Cert.Kernel3Ideal.Gen Cert.Merge
open Cert.Ffn (word lnAt)

/-- Row `r` of point `g`. -/
def rowOf (g : Fin 16) (r : Fin 512) : Fin 8192 := ⟨512 * g.val + r.val, by omega⟩

/-- The modulation row of point `g`. -/
def modOf (g : Fin 16) : Fin 8 := ⟨g.val / 2, by omega⟩
/-- The column of the state-space input `j`, and that of gate `q`. -/
def sideCol (j : Fin 512) : Fin 4096 := ⟨2048 + j.val, by omega⟩
def gateCol (q : Fin 3072) : Fin 7168 := ⟨4096 + q.val, by omega⟩

theorem rowOf_mod (g : Fin 16) (r : Fin 512) :
    (⟨(rowOf g r).val / 1024, by have := (rowOf g r).isLt; omega⟩ : Fin 8) = modOf g :=
  Fin.ext (by show (512 * g.val + r.val) / 1024 = g.val / 2; omega)

/-- The kernel writes the logistic function with a difference from zero. -/
theorem sigm_sub (a : EReal) : Ideal.div 1 (1 + Ideal.exp (0 - a)) = sigmAt a := by
  rw [zero_sub]; rfl

section
variable (x0 : Vec Ideal S512x1024 .f32) (x1 : Vec Ideal S1x1x6144 .f32) (x2 x3 x4 x5 : Vec Ideal S512x512 .f32)
  (x6 : Vec Ideal S1024x3072 .bf16) (x7 : Vec Ideal S512x512 .bf16) (x8 : Vec Ideal S1x512 .f32)
  (x9 : Vec Ideal S3x512x1024 .bf16) (x10 : Vec Ideal S1024x1024 .bf16) (x11 x12 : Vec Ideal S1x1024 .f32)
  (X : S8192x1024.Idx → EReal) (M : S8x1x6144.Idx → EReal) (RO Y : S8192x512.Idx → EReal) (Z : S8192x4096.Idx → EReal)
  (NO : S8192x512.Idx → EReal) (WI : S1024x7168.Idx → EReal) (WG : S512x512.Idx → EReal) (D : S512.Idx → EReal)
  (WB : S3x512x1024.Idx → EReal) (WO : S1024x1024.Idx → EReal) (LG LB : S1024.Idx → EReal) (g : Fin 16)
  (h0 : ∀ (r : Fin 512) (d : Fin 1024), x0 (ix2 r d) = X (ix2 (rowOf g r) d))
  (h1 : ∀ e : Fin 6144, x1 (ix3 0 0 e) = M (ix3 (modOf g) 0 e))
  (h2 : ∀ (r j : Fin 512), x2 (ix2 r j) = RO (ix2 (rowOf g r) j))
  (h3 : ∀ (r j : Fin 512), x3 (ix2 r j) = Y (ix2 (rowOf g r) j))
  (h4 : ∀ (r j : Fin 512), x4 (ix2 r j) = Z (ix2 (rowOf g r) (sideCol j)))
  (h5 : ∀ (r j : Fin 512), x5 (ix2 r j) = NO (ix2 (rowOf g r) j))
  (h6 : ∀ (d : Fin 1024) (q : Fin 3072), x6 (ix2 d q) = WI (ix2 d (gateCol q)))
  (h7 : ∀ (e j : Fin 512), x7 (ix2 e j) = WG (ix2 e j))
  (h8 : ∀ j : Fin 512, x8 (ix2 0 j) = D (ix1 j))
  (h9 : ∀ (a : Fin 3) (j : Fin 512) (C : Fin 1024), x9 (ix3 a j C) = WB (ix3 a j C))
  (h10 : ∀ k C : Fin 1024, x10 (ix2 k C) = WO (ix2 k C))
  (h11 : ∀ C : Fin 1024, x11 (ix2 0 C) = LG (ix1 C))
  (h12 : ∀ C : Fin 1024, x12 (ix2 0 C) = LB (ix1 C))

/-- The modulated rows. -/
abbrev hidB : FVec Ideal S512x1024 .bf16 := k0_pay13 x0 x1 x2 x3 x4 x5 x6 x7 x8 x9 x10 x11 x12
/-- The state-space branch. -/
abbrev sideB : FVec Ideal S512x512 .bf16 :=
  k0_pay9 (k0_pay5 (View.ld x8 r0_2) (View.ld x4 r0_3) (View.ld x3 r0_3))
    (k0_pay6 (View.ld x8 r0_2) (View.ld x4 r0_3) (View.ld x3 r0_3) (View.ld x7 r0_3))
/-- The residual rows less their mean. -/
abbrev centredB : FVec Ideal S512x1024 .f32 :=
  k0_pay12 (k0_pay3 (View.ld x1 r0_0)) (View.ld x0 r0_1) (hidB x0 x1 x2 x3 x4 x5 x6 x7 x8 x9 x10 x11 x12) (View.ld x5 r0_3)
    (k0_pay7 (hidB x0 x1 x2 x3 x4 x5 x6 x7 x8 x9 x10 x11 x12) (View.ld x2 r0_3) (View.ld x6 r0_4) (View.ld x9 r0_5))
    (k0_pay8 (hidB x0 x1 x2 x3 x4 x5 x6 x7 x8 x9 x10 x11 x12) (View.ld x6 r0_6)) (sideB x3 x4 x7 x8)
    (View.ld x9 r0_7) (View.ld x6 r0_8) (View.ld x9 r0_9) (View.ld x10 r0_10)

include h0 h1 in
theorem hid_at (r : Fin 512) (d : Fin 1024) :
    hidB x0 x1 x2 x3 x4 x5 x6 x7 x8 x9 x10 x11 x12 (ix2 r d) = hidAt X M (rowOf g r) d := by
  unfold hidB k0_pay13
  unfold_payloads
  pointwise
  unfold hidAt
  rw [h0, h1, h1, rowOf_mod]

include h3 h4 h7 h8 in
theorem side_at (r j : Fin 512) : sideB x3 x4 x7 x8 (ix2 r j) = sideAt Y Z WG D (rowOf g r) j := by
  have hs : ∀ e : Fin 512, geluAt (x8 (ix2 0 e) * x4 (ix2 r e) + x3 (ix2 r e)) = ssmAt Y Z D (rowOf g r) e := fun e => by
    rw [h3, h4, h8]; rfl
  unfold sideB
  unfold_payloads
  pointwise
  refine congrArg₂ (· * ·) (hs j) ((sigm_sub _).trans (congrArg sigmAt (Finset.sum_congr rfl fun e _ => ?_)))
  exact congrArg₂ (· * ·) (hs e) (h7 e j)

/-- The gate of one branch as the kernel writes it. -/
theorem gate_at (v : FVec Ideal S512x1024 .bf16) (r : Fin 512) (q : Fin 3072)
    (hv : ∀ d, v (ix2 r d) = hidAt X M (rowOf g r) d)
    (h6 : ∀ (d : Fin 1024) (q : Fin 3072), x6 (ix2 d q) = WI (ix2 d (gateCol q))) :
    Ideal.div 1 (1 + Ideal.exp (0 - ∑ d : Fin 1024, v (ix2 r d) * x6 (ix2 d q))) = gateAt X M WI (rowOf g r) q := by
  refine (sigm_sub _).trans (congrArg sigmAt (Finset.sum_congr rfl fun d _ => ?_))
  rw [hv, h6]
  rfl

include h0 h1 h2 h3 h4 h5 h6 h7 h8 h9 h10 in
theorem centred_at (r : Fin 512) (C : Fin 1024) :
    centredB x0 x1 x2 x3 x4 x5 x6 x7 x8 x9 x10 x11 x12 (ix2 r C)
      = resAt X M RO Y Z NO WI WG D WB WO (rowOf g r) C
        - Ideal.div (∑ k : Fin 1024, resAt X M RO Y Z NO WI WG D WB WO (rowOf g r) k) (word 0x44800000#32) := by
  have hv := hid_at x0 x1 x2 x3 x4 x5 x6 x7 x8 x9 x10 x11 x12 X M g h0 h1 r
  have hs := side_at x3 x4 x7 x8 Y Z WG D g h3 h4 h7 h8 r
  have hg := fun q => gate_at x6 X M WI g _ r q hv h6
  unfold centredB
  generalize hidB x0 x1 x2 x3 x4 x5 x6 x7 x8 x9 x10 x11 x12 = v at hv hg ⊢
  generalize sideB x3 x4 x7 x8 = s at hs ⊢
  unfold_payloads
  pointwise
  have hr : ∀ c : Fin 1024, _ = resAt X M RO Y Z NO WI WG D WB WO (rowOf g r) c := fun c => by
    unfold resAt mergedAt
    simp only [← hg, ← hs, ← h0, ← h2, ← h5, ← h9, ← h10, rowOf_mod, ← h1]
    rfl
  exact congrArg₂ (· - ·) (hr C) (congrArg (Ideal.div · _) (Finset.sum_congr rfl fun c _ => hr c))

include h0 h1 h2 h3 h4 h5 h6 h7 h8 h9 h10 h11 h12 in
/-- The point's output block. -/
theorem out_at (r : Fin 512) (C : Fin 1024) :
    out0_13 x0 x1 x2 x3 x4 x5 x6 x7 x8 x9 x10 x11 x12 (ix2 r C)
      = mergeAt X M RO Y Z NO WI WG D WB WO LG LB (rowOf g r) C := by
  have hc := centred_at x0 x1 x2 x3 x4 x5 x6 x7 x8 x9 x10 x11 x12 X M RO Y Z NO WI WG D WB WO g h0 h1 h2 h3 h4 h5 h6 h7 h8 h9 h10 r
  unfold out0_13
  refine (congrFun (View.canon_unit_zero (by decide) _ _) (ix2 r C)).trans ?_
  change k0_pay1 _ _ (centredB x0 x1 x2 x3 x4 x5 x6 x7 x8 x9 x10 x11 x12) _ = _
  generalize centredB x0 x1 x2 x3 x4 x5 x6 x7 x8 x9 x10 x11 x12 = v at hc ⊢
  unfold_payloads
  pointwise [hc]
  rw [h11, h12]
  rfl

end

end Cert.Kernel3Ideal.Merge
-- ==== Proof.MergeArray.lean ====
module

public import proofs.«01_k».proof.Proof.Gen.Kernel3Ideal.Value
public import proofs.«01_k».proof.Proof.MergePoint
public import Idealize.ShloMosaic.Lib.StableHlo.ReadAt

/-! # The merge kernel's result array

Each of the 16 grid points reads 512 rows of every branch, their modulation and all weights, and writes its 512 rows of the
result; here the blocks are read at an element and the result array is stated element by element. -/

@[expose] public section

set_option maxRecDepth 100000

noncomputable section

namespace Cert.Kernel3Ideal.Merge

open Idealize.ShloMosaic Idealize.ShloMosaic.TcCoe Idealize.ShloMosaic.Tactic
open Cert.Kernel3Ideal Cert.Kernel3Ideal.Gen Cert.Merge
open Idealize.ShloMosaic.Pipeline (Dat Cfg Window)

variable (m : (ℓ : Loc nD τ sig) → Buf (Elt Ideal) ℓ)

/-- A point's number. -/
def num (t : Fin cfg0.N) : Fin 16 := ⟨t.val, t.isLt⟩

theorem index0 (t : Fin cfg0.N) : (cfg0.win 0).index t 0 = t.val ∧ (cfg0.win 0).index t 1 = 0 := by
  revert t; decide +kernel
theorem index1 (t : Fin cfg0.N) : (cfg0.win 1).index t 0 = t.val / 2 ∧ (cfg0.win 1).index t 1 = 0 ∧ (cfg0.win 1).index t 2 =
    0 := by
  revert t; decide +kernel
theorem index2 (t : Fin cfg0.N) : (cfg0.win 2).index t 0 = t.val ∧ (cfg0.win 2).index t 1 = 0 := by
  revert t; decide +kernel
theorem index3 (t : Fin cfg0.N) : (cfg0.win 3).index t 0 = t.val ∧ (cfg0.win 3).index t 1 = 0 := by
  revert t; decide +kernel
theorem index4 (t : Fin cfg0.N) : (cfg0.win 4).index t 0 = t.val ∧ (cfg0.win 4).index t 1 = 4 := by
  revert t; decide +kernel
theorem index5 (t : Fin cfg0.N) : (cfg0.win 5).index t 0 = t.val ∧ (cfg0.win 5).index t 1 = 0 := by
  revert t; decide +kernel
theorem index6 (t : Fin cfg0.N) : (cfg0.win 6).index t 0 = 0 ∧ (cfg0.win 6).index t 1 = 0 := by
  revert t; decide +kernel
theorem index7 (t : Fin cfg0.N) : (cfg0.win 7).index t 0 = 0 ∧ (cfg0.win 7).index t 1 = 0 := by
  revert t; decide +kernel
theorem index8 (t : Fin cfg0.N) : (cfg0.win 8).index t 0 = 0 ∧ (cfg0.win 8).index t 1 = 0 := by
  revert t; decide +kernel
theorem index9 (t : Fin cfg0.N) : (cfg0.win 9).index t 0 = 0 ∧ (cfg0.win 9).index t 1 = 0 ∧ (cfg0.win 9).index t 2 = 0 := by
  revert t; decide +kernel
theorem index10 (t : Fin cfg0.N) : (cfg0.win 10).index t 0 = 0 ∧ (cfg0.win 10).index t 1 = 0 := by
  revert t; decide +kernel
theorem index11 (t : Fin cfg0.N) : (cfg0.win 11).index t 0 = 0 ∧ (cfg0.win 11).index t 1 = 0 := by
  revert t; decide +kernel
theorem index12 (t : Fin cfg0.N) : (cfg0.win 12).index t 0 = 0 ∧ (cfg0.win 12).index t 1 = 0 := by
  revert t; decide +kernel
theorem index13 (t : Fin cfg0.N) : (cfg0.win 13).index t 0 = t.val ∧ (cfg0.win 13).index t 1 = 0 := by
  revert t; decide +kernel

theorem V_v1_apply (c : Dev nD) (d : Fin 1024) (q : Fin 3072) :
    (V m c main_v1 : S1024x3072.Idx → EReal) (ix2 d q) = (m (c, main_arg6) : S1024x7168.Idx → EReal) (ix2 d ⟨4096 + q.val,
    by omega⟩) := by
  unfold V
  after_reads_at
theorem V_v2_apply (c : Dev nD) (e j : Fin 512) :
    (V m c main_v2 : S512x512.Idx → EReal) (ix2 e j) = (m (c, main_arg7) : S512x512.Idx → EReal) (ix2 e j) := by
  unfold V
  after_reads_at
theorem V_v3_apply (c : Dev nD) (j : Fin 512) :
    (V m c main_v3 : S1x512.Idx → EReal) (ix2 0 j) = (m (c, main_arg8) : S512.Idx → EReal) (ix1 j) := by
  unfold V
  after_reads_at
theorem V_v4_apply (c : Dev nD) (a : Fin 3) (j : Fin 512) (C : Fin 1024) :
    (V m c main_v4 : S3x512x1024.Idx → EReal) (ix3 a j C) = (m (c, main_arg9) : S3x512x1024.Idx → EReal) (ix3 a j C) := by
  unfold V
  after_reads_at
theorem V_v5_apply (c : Dev nD) (k C : Fin 1024) :
    (V m c main_v5 : S1024x1024.Idx → EReal) (ix2 k C) = (m (c, main_arg10) : S1024x1024.Idx → EReal) (ix2 k C) := by
  unfold V
  after_reads_at
theorem V_v6_apply (c : Dev nD) (C : Fin 1024) :
    (V m c main_v6 : S1x1024.Idx → EReal) (ix2 0 C) = (m (c, main_arg11) : S1024.Idx → EReal) (ix1 C) := by
  unfold V
  after_reads_at
theorem V_v7_apply (c : Dev nD) (C : Fin 1024) :
    (V m c main_v7 : S1x1024.Idx → EReal) (ix2 0 C) = (m (c, main_arg12) : S1024.Idx → EReal) (ix1 C) := by
  unfold V
  after_reads_at

/-- The rows. -/
theorem iblk0_apply (c : Dev nD) (t : Fin cfg0.N) (r : Fin 512) (d : Fin 1024) :
    iblk m c 0 t (ix2 r d) = (m (c, main_arg0) : S8192x1024.Idx → EReal) (ix2 (rowOf (num t) r) d) := by
  unfold iblk
  rw [View.read_apply, show V m c (Pipeline.arrRef spec0 0) = m (c, main_arg0) from V_main_arg0 m c]
  have h := index0 t
  refine congrArg (m (c, main_arg0) : S8192x1024.Idx → EReal) (funext fun x => Fin.ext ?_)
  refine (Window.rect_emb_val (cfg0.win 0) t (ix2 r d) x).trans ?_
  match x with
  | 0 => rw [h.1]; show t.val * 512 + r.val = 512 * t.val + r.val; omega
  | 1 => rw [h.2]; show 0 * 1024 + d.val = d.val; omega

/-- The modulation. -/
theorem iblk1_apply (c : Dev nD) (t : Fin cfg0.N) (e : Fin 6144) :
    iblk m c 1 t (ix3 0 0 e) = (m (c, main_arg1) : S8x1x6144.Idx → EReal) (ix3 (modOf (num t)) 0 e) := by
  unfold iblk
  rw [View.read_apply, show V m c (Pipeline.arrRef spec0 1) = m (c, main_arg1) from V_main_arg1 m c]
  have h := index1 t
  refine congrArg (m (c, main_arg1) : S8x1x6144.Idx → EReal) (funext fun x => Fin.ext ?_)
  refine (Window.rect_emb_val (cfg0.win 1) t (ix3 0 0 e) x).trans ?_
  match x with
  | 0 => rw [h.1]; show t.val / 2 * 1 + 0 = t.val / 2; omega
  | 1 => rw [h.2.1]; rfl
  | 2 => rw [h.2.2]; show 0 * 6144 + e.val = e.val; omega

/-- The retention branch. -/
theorem iblk2_apply (c : Dev nD) (t : Fin cfg0.N) (r j : Fin 512) :
    iblk m c 2 t (ix2 r j) = (m (c, main_arg2) : S8192x512.Idx → EReal) (ix2 (rowOf (num t) r) j) := by
  unfold iblk
  rw [View.read_apply, show V m c (Pipeline.arrRef spec0 2) = m (c, main_arg2) from V_main_arg2 m c]
  have h := index2 t
  refine congrArg (m (c, main_arg2) : S8192x512.Idx → EReal) (funext fun x => Fin.ext ?_)
  refine (Window.rect_emb_val (cfg0.win 2) t (ix2 r j) x).trans ?_
  match x with
  | 0 => rw [h.1]; show t.val * 512 + r.val = 512 * t.val + r.val; omega
  | 1 => rw [h.2]; show 0 * 512 + j.val = j.val; omega

/-- The state-space branch. -/
theorem iblk3_apply (c : Dev nD) (t : Fin cfg0.N) (r j : Fin 512) :
    iblk m c 3 t (ix2 r j) = (m (c, main_arg3) : S8192x512.Idx → EReal) (ix2 (rowOf (num t) r) j) := by
  unfold iblk
  rw [View.read_apply, show V m c (Pipeline.arrRef spec0 3) = m (c, main_arg3) from V_main_arg3 m c]
  have h := index3 t
  refine congrArg (m (c, main_arg3) : S8192x512.Idx → EReal) (funext fun x => Fin.ext ?_)
  refine (Window.rect_emb_val (cfg0.win 3) t (ix2 r j) x).trans ?_
  match x with
  | 0 => rw [h.1]; show t.val * 512 + r.val = 512 * t.val + r.val; omega
  | 1 => rw [h.2]; show 0 * 512 + j.val = j.val; omega

/-- The state-space inputs. -/
theorem iblk4_apply (c : Dev nD) (t : Fin cfg0.N) (r j : Fin 512) :
    iblk m c 4 t (ix2 r j) = (m (c, main_arg4) : S8192x4096.Idx → EReal) (ix2 (rowOf (num t) r) (sideCol j)) :=
    by
  unfold iblk
  rw [View.read_apply, show V m c (Pipeline.arrRef spec0 4) = m (c, main_arg4) from V_main_arg4 m c]
  have h := index4 t
  refine congrArg (m (c, main_arg4) : S8192x4096.Idx → EReal) (funext fun x => Fin.ext ?_)
  refine (Window.rect_emb_val (cfg0.win 4) t (ix2 r j) x).trans ?_
  match x with
  | 0 => rw [h.1]; show t.val * 512 + r.val = 512 * t.val + r.val; omega
  | 1 => rw [h.2]; show 4 * 512 + j.val = 2048 + j.val; omega

/-- The attention branch. -/
theorem iblk5_apply (c : Dev nD) (t : Fin cfg0.N) (r j : Fin 512) :
    iblk m c 5 t (ix2 r j) = (m (c, main_arg5) : S8192x512.Idx → EReal) (ix2 (rowOf (num t) r) j) := by
  unfold iblk
  rw [View.read_apply, show V m c (Pipeline.arrRef spec0 5) = m (c, main_arg5) from V_main_arg5 m c]
  have h := index5 t
  refine congrArg (m (c, main_arg5) : S8192x512.Idx → EReal) (funext fun x => Fin.ext ?_)
  refine (Window.rect_emb_val (cfg0.win 5) t (ix2 r j) x).trans ?_
  match x with
  | 0 => rw [h.1]; show t.val * 512 + r.val = 512 * t.val + r.val; omega
  | 1 => rw [h.2]; show 0 * 512 + j.val = j.val; omega

/-- The gates' weights. -/
theorem iblk6_apply (c : Dev nD) (t : Fin cfg0.N) (d : Fin 1024) (q : Fin 3072) :
    iblk m c 6 t (ix2 d q) = (m (c, main_arg6) : S1024x7168.Idx → EReal) (ix2 d (gateCol q)) := by
  refine Eq.trans ?_ (V_v1_apply m c d q)
  unfold iblk
  rw [View.read_apply]
  have h := index6 t
  refine congrArg (V m c main_v1 : S1024x3072.Idx → EReal) (funext fun x => Fin.ext ?_)
  refine (Window.rect_emb_val (cfg0.win 6) t (ix2 d q) x).trans ?_
  match x with
  | 0 => rw [h.1]; show 0 * 1024 + d.val = d.val; omega
  | 1 => rw [h.2]; show 0 * 3072 + q.val = q.val; omega

/-- The weights of the state-space gate. -/
theorem iblk7_apply (c : Dev nD) (t : Fin cfg0.N) (e j : Fin 512) :
    iblk m c 7 t (ix2 e j) = (m (c, main_arg7) : S512x512.Idx → EReal) (ix2 e j) := by
  refine Eq.trans ?_ (V_v2_apply m c e j)
  unfold iblk
  rw [View.read_apply]
  have h := index7 t
  refine congrArg (V m c main_v2 : S512x512.Idx → EReal) (funext fun x => Fin.ext ?_)
  refine (Window.rect_emb_val (cfg0.win 7) t (ix2 e j) x).trans ?_
  match x with
  | 0 => rw [h.1]; show 0 * 512 + e.val = e.val; omega
  | 1 => rw [h.2]; show 0 * 512 + j.val = j.val; omega

/-- The skip weights. -/
theorem iblk8_apply (c : Dev nD) (t : Fin cfg0.N) (j : Fin 512) :
    iblk m c 8 t (ix2 0 j) = (m (c, main_arg8) : S512.Idx → EReal) (ix1 j) := by
  refine Eq.trans ?_ (V_v3_apply m c j)
  unfold iblk
  rw [View.read_apply]
  have h := index8 t
  refine congrArg (V m c main_v3 : S1x512.Idx → EReal) (funext fun x => Fin.ext ?_)
  refine (Window.rect_emb_val (cfg0.win 8) t (ix2 0 j) x).trans ?_
  match x with
  | 0 => rw [h.1]; rfl
  | 1 => rw [h.2]; show 0 * 512 + j.val = j.val; omega

/-- The branch projections. -/
theorem iblk9_apply (c : Dev nD) (t : Fin cfg0.N) (a : Fin 3) (j : Fin 512) (C : Fin 1024) :
    iblk m c 9 t (ix3 a j C) = (m (c, main_arg9) : S3x512x1024.Idx → EReal) (ix3 a j C) := by
  refine Eq.trans ?_ (V_v4_apply m c a j C)
  unfold iblk
  rw [View.read_apply]
  have h := index9 t
  refine congrArg (V m c main_v4 : S3x512x1024.Idx → EReal) (funext fun x => Fin.ext ?_)
  refine (Window.rect_emb_val (cfg0.win 9) t (ix3 a j C) x).trans ?_
  match x with
  | 0 => rw [h.1]; show 0 * 3 + a.val = a.val; omega
  | 1 => rw [h.2.1]; show 0 * 512 + j.val = j.val; omega
  | 2 => rw [h.2.2]; show 0 * 1024 + C.val = C.val; omega

/-- The output projection. -/
theorem iblk10_apply (c : Dev nD) (t : Fin cfg0.N) (k C : Fin 1024) :
    iblk m c 10 t (ix2 k C) = (m (c, main_arg10) : S1024x1024.Idx → EReal) (ix2 k C) := by
  refine Eq.trans ?_ (V_v5_apply m c k C)
  unfold iblk
  rw [View.read_apply]
  have h := index10 t
  refine congrArg (V m c main_v5 : S1024x1024.Idx → EReal) (funext fun x => Fin.ext ?_)
  refine (Window.rect_emb_val (cfg0.win 10) t (ix2 k C) x).trans ?_
  match x with
  | 0 => rw [h.1]; show 0 * 1024 + k.val = k.val; omega
  | 1 => rw [h.2]; show 0 * 1024 + C.val = C.val; omega

/-- The normalization's gain. -/
theorem iblk11_apply (c : Dev nD) (t : Fin cfg0.N) (C : Fin 1024) :
    iblk m c 11 t (ix2 0 C) = (m (c, main_arg11) : S1024.Idx → EReal) (ix1 C) := by
  refine Eq.trans ?_ (V_v6_apply m c C)
  unfold iblk
  rw [View.read_apply]
  have h := index11 t
  refine congrArg (V m c main_v6 : S1x1024.Idx → EReal) (funext fun x => Fin.ext ?_)
  refine (Window.rect_emb_val (cfg0.win 11) t (ix2 0 C) x).trans ?_
  match x with
  | 0 => rw [h.1]; rfl
  | 1 => rw [h.2]; show 0 * 1024 + C.val = C.val; omega

/-- The normalization's offset. -/
theorem iblk12_apply (c : Dev nD) (t : Fin cfg0.N) (C : Fin 1024) :
    iblk m c 12 t (ix2 0 C) = (m (c, main_arg12) : S1024.Idx → EReal) (ix1 C) := by
  refine Eq.trans ?_ (V_v7_apply m c C)
  unfold iblk
  rw [View.read_apply]
  have h := index12 t
  refine congrArg (V m c main_v7 : S1x1024.Idx → EReal) (funext fun x => Fin.ext ?_)
  refine (Window.rect_emb_val (cfg0.win 12) t (ix2 0 C) x).trans ?_
  match x with
  | 0 => rw [h.1]; rfl
  | 1 => rw [h.2]; show 0 * 1024 + C.val = C.val; omega

/-- The result array at row `R`, column `C`. -/
theorem final_apply (c : Dev nD) (R : Fin 8192) (C : Fin 1024) :
    ((dats m 0 c).arrAt 13 cfg0.N : S8192x1024.Idx → EReal) (ix2 R C)
      = mergeAt
        (m (c, main_arg0) : S8192x1024.Idx → EReal)
        (m (c, main_arg1) : S8x1x6144.Idx → EReal)
        (m (c, main_arg2) : S8192x512.Idx → EReal)
        (m (c, main_arg3) : S8192x512.Idx → EReal)
        (m (c, main_arg4) : S8192x4096.Idx → EReal)
        (m (c, main_arg5) : S8192x512.Idx → EReal)
        (m (c, main_arg6) : S1024x7168.Idx → EReal)
        (m (c, main_arg7) : S512x512.Idx → EReal)
        (m (c, main_arg8) : S512.Idx → EReal)
        (m (c, main_arg9) : S3x512x1024.Idx → EReal)
        (m (c, main_arg10) : S1024x1024.Idx → EReal)
        (m (c, main_arg11) : S1024.Idx → EReal)
        (m (c, main_arg12) : S1024.Idx → EReal) R C := by
  have hN : R.val / 512 < cfg0.N := by show _ < 16; omega
  obtain ⟨t, ht⟩ : ∃ t : Fin cfg0.N, t.val = R.val / 512 := ⟨⟨_, hN⟩, rfl⟩
  have hb := congrFun (Value.blocks13 m c t (flush0_13 t)) (ix2 (⟨R % 512, by omega⟩ : Fin 512) C)
  rw [View.read_apply] at hb
  have hidx : (((cfg0.win 13).blk t).view.emb (ix2 (⟨R % 512, by omega⟩ : Fin 512) C) : S8192x1024.Idx) = ix2 R C := by
    have h := index13 t
    refine funext fun x => Fin.ext ?_
    refine (Window.rect_emb_val (cfg0.win 13) t _ x).trans ?_
    match x with
    | 0 => rw [h.1]; show _ * 512 + R.val % 512 = R.val; omega
    | 1 => rw [h.2]; show 0 * 1024 + C.val = C.val; omega
  rw [hidx] at hb
  refine Eq.trans hb ?_
  rw [Value.flushed13 m c t]
  refine (out_at _ _ _ _ _ _ _ _ _ _ _ _ _ _ _ _ _ _ _ _ _ _ _ _ _ _ (num t) (iblk0_apply m c t) (iblk1_apply m c t)
    (iblk2_apply m c t) (iblk3_apply m c t) (iblk4_apply m c t) (iblk5_apply m c t) (iblk6_apply m c t)
    (iblk7_apply m c t) (iblk8_apply m c t) (iblk9_apply m c t) (iblk10_apply m c t) (iblk11_apply m c t) (iblk12_apply m c
    t) ..).trans ?_
  refine congrArg (mergeAt _ _ _ _ _ _ _ _ _ _ _ _ _ · C) (Fin.ext ?_)
  show 512 * t.val + R.val % 512 = R.val
  omega

end Cert.Kernel3Ideal.Merge
-- ==== Proof.MergeRef.lean ====
module

public import proofs.«01_k».proof.Proof.Gen.Reference3Ideal.Read
public import proofs.«01_k».proof.Proof.FfnRef
public import proofs.«01_k».proof.Proof.MergeSpec

/-!
# The merge's reference, element by element

The reference treats the prompt's 16 sequences and the samples' 4 sequences one after the other. Each stage of either part
is read at an element, from the modulation to the layer normalization.
-/

@[expose] public section

set_option maxRecDepth 100000

noncomputable section

namespace Cert.Reference3Ideal.Merge

open Idealize.ShloMosaic Idealize.ShloMosaic.TcCoe Idealize.SL.Sem Idealize.ShloMosaic.Tactic
open Cert.Reference3Ideal Cert.Reference3Ideal.Gen Cert.Reference3Ideal.Read Cert.Merge
open Cert.Ffn (word lnAt)
open Cert.Reference2Ideal.Ffn (promptRow sampleRow promptMod sampleMod)

variable (x0 : S8192x1024.Idx → EReal) (x1 : S8x1x6144.Idx → EReal) (x2 x3 : S8192x512.Idx → EReal)
  (x4 : S8192x4096.Idx → EReal) (x5 : S8192x512.Idx → EReal) (x6 : S1024x7168.Idx → EReal) (x7 : S512x512.Idx → EReal)
  (x8 : S512.Idx → EReal) (x9 : S3x512x1024.Idx → EReal) (x10 : S1024x1024.Idx → EReal) (x11 x12 : S1024.Idx → EReal)

/-- Where the factor one half stands does not matter. -/
theorem half_assoc (a t : EReal) : a * (word 0x3F000000#32 * t) = word 0x3F000000#32 * a * t := by
  rw [← mul_assoc, mul_comm a]

theorem v28_at (b : Fin 16) (t : Fin 256) (d : Fin 1024) : val_main_v28 (F := Ideal) x0 x1 (ix3 b t d) = hidAt x0 x1
    (promptRow b t) d := by
  unfold val_main_v28 val_main_v27 val_main_v26 val_main_v25 val_main_v24 val_main_v23 val_main_cst val_main_v18
    val_main_v17 val_main_v16 val_main_v7 val_main_v6 val_main_v5 val_main_v4 val_main_v3 val_main_v2 val_main_v0
  pointwise
  unfold hidAt
  rw [promptMod]
  rfl

theorem v45_at (b : Fin 16) (t : Fin 256) (j : Fin 512) : val_main_v45 (F := Ideal) x3 x4 x8 (ix3 b t j) = ssmAt x3 x4 x8
    (promptRow b t) j := by
  unfold val_main_v45 val_main_v44 val_main_v43 val_main_cst_3 val_main_v42 val_main_v41 val_main_cst_2 val_main_v40
    val_main_v39 val_main_v38 val_main_cst_1 val_main_v37 val_main_v36 val_main_v35 val_main_cst_0 val_main_v34 val_main_v33
    val_main_v32 val_main_v31 val_main_v30 val_main_v29 val_main_v13 val_main_v12 val_main_v11 val_main_v10 val_main_v1
  pointwise
  exact half_assoc _ _

theorem v53_at (b : Fin 16) (t : Fin 256) (j : Fin 512) : val_main_v53 (F := Ideal) x3 x4 x7 x8 (ix3 b t j) = sideAt x3 x4
    x7 x8 (promptRow b t) j := by
  unfold val_main_v53 val_main_v52 val_main_v51 val_main_cst_5 val_main_v50 val_main_v49 val_main_cst_4 val_main_v48
    val_main_v47 val_main_v46
  pointwise [v45_at]
  rfl

theorem v61_at (b : Fin 16) (t : Fin 256) (q : Fin 3072) : val_main_v61 (F := Ideal) x0 x1 x6 (ix3 b t q) = gateAt x0 x1 x6
    (promptRow b t) q := by
  unfold val_main_v61 val_main_v60 val_main_cst_7 val_main_v59 val_main_v58 val_main_cst_6 val_main_v57 val_main_v56
    val_main_v55 val_main_v54
  pointwise [v28_at]
  rfl

theorem v78_at (b : Fin 16) (t : Fin 256) (C : Fin 1024) : val_main_v78 (F := Ideal) x0 x1 x2 x3 x4 x5 x6 x7 x8 x9 (ix3 b t
    C) = mergedAt x0 x1 x2 x3 x4 x5 x6 x7 x8 x9 (promptRow b t) C := by
  unfold val_main_v78 val_main_v77 val_main_v76 val_main_v75 val_main_v74 val_main_v73 val_main_v72 val_main_v71
    val_main_v70 val_main_v69 val_main_v68 val_main_v67 val_main_v66 val_main_v65 val_main_v64 val_main_v63 val_main_v62
    val_main_v15 val_main_v14 val_main_v9 val_main_v8
  pointwise [v61_at, v53_at]
  rfl

theorem v84_at (b : Fin 16) (t : Fin 256) (C : Fin 1024) : val_main_v84 (F := Ideal) x0 x1 x2 x3 x4 x5 x6 x7 x8 x9 x10 (ix3
    b t C) = resAt x0 x1 x2 x3 x4 x5 x6 x7 x8 x9 x10 (promptRow b t) C := by
  unfold val_main_v84 val_main_v83 val_main_v82 val_main_v81 val_main_v80 val_main_v79 val_main_cst_8 val_main_v19
    val_main_v16 val_main_v7 val_main_v6 val_main_v5 val_main_v4 val_main_v3 val_main_v2 val_main_v0
  pointwise [v78_at]
  unfold resAt
  rw [promptMod]
  rfl

theorem v108_at (b : Fin 16) (t : Fin 256) (C : Fin 1024) : val_main_v108 (F := Ideal) x0 x1 x2 x3 x4 x5 x6 x7 x8 x9 x10 x11
    x12 (ix3 b t C) = mergeAt x0 x1 x2 x3 x4 x5 x6 x7 x8 x9 x10 x11 x12 (promptRow b t) C := by
  unfold val_main_v108 val_main_v107 val_main_v106 val_main_v105 val_main_v104 val_main_v103 val_main_v102 val_main_v101
    val_main_v100 val_main_v99 val_main_v98 val_main_cst_13 val_main_v97 val_main_v96 val_main_v95 val_main_v94
    val_main_cst_12 val_main_v93 val_main_v92 val_main_cst_11 val_main_v91 val_main_v90 val_main_v89 val_main_v88
    val_main_v87 val_main_cst_10 val_main_v86 val_main_v85 val_main_cst_9
  pointwise [v84_at]
  rfl

theorem v132_at (b : Fin 4) (t : Fin 1024) (d : Fin 1024) : val_main_v132 (F := Ideal) x0 x1 (ix3 b t d) = hidAt x0 x1
    (sampleRow b t) d := by
  unfold val_main_v132 val_main_v131 val_main_v130 val_main_v129 val_main_v128 val_main_v127 val_main_cst_14 val_main_v122
    val_main_v121 val_main_v120 val_main_v111 val_main_v110 val_main_v109 val_main_v0
  pointwise
  unfold hidAt
  rw [sampleMod]
  rfl

theorem v149_at (b : Fin 4) (t : Fin 1024) (j : Fin 512) : val_main_v149 (F := Ideal) x3 x4 x8 (ix3 b t j) = ssmAt x3 x4 x8
    (sampleRow b t) j := by
  unfold val_main_v149 val_main_v148 val_main_v147 val_main_cst_18 val_main_v146 val_main_v145 val_main_cst_17 val_main_v144
    val_main_v143 val_main_v142 val_main_cst_16 val_main_v141 val_main_v140 val_main_v139 val_main_cst_15 val_main_v138
    val_main_v137 val_main_v136 val_main_v135 val_main_v134 val_main_v133 val_main_v117 val_main_v116 val_main_v115
    val_main_v114 val_main_v1
  pointwise
  exact half_assoc _ _

theorem v157_at (b : Fin 4) (t : Fin 1024) (j : Fin 512) : val_main_v157 (F := Ideal) x3 x4 x7 x8 (ix3 b t j) = sideAt x3 x4
    x7 x8 (sampleRow b t) j := by
  unfold val_main_v157 val_main_v156 val_main_v155 val_main_cst_20 val_main_v154 val_main_v153 val_main_cst_19 val_main_v152
    val_main_v151 val_main_v150
  pointwise [v149_at]
  rfl

theorem v165_at (b : Fin 4) (t : Fin 1024) (q : Fin 3072) : val_main_v165 (F := Ideal) x0 x1 x6 (ix3 b t q) = gateAt x0 x1
    x6 (sampleRow b t) q := by
  unfold val_main_v165 val_main_v164 val_main_cst_22 val_main_v163 val_main_v162 val_main_cst_21 val_main_v161 val_main_v160
    val_main_v159 val_main_v158
  pointwise [v132_at]
  rfl

theorem v182_at (b : Fin 4) (t : Fin 1024) (C : Fin 1024) : val_main_v182 (F := Ideal) x0 x1 x2 x3 x4 x5 x6 x7 x8 x9 (ix3 b
    t C) = mergedAt x0 x1 x2 x3 x4 x5 x6 x7 x8 x9 (sampleRow b t) C := by
  unfold val_main_v182 val_main_v181 val_main_v180 val_main_v179 val_main_v178 val_main_v177 val_main_v176 val_main_v175
    val_main_v174 val_main_v173 val_main_v172 val_main_v171 val_main_v170 val_main_v169 val_main_v168 val_main_v167
    val_main_v166 val_main_v119 val_main_v118 val_main_v113 val_main_v112
  pointwise [v165_at, v157_at]
  rfl

theorem v188_at (b : Fin 4) (t : Fin 1024) (C : Fin 1024) : val_main_v188 (F := Ideal) x0 x1 x2 x3 x4 x5 x6 x7 x8 x9 x10
    (ix3 b t C) = resAt x0 x1 x2 x3 x4 x5 x6 x7 x8 x9 x10 (sampleRow b t) C := by
  unfold val_main_v188 val_main_v187 val_main_v186 val_main_v185 val_main_v184 val_main_v183 val_main_cst_23 val_main_v123
    val_main_v120 val_main_v111 val_main_v110 val_main_v109 val_main_v0
  pointwise [v182_at]
  unfold resAt
  rw [sampleMod]
  rfl

theorem v212_at (b : Fin 4) (t : Fin 1024) (C : Fin 1024) : val_main_v212 (F := Ideal) x0 x1 x2 x3 x4 x5 x6 x7 x8 x9 x10 x11
    x12 (ix3 b t C) = mergeAt x0 x1 x2 x3 x4 x5 x6 x7 x8 x9 x10 x11 x12 (sampleRow b t) C := by
  unfold val_main_v212 val_main_v211 val_main_v210 val_main_v209 val_main_v208 val_main_v207 val_main_v206 val_main_v205
    val_main_v204 val_main_v203 val_main_v202 val_main_cst_28 val_main_v201 val_main_v200 val_main_v199 val_main_v198
    val_main_cst_27 val_main_v197 val_main_v196 val_main_cst_26 val_main_v195 val_main_v194 val_main_v193 val_main_v192
    val_main_v191 val_main_cst_25 val_main_v190 val_main_v189 val_main_cst_24
  pointwise [v188_at]
  rfl

/-- The reference's result at row `R`, column `C`. -/
theorem ref_at (R : Fin 8192) (C : Fin 1024) :
    val_main_v215 (F := Ideal) x0 x1 x2 x3 x4 x5 x6 x7 x8 x9 x10 x11 x12 (ix2 R C) = mergeAt x0 x1 x2 x3 x4 x5 x6 x7 x8 x9
    x10 x11 x12 R C := by
  unfold val_main_v215 val_main_v214 val_main_v213
  pointwise
  split
  · refine (v108_at x0 x1 x2 x3 x4 x5 x6 x7 x8 x9 x10 x11 x12 _ _ C).trans (congrArg (mergeAt x0 x1 x2 x3 x4 x5 x6 x7 x8 x9
    x10 x11 x12 · C) (Fin.ext ?_))
    show R.val / 256 * 256 + R.val % 256 = R.val
    omega
  · refine (v212_at x0 x1 x2 x3 x4 x5 x6 x7 x8 x9 x10 x11 x12 _ _ C).trans (congrArg (mergeAt x0 x1 x2 x3 x4 x5 x6 x7 x8 x9
    x10 x11 x12 · C) (Fin.ext ?_))
    show 4096 + ((R.val - 4096) / 1024 * 1024 + (R.val - 4096) % 1024) = R.val
    omega

end Cert.Reference3Ideal.Merge
-- ==== Proof.MergeClaim.lean ====
module

public import proofs.«01_k».proof.Defs
public import proofs.«01_k».proof.Proof.MergeArray
public import proofs.«01_k».proof.Proof.MergeRef
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read

/-! # The merge's claims

Frames of the kernel, of its idealization and of the reference; and that kernel and reference end with equal results. -/

@[expose] public section

set_option maxRecDepth 100000

noncomputable section

namespace Cert.Proof.Merge

open Idealize.ShloMosaic Idealize.ShloMosaic.TcCoe Idealize.SL.Sem

instance : Cert.Kernel3.Facts := Cert.Kernel3.Gen.facts
instance : Cert.Kernel3Ideal.Facts := Cert.Kernel3Ideal.Gen.facts
instance : Cert.Reference3Ideal.Facts := Cert.Reference3Ideal.Gen.facts

theorem frame_k : Cert.quiescent_Kernel3 := fun m ρ _ => Cert.Kernel3.Gen.frame m ρ

theorem frame_ki : Cert.quiescent_Kernel3Ideal := fun m ρ _ => Cert.Kernel3Ideal.Gen.frame m ρ

/-- The reference leaves its arguments alone; it has no semaphores. -/
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- An array index of two axes is its coordinates. -/
theorem eta2 (i : Cert.Reference3Ideal.S8192x1024.Idx) : ix2 (i 0) (i 1) = i := by
  funext a
  match a with
  | 0 => rfl
  | 1 => rfl

/-- The reference's result is the kernel's. -/
theorem same (m : (ℓ : Loc Cert.Kernel3Ideal.nD Cert.Kernel3Ideal.τ Cert.Kernel3Ideal.sig) → Buf (Elt Ideal) ℓ)
    (c : Dev Cert.Kernel3Ideal.nD) :
    Cert.Reference3Ideal.Read.val_main_v215 (F := Ideal)
      (m ((c.tc : Thread _ Cert.Kernel3Ideal.τ).loc Cert.Kernel3Ideal.main_arg0)) (m ((c.tc : Thread _
    Cert.Kernel3Ideal.τ).loc Cert.Kernel3Ideal.main_arg1))
      (m ((c.tc : Thread _ Cert.Kernel3Ideal.τ).loc Cert.Kernel3Ideal.main_arg2)) (m ((c.tc : Thread _
    Cert.Kernel3Ideal.τ).loc Cert.Kernel3Ideal.main_arg3))
      (m ((c.tc : Thread _ Cert.Kernel3Ideal.τ).loc Cert.Kernel3Ideal.main_arg4)) (m ((c.tc : Thread _
    Cert.Kernel3Ideal.τ).loc Cert.Kernel3Ideal.main_arg5))
      (m ((c.tc : Thread _ Cert.Kernel3Ideal.τ).loc Cert.Kernel3Ideal.main_arg6)) (m ((c.tc : Thread _
    Cert.Kernel3Ideal.τ).loc Cert.Kernel3Ideal.main_arg7))
      (m ((c.tc : Thread _ Cert.Kernel3Ideal.τ).loc Cert.Kernel3Ideal.main_arg8)) (m ((c.tc : Thread _
    Cert.Kernel3Ideal.τ).loc Cert.Kernel3Ideal.main_arg9))
      (m ((c.tc : Thread _ Cert.Kernel3Ideal.τ).loc Cert.Kernel3Ideal.main_arg10)) (m ((c.tc : Thread _
    Cert.Kernel3Ideal.τ).loc Cert.Kernel3Ideal.main_arg11))
      (m ((c.tc : Thread _ Cert.Kernel3Ideal.τ).loc Cert.Kernel3Ideal.main_arg12))
    = (Cert.Kernel3Ideal.Gen.dats m 0 c).arrAt 13 Cert.Kernel3Ideal.cfg0.N := by
  funext i
  rw [← eta2 i]
  exact (Cert.Reference3Ideal.Merge.ref_at _ _ _ _ _ _ _ _ _ _ _ _ _ (i 0) (i 1)).trans (Cert.Kernel3Ideal.Merge.final_apply
    m c (i 0) (i 1)).symm

/-- Kernel and reference end with equal results. -/
theorem algebraic : Cert.algebraic_Kernel3Ideal_Reference3Ideal := by
  intro m g m' g' _ hagree
  refine ⟨fun c => (Cert.Kernel3Ideal.Gen.dats m 0 c).arrAt 13 Cert.Kernel3Ideal.cfg0.N, Cert.Kernel3Ideal.Value.run_blocks
    m g, ?_⟩
  refine (θ_run Cert.Reference3Ideal.defs _ _).mono (fun r h c => ⟨?_, (h c).2⟩) (Cert.Reference3Ideal.Value.run (F :=
    Ideal) m' g')
  refine ((h c).1.trans (Cert.Reference3Ideal.Read.val_main_v215_eq (StableHlo.launchContents m' c))).trans ?_
  refine Eq.trans ?_ (same m c)
  obtain ⟨h0, h1, h2, h3, h4, h5, h6, h7, h8, h9, h10, h11, h12⟩ := hagree c
  exact congr (congr (congr (congr (congr (congr (congr (congr (congr (congr (congr (congr (congrArg
    (Cert.Reference3Ideal.Read.val_main_v215 (F := Ideal)) h0) h1) h2) h3) h4) h5) h6) h7) h8) h9) h10) h11) h12

end Cert.Proof.Merge
-- ==== Proof.ProjBody.lean ====
module

public import proofs.«01_k».proof.Proof.Gen.Kernel4Ideal.Frame
public import proofs.«01_k».proof.Proof.Gen.Kernel4Ideal.Skeleton
public import Idealize.ShloMosaic.Lib.VecWindow

/-! # The input projection's body at one grid point

The body keeps two buffers from one point to the next: the weights of the current column block, renewed at the first row
group, and the modulated rows of all groups, filled group by group in the first column block. Here the body runs at any
point, from any contents of the two. -/

@[expose] public section

set_option maxRecDepth 16384

noncomputable section

namespace Cert.Kernel4Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen

variable {F : FTy → Type} [FloatOps F]

local notation "𝕄" => MT nD τ sig Unit (Elt F) ℕ (UR sig nD τ) ℕ

/-- The point is at the first row group. -/
abbrev firstRow (i : grid0.Coords) : Prop :=
  (Scalar.cmpi .ne (Scalar.extui (Scalar.cmpi .eq (BitVec.ofNat 32 (i 1).val) 0#32)) 0#32) = 1#1

/-- The point is in the first column block. -/
abbrev firstCol (i : grid0.Coords) : Prop := k0_cond2 i = 1#1

/-- Where group `k` starts among the kept rows. -/
def slot (k : Fin 8) : Fin 3 → ℕ := ![k.val, 0, 0]

theorem slot_inb (k : Fin 8) : ∀ a, slot k a + S1x1024x1024.size a ≤ S8x1024x1024.size a := by
  revert k; decide

/-- A point's row group. -/
def group (i : grid0.Coords) : Fin 8 := i 1

theorem word_group (k : Fin 8) : (Scalar.indexCast (BitVec.ofNat 32 k.val)).toNat = k.val := by revert k; decide

theorem off1_eq (i : grid0.Coords) : k0_off1 i = slot (group i) := by
  funext a
  match a with
  | 0 => exact word_group (i 1)
  | 1 => rfl
  | 2 => rfl

theorem off2_eq (i : grid0.Coords) : k0_off2 i = slot (group i) := off1_eq i

/-- The rows of group `k`. -/
def slab (v : Vec F S8x1024x1024 .bf16) (k : Fin 8) : Vec F S1x1024x1024 .bf16 := VecWindow.window v (slot k) S1x1024x1024.size (slot_inb k)

/-- The kept weights after the point. -/
def wNext (i : grid0.Coords) (x2 : Vec F S1x1024x1024 .f32) (w : Vec F S1024x1024 .bf16) : Vec F S1024x1024 .bf16 :=
  if firstRow i then k0_pay1 x2 else w

/-- The kept rows after the point. -/
def hNext (i : grid0.Coords) (x0 : Vec F S1024x1024 .f32) (x1 : Vec F S1x1x6144 .f32) (h : Vec F S8x1024x1024 .bf16) :
    Vec F S8x1024x1024 .bf16 :=
  if firstCol i then VecWindow.put h (slot (group i)) S1x1024x1024.size (k0_pay2 x1 x0) else h

/-- What the point writes. -/
def outNext (i : grid0.Coords) (x0 : Vec F S1024x1024 .f32) (x1 : Vec F S1x1x6144 .f32) (x2 : Vec F S1x1024x1024 .f32)
    (h : Vec F S8x1024x1024 .bf16) (w : Vec F S1024x1024 .bf16) : Vec F S1024x1024 .f32 :=
  k0_pay3 (slab (hNext i x0 x1 h) (group i)) (wNext i x2 w)

/-- A buffer read whole holds what it was given. -/
theorem read_all {s : Shape} {e : EltTy} {arg : Memref sig .tc .vmem s e} (harg : arg.IsWhole) (x : Vec F s e) {off : Fin s.rank → ℕ}
    (inb : ∀ a, off a + s.size a ≤ s.size a) :
    arg.view.readAt (Elt F) (Rect.unit off s.size inb).toLoadRect (harg.unread x) = x := by
  rw [View.readAt_full, harg.read_unread]

/-- The rows of the point's group, read from what was kept. -/
theorem read_slab {arg : Memref sig .tc .vmem S8x1024x1024 .bf16} (harg : arg.IsWhole) (h : Vec F S8x1024x1024 .bf16) (i : grid0.Coords)
    (inb : ∀ a, k0_off2 i a + S1x1024x1024.size a ≤ S8x1024x1024.size a) :
    arg.view.readAt (Elt F) (Rect.unit (s := S8x1024x1024) (k0_off2 i) S1x1024x1024.size inb).toLoadRect (harg.unread h) = slab h (group i) := by
  rw [View.readAt_unit arg.view _ inb (off2_eq i) (slot_inb _), harg.read_unread]
  rfl

/-- The rows of the point's group, read after they were stored. -/
theorem read_stored (arg : Memref sig .tc .vmem S8x1024x1024 .bf16) (i : grid0.Coords) (w : Vec F S1x1024x1024 .bf16)
    (inb : ∀ a, k0_off1 i a + S1x1024x1024.size a ≤ S8x1024x1024.size a)
    (inb' : ∀ a, k0_off2 i a + S1x1024x1024.size a ≤ S8x1024x1024.size a) :
    arg.view.readCov [(⟨Rect.unit (s := S8x1024x1024) (k0_off1 i) S1x1024x1024.size inb, w⟩ : View.Piece (Elt F) S8x1024x1024 .bf16)]
      (Rect.unit (s := S8x1024x1024) (k0_off2 i) S1x1024x1024.size inb').toLoadRect = w := by
  unfold View.readCov
  rw [View.readAt_unit arg.view _ inb' (off2_eq i) (slot_inb _), View.read_writes_cons_put arg.view _ inb w [] (off1_eq i)]
  exact VecWindow.window_put_same _ _ _ _ _

/-- The kept rows after the store. -/
theorem read_put {arg : Memref sig .tc .vmem S8x1024x1024 .bf16} (harg : arg.IsWhole) (h : Vec F S8x1024x1024 .bf16) (i : grid0.Coords)
    (w : Vec F S1x1024x1024 .bf16) (inb : ∀ a, k0_off1 i a + S1x1024x1024.size a ≤ S8x1024x1024.size a) :
    arg.view.read (Elt F) (arg.view.writes (Elt F) (harg.unread h)
      [(⟨Rect.unit (s := S8x1024x1024) (k0_off1 i) S1x1024x1024.size inb, w⟩ : View.Piece (Elt F) S8x1024x1024 .bf16)])
      = VecWindow.put h (slot (group i)) S1x1024x1024.size w := by
  rw [View.read_writes_cons_put arg.view _ inb w [] (off1_eq i), View.writes_nil, harg.read_unread]

set_option maxHeartbeats 4000000 in
/-- The body at any point, from any contents of the buffers it keeps. -/
theorem body_run (c : Dev nD) (i : grid0.Coords)
    (arg2 : Memref sig .tc .vmem S1024x1024 .f32) (harg2 : arg2.IsWhole)
    (arg3 : Memref sig .tc .vmem S1x1x6144 .f32) (harg3 : arg3.IsWhole)
    (arg4 : Memref sig .tc .vmem S1x1024x1024 .f32) (harg4 : arg4.IsWhole)
    (arg5 : Memref sig .tc .vmem S1024x1024 .f32) (harg5 : arg5.IsWhole)
    (arg6 : Memref sig .tc .vmem S8x1024x1024 .bf16) (harg6 : arg6.IsWhole)
    (arg7 : Memref sig .tc .vmem S1024x1024 .bf16) (harg7 : arg7.IsWhole)
    (x0 : Vec F S1024x1024 .f32) (x1 : Vec F S1x1x6144 .f32) (x2 : Vec F S1x1024x1024 .f32)
    (h : Vec F S8x1024x1024 .bf16) (w : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare h ∗ owns (c : Thread nD τ) arg7 fullShare w
        ∗ (iprop(owns (c : Thread nD τ) arg2 fullShare x0 ∗ owns (c : Thread nD τ) arg3 fullShare x1 ∗ owns (c : Thread nD τ) arg4 fullShare x2
            ∗ owns (c : Thread nD τ) arg5 fullShare (outNext i x0 x1 x2 h w)
            ∗ owns (c : Thread nD τ) arg6 fullShare (hNext i x0 x1 h) ∗ owns (c : Thread nD τ) arg7 fullShare (wNext i x2 w)) -∗ K ⟨⟩))
      ⊢ wp frame (wpE (defs₀ (F := F)) Variants.none c none) E
          (cc0_inproj i arg2 harg2 arg3 harg3 arg4 harg4 arg5 harg5 arg6 harg6 arg7 harg7) K := by
  simp only [cc0_inproj_eq_skeleton]; unfold cc0_inproj_skel
  unfold owns outNext hNext wNext
  by_cases hr : firstRow i <;> by_cases hc : firstCol i
  all_goals
    first | rw [if_pos hr] | rw [if_neg hr]
    first | rw [if_pos hc] | rw [if_neg hc]
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | sl_exact hr | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      rw [View.read_writes_full]
      try unfold body_run.sl.v7
      try unfold body_run.sl.v7_1
      try unfold body_run.sl.HS0_1
      try unfold body_run.sl.HS0_1_1
      try unfold body_run.sl.v9
      try unfold body_run.sl.v9_1
      try unfold body_run.sl.HS1_1
      try unfold body_run.sl.HS1_1_1
      first | rw [read_stored, slab, VecWindow.window_put_same, read_all harg3, read_all harg2] | rw [read_slab]
      first | rw [View.readCov_full, read_all harg4] | rw [read_all harg7]
    isplitl [HS0]
    · iexists _; isplitr
      swap; · iexact HS0
      ipureintro
      try unfold body_run.sl.HS0_1
      try unfold body_run.sl.HS0_1_1
      first | rw [read_put, read_all harg3, read_all harg2] | rw [harg6.read_unread]
    · iexists _; isplitr
      swap; · iexact HS1
      ipureintro
      try unfold body_run.sl.HS1_1
      try unfold body_run.sl.HS1_1_1
      first | rw [View.read_writes_full, read_all harg4] | rw [harg7.read_unread]

end Cert.Kernel4Ideal.Proj
-- ==== Proof.ProjFrame.lean ====
module

public import proofs.«01_k».proof.Proof.ProjBody
public import Idealize.ShloMosaic.Lib.Claim

/-! # The input projection's run

What the two kept buffers hold before each grid point, and from it the run: every point finds the modulated rows of its
group and the weights of its column block, whichever earlier point stored them. -/

@[expose] public section

set_option maxRecDepth 16384

noncomputable section

namespace Cert.Kernel4Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem lt_points (t : Fin cfg0.N) : t.val < 32 := lt_of_lt_of_eq t.isLt (show cfg0.N = 32 from N_0)

/-- The point that stores the rows of group `k`. -/
def rowPoint (k : Fin 8) : Fin cfg0.N := ⟨k.val, lt_of_lt_of_eq (by omega : k.val < 32) (show cfg0.N = 32 from N_0).symm⟩

/-- The point that stores the weights the point `t` uses. -/
def colPoint (t : Fin cfg0.N) : Fin cfg0.N := ⟨t.val / 8 * 8, lt_of_le_of_lt (Nat.div_mul_le_self _ _) t.isLt⟩

theorem coord0 (t : Fin cfg0.N) : (grid0.coords t 0).val = t.val / 8 % 4 := Pipeline.Grid.coords_val t 0 (by decide) rfl
theorem coord1 (t : Fin cfg0.N) : (grid0.coords t 1).val = t.val / 1 % 8 := Pipeline.Grid.coords_val t 1 (by decide) rfl

theorem group_val (t : Fin cfg0.N) : (group (grid0.coords t)).val = t.val % 8 := by
  have h := coord1 t
  rw [Nat.div_one] at h
  exact h

theorem firstRow_iff (t : Fin cfg0.N) : firstRow (grid0.coords t) ↔ t.val % 8 = 0 := by
  have ht := lt_points t
  have e1 := coord1 t
  simp only [firstRow, e1]
  word_cmp

theorem firstCol_iff (t : Fin cfg0.N) : firstCol (grid0.coords t) ↔ t.val < 8 := by
  have ht := lt_points t
  have e0 := coord0 t
  simp only [firstCol, k0_cond2, e0]
  word_cmp

/-! ## What is kept -/

/-- The modulated rows of group `k`. -/
def rowsOf (c : Dev nD) (k : Fin 8) : Vec F S1x1024x1024 .bf16 := k0_pay2 (iblk m c 1 (rowPoint k)) (iblk m c 0 (rowPoint k))

/-- The weights the point `t` uses. -/
def colsOf (c : Dev nD) (t : Fin cfg0.N) : Vec F S1024x1024 .bf16 := k0_pay1 (iblk m c 2 (colPoint t))

/-- What the point `t` writes. -/
def outOf (c : Dev nD) (t : Fin cfg0.N) : Vec F S1024x1024 .f32 := k0_pay3 (rowsOf m c (group (grid0.coords t))) (colsOf m c t)

/-- The two kept buffers before the point number `n`: the rows of the groups met so far, and the weights of the column block
    unless it starts here. -/
structure Kept (c : Dev nD) (n : ℕ) (h : Vec F S8x1024x1024 .bf16) (w : Vec F S1024x1024 .bf16) : Prop where
  rows : ∀ k : Fin 8, k.val < n → slab h k = rowsOf m c k
  cols : ∀ t : Fin cfg0.N, t.val = n → t.val % 8 ≠ 0 → w = colsOf m c t

variable {m}
variable {c : Dev nD} {t : Fin cfg0.N} {h : Vec F S8x1024x1024 .bf16} {w : Vec F S1024x1024 .bf16}

/-- The point finds, or stores, the weights it uses. -/
theorem Kept.wNext (K : Kept m c t.val h w) : wNext (grid0.coords t) (iblk m c 2 t) w = colsOf m c t := by
  unfold Proj.wNext
  by_cases hr : t.val % 8 = 0
  · rw [if_pos ((firstRow_iff t).mpr hr)]
    have e : colPoint t = t := Fin.ext (by show t.val / 8 * 8 = t.val; omega)
    unfold colsOf
    rw [e]
  · rw [if_neg fun x => hr ((firstRow_iff t).mp x)]
    exact K.cols t rfl hr

/-- The point finds, or stores, the rows of its group. -/
theorem Kept.slab (K : Kept m c t.val h w) :
    slab (hNext (grid0.coords t) (iblk m c 0 t) (iblk m c 1 t) h) (group (grid0.coords t)) = rowsOf m c (group (grid0.coords t)) := by
  have hg := group_val t
  unfold hNext
  by_cases hc : t.val < 8
  · rw [if_pos ((firstCol_iff t).mpr hc)]
    have e : rowPoint (group (grid0.coords t)) = t := Fin.ext (by show (group (grid0.coords t)).val = t.val; omega)
    unfold rowsOf Proj.slab
    rw [e]
    exact VecWindow.window_put_same _ _ _ _ _
  · rw [if_neg fun x => hc ((firstCol_iff t).mp x)]
    exact K.rows _ (by omega)

/-- After the point the buffers are kept for the next one. -/
theorem Kept.next (K : Kept m c t.val h w) :
    Kept m c (t.val + 1) (hNext (grid0.coords t) (iblk m c 0 t) (iblk m c 1 t) h) (Proj.wNext (grid0.coords t) (iblk m c 2 t) w) := by
  have hg := group_val t
  refine ⟨fun k hk => ?_, fun t' ht hr => ?_⟩
  · by_cases hkg : k = group (grid0.coords t)
    · rw [hkg]; exact K.slab
    · have hne : k.val ≠ (group (grid0.coords t)).val := fun x => hkg (Fin.ext x)
      unfold hNext
      by_cases hc : t.val < 8
      · rw [if_pos ((firstCol_iff t).mpr hc)]
        refine Eq.trans ?_ (K.rows k (by omega))
        refine VecWindow.window_put_of_disjoint _ _ _ _ _ _ _ 0 ?_
        show k.val + 1 ≤ (group (grid0.coords t)).val ∨ (group (grid0.coords t)).val + 1 ≤ k.val
        omega
      · rw [if_neg fun x => hc ((firstCol_iff t).mp x)]
        exact K.rows k (by omega)
  · rw [K.wNext]
    have e : colPoint t = colPoint t' := Fin.ext (by show t.val / 8 * 8 = t'.val / 8 * 8; omega)
    unfold colsOf
    rw [e]

/-- What the point writes. -/
theorem Kept.out (K : Kept m c t.val h w) :
    outNext (grid0.coords t) (iblk m c 0 t) (iblk m c 1 t) (iblk m c 2 t) h w = outOf m c t := by
  unfold outNext outOf
  rw [K.slab, K.wNext]

variable (m)

/-! ## The pipeline's proof data -/

/-- The kept buffers as the body is passed them. -/
abbrev keptRows : Memref sig .tc .vmem S8x1024x1024 .bf16 := Memref.whole cc0_scratch0
abbrev keptCols : Memref sig .tc .vmem S1024x1024 .bf16 := Memref.whole cc0_scratch1

/-- What the launch hands the region, with the kept buffers at anything. -/
theorem launch_eq (c : Dev nD) :
    (Pipeline.ΦA spec0 c : sProp 𝕄)
      = iprop(iprop((∃ d, owns (c : Thread nD τ) keptRows fullShare d) ∗ (∃ d, owns (c : Thread nD τ) keptCols fullShare d)) ∗ (∃ r, prngReg c r)) := by
  unfold Pipeline.ΦA; rw [scopedRest0_eq]; simp only [keptRows, keptCols, owns_whole]; try rfl

/-- Before the point number `n`. -/
def inv (c : Dev nD) (n : ℕ) : sProp 𝕄 :=
  iprop(iprop(∃ h, ∃ w, ⌜Kept m c n h w⌝ ∗ owns (c : Thread nD τ) keptRows fullShare h ∗ owns (c : Thread nD τ) keptCols fullShare w)
    ∗ (∃ r, prngReg c r))

/-- The arrays as the region finds them; after a point each input's block in place and the output's at `outOf`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outOf m c t
  Φ t := inv m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outOf m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body at a point of the run -/

/-- A window's staging buffer at a point. -/
abbrev st0 (t : Fin cfg0.N) : Memref sig .tc .vmem S1024x1024 .f32 := win0_0.stage (cfg0.slots t 0)
abbrev st1 (t : Fin cfg0.N) : Memref sig .tc .vmem S1x1x6144 .f32 := win0_1.stage (cfg0.slots t 1)
abbrev st2 (t : Fin cfg0.N) : Memref sig .tc .vmem S1x1024x1024 .f32 := win0_2.stage (cfg0.slots t 2)
abbrev st3 (t : Fin cfg0.N) : Memref sig .tc .vmem S1024x1024 .f32 := win0_3.stage (cfg0.slots t 3)

/-- What the body is given. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d)))

/-- What it gives back. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t))

set_option maxHeartbeats 1600000 in
/-- The body takes a point's invariant to the next one's. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl, after0, after1, after2, after3,
    show (dats m 0 c).Φ t.castSucc = inv m c t.val from rfl, show (dats m 0 c).Φ t.succ = inv m c (t.val + 1) from rfl]
  unfold inv
  iintro ⟨⟨⟨%h, %w, %hK, HS0, HS1⟩, Hg⟩, Ho, ⟨%d0, H0⟩, ⟨%d1, H1⟩, ⟨%d2, H2⟩, ⟨%d3, H3⟩⟩
  rw [← hK.out]
  iapply (body_run c (grid0.coords t) _ _ _ _ _ _ _ _ _ _ _ _ (iblk m c 0 t) (iblk m c 1 t) (iblk m c 2 t) h w Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · iexists _; iexists _
      isplitr; · ipureintro; exact hK.next
      isplitl [HS0]; · iexact HS0
      iexact HS1
    iexact Hg
  isplitl [Ho]; · iexact Ho
  isplitl [H0]; · iexact H0
  isplitl [H1]; · iexact H1
  isplitl [H2]; · iexact H2
  iexact H3

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (body_sound m c t) rfl .rfl fun _ => .rfl

/-- Before the first point nothing is known of the kept buffers. -/
theorem hin (c : Dev nD) : Pipeline.ΦA spec0 c ⊢ (dats m 0 c).Φ 0 := by
  rw [show (dats m 0 c).Φ 0 = inv m c 0 from rfl, launch_eq]
  unfold inv
  iintro ⟨⟨⟨%h, HS0⟩, ⟨%w, HS1⟩⟩, Hg⟩
  isplitl [HS0 HS1]
  · iexists h; iexists w
    isplitr
    · ipureintro
      exact ⟨fun _ hk => absurd hk (Nat.not_lt_zero _), fun t ht hr => absurd (by rw [ht]) hr⟩
    isplitl [HS0]; · iexact HS0
    iexact HS1
  iexact Hg

/-- After the last point the kept buffers are given back. -/
theorem hout (c : Dev nD) : (dats m 0 c).Φ (Fin.last cfg0.N) ⊢ Pipeline.ΦA spec0 c := by
  rw [show (dats m 0 c).Φ (Fin.last cfg0.N) = inv m c (Fin.last cfg0.N).val from rfl, launch_eq]
  unfold inv
  iintro ⟨⟨%h, %w, -, HS0, HS1⟩, Hg⟩
  isplitl [HS0 HS1]
  · isplitl [HS0]
    · iexists _; iexact HS0
    iexists _; iexact HS1
  iexact Hg

/-! ## The run and the frame -/

set_option backward.isDefEq.respectTransparency.types false in
set_option maxHeartbeats 800000 in
/-- The launch: every array and every buffer as stated, every counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- And so do the counters. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

end Cert.Kernel4Ideal.Proj
-- ==== Proof.ProjSpec.lean ====
module

public import proofs.«01_k».proof.Proof.MergeSpec

/-!
# The input projection, element by element

A row is modulated and multiplied with the first 4096 columns of the first layer's input weights. What kernel and reference
meet in.
-/

@[expose] public section

noncomputable section

namespace Cert.Proj

open Idealize.ShloMosaic Idealize.ShloMosaic.Tactic
open Cert.Merge (hidAt)

variable (X : (⟨2, ![8192, 1024]⟩ : Shape).Idx → EReal) (M : (⟨3, ![8, 1, 6144]⟩ : Shape).Idx → EReal)
  (W : (⟨3, ![2, 1024, 7168]⟩ : Shape).Idx → EReal)

/-- Column `C` among the weights' columns. -/
def weightCol (C : Fin 4096) : Fin 7168 := ⟨C.val, by omega⟩

/-- Column `e` of head `h` among the keys, and among the values. -/
def keyCol (h : Fin 8) (e : Fin 64) : Fin 4096 := ⟨3072 + (h.val * 64 + e.val), by omega⟩
def valueCol (h : Fin 8) (e : Fin 64) : Fin 4096 := ⟨3584 + (h.val * 64 + e.val), by omega⟩

/-- Column `C` of the projected row `R`. -/
def projAt (R : Fin 8192) (C : Fin 4096) : EReal := ∑ d : Fin 1024, hidAt X M R d * W (ix3 0 d (weightCol C))

end Cert.Proj
-- ==== Proof.ProjArray.lean ====
module

public import proofs.«01_k».proof.Proof.ProjFrame
public import proofs.«01_k».proof.Proof.FfnRef
public import proofs.«01_k».proof.Proof.ProjSpec
public import Idealize.ShloMosaic.Lib.Pipeline.Value
public import Idealize.ShloMosaic.Lib.StableHlo.ReadAt
public import Idealize.ShloMosaic.PureOps.IdealRules

/-! # The input projection's result arrays

The blocks read at an element, what is kept and written at an element, and from it the projected rows and the prompt's keys
and values. -/

@[expose] public section

set_option maxRecDepth 100000

noncomputable section

namespace Cert.Kernel4Ideal.Proj

open Idealize.ShloMosaic Idealize.ShloMosaic.TcCoe Idealize.ShloMosaic.Tactic
open Cert.Kernel4Ideal Cert.Kernel4Ideal.Gen Cert.Proj
open Cert.Merge (hidAt)
open Cert.Reference2Ideal.Ffn (promptRow)
open Idealize.ShloMosaic.Pipeline (Dat Cfg Window)

variable (m : (ℓ : Loc nD τ sig) → Buf (Elt Ideal) ℓ)

/-! ## The blocks -/

theorem index0 (t : Fin cfg0.N) : t.val < 8 → (cfg0.win 0).index t 0 = t.val ∧ (cfg0.win 0).index t 1 = 0 := by
  revert t; decide +kernel
theorem index1 (t : Fin cfg0.N) :
    t.val < 8 → (cfg0.win 1).index t 0 = t.val ∧ (cfg0.win 1).index t 1 = 0 ∧ (cfg0.win 1).index t 2 = 0 := by
  revert t; decide +kernel
theorem index2 (t : Fin cfg0.N) :
    (cfg0.win 2).index t 0 = 0 ∧ (cfg0.win 2).index t 1 = 0 ∧ (cfg0.win 2).index t 2 = t.val / 8 := by
  revert t; decide +kernel
theorem index3 (t : Fin cfg0.N) : (cfg0.win 3).index t 0 = t.val % 8 ∧ (cfg0.win 3).index t 1 = t.val / 8 := by
  revert t; decide +kernel

/-- Row `r` of group `k`. -/
def groupRow (k : Fin 8) (r : Fin 1024) : Fin 8192 := ⟨1024 * k.val + r.val, by omega⟩

/-- Column `C` of the point `t`'s column block. -/
def blockCol (t : Fin cfg0.N) (C : Fin 1024) : Fin 4096 := ⟨1024 * (t.val / 8) + C.val, by have := lt_points t; omega⟩

theorem groupRow_mod (k : Fin 8) (r : Fin 1024) :
    (⟨(groupRow k r).val / 1024, by have := (groupRow k r).isLt; omega⟩ : Fin 8) = k :=
  Fin.ext (by show (1024 * k.val + r.val) / 1024 = k.val; omega)

/-- The rows. -/
theorem iblk0_apply (c : Dev nD) (k : Fin 8) (r d : Fin 1024) :
    iblk m c 0 (rowPoint k) (ix2 r d) = (m (c, main_arg0) : S8192x1024.Idx → EReal) (ix2 (groupRow k r) d) := by
  unfold iblk
  rw [View.read_apply, show V m c (Pipeline.arrRef spec0 0) = m (c, main_arg0) from V_main_arg0 m c]
  have h := index0 (rowPoint k) k.isLt
  refine congrArg (m (c, main_arg0) : S8192x1024.Idx → EReal) (funext fun x => Fin.ext ?_)
  refine (Window.rect_emb_val (cfg0.win 0) (rowPoint k) (ix2 r d) x).trans ?_
  match x with
  | 0 => rw [h.1]; show k.val * 1024 + r.val = 1024 * k.val + r.val; omega
  | 1 => rw [h.2]; show 0 * 1024 + d.val = d.val; omega

/-- The modulation. -/
theorem iblk1_apply (c : Dev nD) (k : Fin 8) (e : Fin 6144) :
    iblk m c 1 (rowPoint k) (ix3 0 0 e) = (m (c, main_arg1) : S8x1x6144.Idx → EReal) (ix3 k 0 e) := by
  unfold iblk
  rw [View.read_apply, show V m c (Pipeline.arrRef spec0 1) = m (c, main_arg1) from V_main_arg1 m c]
  have h := index1 (rowPoint k) k.isLt
  refine congrArg (m (c, main_arg1) : S8x1x6144.Idx → EReal) (funext fun x => Fin.ext ?_)
  refine (Window.rect_emb_val (cfg0.win 1) (rowPoint k) (ix3 0 0 e) x).trans ?_
  match x with
  | 0 => rw [h.1]; show k.val * 1 + 0 = k.val; omega
  | 1 => rw [h.2.1]; rfl
  | 2 => rw [h.2.2]; show 0 * 6144 + e.val = e.val; omega

/-- The weights. -/
theorem iblk2_apply (c : Dev nD) (t : Fin cfg0.N) (d C : Fin 1024) :
    iblk m c 2 t (ix3 0 d C) = (m (c, main_arg2) : S2x1024x7168.Idx → EReal) (ix3 0 d (weightCol (blockCol t C))) := by
  unfold iblk
  rw [View.read_apply, show V m c (Pipeline.arrRef spec0 2) = m (c, main_arg2) from V_main_arg2 m c]
  have h := index2 t
  refine congrArg (m (c, main_arg2) : S2x1024x7168.Idx → EReal) (funext fun x => Fin.ext ?_)
  refine (Window.rect_emb_val (cfg0.win 2) t (ix3 0 d C) x).trans ?_
  match x with
  | 0 => rw [h.1]; rfl
  | 1 => rw [h.2.1]; show 0 * 1024 + d.val = d.val; omega
  | 2 => rw [h.2.2]; show t.val / 8 * 1024 + C.val = 1024 * (t.val / 8) + C.val; omega

/-! ## What is kept and written -/

theorem rowsOf_apply (c : Dev nD) (k : Fin 8) (r d : Fin 1024) :
    rowsOf m c k (ix3 0 r d) = hidAt (m (c, main_arg0) : S8192x1024.Idx → EReal) (m (c, main_arg1) : S8x1x6144.Idx → EReal) (groupRow k r) d := by
  unfold rowsOf
  unfold_payloads
  pointwise [iblk0_apply m c k, iblk1_apply m c k]
  unfold hidAt
  rw [groupRow_mod]

theorem colsOf_apply (c : Dev nD) (t : Fin cfg0.N) (d C : Fin 1024) :
    colsOf m c t (ix2 d C) = (m (c, main_arg2) : S2x1024x7168.Idx → EReal) (ix3 0 d (weightCol (blockCol t C))) := by
  have e : blockCol (colPoint t) C = blockCol t C :=
    Fin.ext (by show 1024 * (t.val / 8 * 8 / 8) + C.val = 1024 * (t.val / 8) + C.val; omega)
  rw [← e]
  unfold colsOf
  unfold_payloads
  pointwise [iblk2_apply m c (colPoint t)]

theorem outOf_apply (c : Dev nD) (t : Fin cfg0.N) (r C : Fin 1024) :
    outOf m c t (ix2 r C) = projAt (m (c, main_arg0) : S8192x1024.Idx → EReal) (m (c, main_arg1) : S8x1x6144.Idx → EReal)
      (m (c, main_arg2) : S2x1024x7168.Idx → EReal) (groupRow (group (grid0.coords t)) r) (blockCol t C) := by
  unfold outOf
  unfold_payloads
  pointwise [rowsOf_apply m c, colsOf_apply m c t]
  rfl

/-! ## The projected rows -/

theorem flush_points : ∀ t t' : Fin cfg0.N, (cfg0.win 3).index t = (cfg0.win 3).index t' → t = t' := fun t t' h => by
  have h0 := congrFun h 0
  have h1 := congrFun h 1
  rw [(index3 t).1, (index3 t').1] at h0
  rw [(index3 t).2, (index3 t').2] at h1
  exact Fin.ext (by omega)

/-- The result array's block of a point is what the point wrote. -/
theorem block_apply (c : Dev nD) (t : Fin cfg0.N) :
    ((cfg0.win 3).blk t).view.read (Elt Ideal) ((dats m 0 c).arrAt 3 cfg0.N) = (cfg0.win 3).cut (grid0.coords t) (outOf m c t) := by
  refine ((dats m 0 c).read_blk_arrAt_eq_flushed 3 (fun t t' _ _ hne => (cfg0.win 3).disjoint_blk fun h => hne (flush_points t t' h))
    cfg0.N t t.isLt (flush0_3 t)).trans ?_
  show (cfg0.win 3).cut (grid0.coords t) ((dats m 0 c).after 3 t) = _
  rw [after3]

/-- The projected rows at row `R`, column `C`. -/
theorem final_apply (c : Dev nD) (R : Fin 8192) (C : Fin 4096) :
    ((dats m 0 c).arrAt 3 cfg0.N : S8192x4096.Idx → EReal) (ix2 R C)
      = projAt (m (c, main_arg0) : S8192x1024.Idx → EReal) (m (c, main_arg1) : S8x1x6144.Idx → EReal)
        (m (c, main_arg2) : S2x1024x7168.Idx → EReal) R C := by
  have hN : 8 * (C.val / 1024) + R.val / 1024 < cfg0.N := by show _ < 32; omega
  obtain ⟨t, ht⟩ : ∃ t : Fin cfg0.N, t.val = 8 * (C.val / 1024) + R.val / 1024 := ⟨⟨_, hN⟩, rfl⟩
  have hb := congrFun (block_apply m c t) (ix2 (⟨R % 1024, by omega⟩ : Fin 1024) (⟨C % 1024, by omega⟩ : Fin 1024))
  rw [View.read_apply] at hb
  have hidx : (((cfg0.win 3).blk t).view.emb (ix2 (⟨R % 1024, by omega⟩ : Fin 1024) (⟨C % 1024, by omega⟩ : Fin 1024)) : S8192x4096.Idx)
      = ix2 R C := by
    have h := index3 t
    refine funext fun x => Fin.ext ?_
    refine (Window.rect_emb_val (cfg0.win 3) t _ x).trans ?_
    match x with
    | 0 => rw [h.1]; show _ * 1024 + R.val % 1024 = R.val; omega
    | 1 => rw [h.2]; show _ * 1024 + C.val % 1024 = C.val; omega
  rw [hidx] at hb
  refine hb.trans ((outOf_apply m c t _ _).trans ?_)
  have hg := group_val t
  have e0 : groupRow (group (grid0.coords t)) ⟨R.val % 1024, by omega⟩ = R :=
    Fin.ext (by show 1024 * (group (grid0.coords t)).val + R.val % 1024 = R.val; omega)
  have e1 : blockCol t ⟨C.val % 1024, by omega⟩ = C :=
    Fin.ext (by show 1024 * (t.val / 8) + C.val % 1024 = C.val; omega)
  rw [e0, e1]

/-! ## The prompt's keys and values -/

/-- The buffers when the region is left. -/
abbrev atExit (c : Dev nD) := Pipeline.withArrays spec0 c (V0 m c) fun w => (dats m 0 c).arrAt w cfg0.N

theorem atExit_rows (c : Dev nD) : atExit m c (Proc.devRef .tc main_v0) = (dats m 0 c).arrAt 3 cfg0.N :=
  Pipeline.withArrays_arr spec0 launch0.win.arr_inj c (V0 m c) (fun w => (dats m 0 c).arrAt w cfg0.N) 3

/-- The prompt's keys at an element. -/
theorem keys_apply (c : Dev nD) (b : Fin 16) (t : Fin 256) (h : Fin 8) (e : Fin 64) :
    (Pipeline.afterTail₀ cfgs (dats m) 0 (V0 m) [hostOps1] c main_v2 : S16x256x8x64.Idx → EReal) (ix4 b t h e)
      = ((dats m 0 c).arrAt 3 cfg0.N : S8192x4096.Idx → EReal) (ix2 (promptRow b t) (keyCol h e)) := by
  rw [← atExit_rows]
  unfold Pipeline.afterTail₀
  show StableHlo.after hostOps1 (atExit m c) (Proc.devRef .tc main_v2) (ix4 b t h e) = _
  generalize atExit m c = v
  after_reads_at
  rfl

theorem values_apply (c : Dev nD) (b : Fin 16) (t : Fin 256) (h : Fin 8) (e : Fin 64) :
    (Pipeline.afterTail₀ cfgs (dats m) 0 (V0 m) [hostOps1] c main_v4 : S16x256x8x64.Idx → EReal) (ix4 b t h e)
      = ((dats m 0 c).arrAt 3 cfg0.N : S8192x4096.Idx → EReal) (ix2 (promptRow b t) (valueCol h e)) := by
  rw [← atExit_rows]
  unfold Pipeline.afterTail₀
  show StableHlo.after hostOps1 (atExit m c) (Proc.devRef .tc main_v4) (ix4 b t h e) = _
  generalize atExit m c = v
  after_reads_at
  rfl

end Cert.Kernel4Ideal.Proj
-- ==== Proof.ProjRef.lean ====
module

public import proofs.«01_k».proof.Proof.Gen.Reference4Ideal.Read
public import proofs.«01_k».proof.Proof.FfnRef
public import proofs.«01_k».proof.Proof.ProjSpec

/-!
# The input projection's reference, element by element

The reference projects the prompt's 16 sequences and the samples' 4 sequences one after the other; the keys and values are
columns of the prompt's part.
-/

@[expose] public section

set_option maxRecDepth 100000

noncomputable section

namespace Cert.Reference4Ideal.Proj

open Idealize.ShloMosaic Idealize.ShloMosaic.TcCoe Idealize.SL.Sem Idealize.ShloMosaic.Tactic
open Cert.Reference4Ideal Cert.Reference4Ideal.Gen Cert.Reference4Ideal.Read Cert.Proj
open Cert.Merge (hidAt)
open Cert.Reference2Ideal.Ffn (promptRow sampleRow promptMod sampleMod)

variable (x0 : S8192x1024.Idx → EReal) (x1 : S8x1x6144.Idx → EReal) (x2 : S2x1024x7168.Idx → EReal)

theorem v19_at (b : Fin 16) (t : Fin 256) (d : Fin 1024) :
    val_main_v19 (F := Ideal) x0 x1 (ix3 b t d) = hidAt x0 x1 (promptRow b t) d := by
  unfold val_main_v19 val_main_v18 val_main_v17 val_main_v16 val_main_v15 val_main_v14 val_main_cst val_main_v9 val_main_v8
    val_main_v7 val_main_v6 val_main_v5 val_main_v4 val_main_v3 val_main_v2 val_main_v1 val_main_v0
  pointwise
  unfold hidAt
  rw [promptMod]
  rfl

/-- The prompt's projection. -/
theorem v22_at (b : Fin 16) (t : Fin 256) (C : Fin 4096) :
    val_main_v22 (F := Ideal) x0 x1 x2 (ix3 b t C) = projAt x0 x1 x2 (promptRow b t) C := by
  unfold val_main_v22 val_main_v21 val_main_v20
  pointwise [v19_at]
  rfl

theorem v38_at (b : Fin 4) (t : Fin 1024) (d : Fin 1024) :
    val_main_v38 (F := Ideal) x0 x1 (ix3 b t d) = hidAt x0 x1 (sampleRow b t) d := by
  unfold val_main_v38 val_main_v37 val_main_v36 val_main_v35 val_main_v34 val_main_v33 val_main_cst_0 val_main_v28
    val_main_v27 val_main_v26 val_main_v25 val_main_v24 val_main_v23 val_main_v0
  pointwise
  unfold hidAt
  rw [sampleMod]
  rfl

/-- The samples' projection. -/
theorem v41_at (b : Fin 4) (t : Fin 1024) (C : Fin 4096) :
    val_main_v41 (F := Ideal) x0 x1 x2 (ix3 b t C) = projAt x0 x1 x2 (sampleRow b t) C := by
  unfold val_main_v41 val_main_v40 val_main_v39
  pointwise [v38_at]
  rfl

/-- All projected rows, at row `R`, column `C`. -/
theorem ref_at (R : Fin 8192) (C : Fin 4096) : val_main_v48 (F := Ideal) x0 x1 x2 (ix2 R C) = projAt x0 x1 x2 R C := by
  unfold val_main_v48 val_main_v47 val_main_v46
  pointwise
  split
  · refine (v22_at x0 x1 x2 _ _ C).trans (congrArg (projAt x0 x1 x2 · C) (Fin.ext ?_))
    show R.val / 256 * 256 + R.val % 256 = R.val
    omega
  · refine (v41_at x0 x1 x2 _ _ C).trans (congrArg (projAt x0 x1 x2 · C) (Fin.ext ?_))
    show 4096 + ((R.val - 4096) / 1024 * 1024 + (R.val - 4096) % 1024) = R.val
    omega

theorem keys_at (b : Fin 16) (t : Fin 256) (h : Fin 8) (e : Fin 64) :
    val_main_v43 (F := Ideal) x0 x1 x2 (ix4 b t h e) = projAt x0 x1 x2 (promptRow b t) (keyCol h e) := by
  unfold val_main_v43 val_main_v42
  pointwise [v22_at]
  rfl

theorem values_at (b : Fin 16) (t : Fin 256) (h : Fin 8) (e : Fin 64) :
    val_main_v45 (F := Ideal) x0 x1 x2 (ix4 b t h e) = projAt x0 x1 x2 (promptRow b t) (valueCol h e) := by
  unfold val_main_v45 val_main_v44
  pointwise [v22_at]
  rfl

end Cert.Reference4Ideal.Proj
-- ==== Proof.ProjClaim.lean ====
module

public import proofs.«01_k».proof.Defs
public import proofs.«01_k».proof.Proof.ProjArray
public import proofs.«01_k».proof.Proof.ProjRef
public import proofs.«01_k».proof.Proof.Gen.Kernel4.Frame
public import proofs.«01_k».proof.Proof.Gen.Kernel4.Skeleton
public import proofs.«01_k».proof.Proof.Gen.Kernel4Ideal.Frame
public import proofs.«01_k».proof.Proof.Gen.Kernel4Ideal.Skeleton
public import proofs.«01_k».proof.Proof.Gen.Reference4Ideal.Run
public import proofs.«01_k».proof.Proof.Gen.Reference4Ideal.Read

/-! # The input projection's claims

Frames of the kernel, of its idealization and of the reference; and that kernel and reference end with equal results. The
kernel and its idealization are the same program, so the run of the one, proved for any float values, is the run of the
other. -/

@[expose] public section

set_option maxRecDepth 100000

noncomputable section

namespace Cert.Proof.Proj

open Idealize.ShloMosaic Idealize.ShloMosaic.TcCoe Idealize.SL.Sem Idealize.ShloMosaic.Tactic
open Cert.Kernel4Ideal.Proj Cert.Reference4Ideal.Proj

instance : Cert.Kernel4.Facts := Cert.Kernel4.Gen.facts
instance : Cert.Kernel4Ideal.Facts := Cert.Kernel4Ideal.Gen.facts
instance : Cert.Reference4Ideal.Facts := Cert.Reference4Ideal.Gen.facts

/-! ## Frames -/

section
variable {F : FTy → Type} [FloatOps F]

theorem defs₀_eq : Cert.Kernel4.defs₀ (F := F) = Cert.Kernel4Ideal.defs₀ := by
  unfold Cert.Kernel4.defs₀ Cert.Kernel4Ideal.defs₀
  refine congrArg Defs.onTc ?_
  funext l a
  match l, a with
  | 0, (t, s) => rfl

/-- The kernel's functions are its idealization's. -/
theorem defs_eq : Cert.Kernel4.defs (F := F) = Cert.Kernel4Ideal.defs := by
  unfold Cert.Kernel4.defs Cert.Kernel4Ideal.defs
  rw [defs₀_eq]
  rfl
end

theorem frame_k : Cert.quiescent_Kernel4 := by
  intro m ρ _
  rw [defs_eq]
  exact Cert.Kernel4Ideal.Proj.frame_all (F := Bits) m ρ

theorem frame_ki : Cert.quiescent_Kernel4Ideal := fun m ρ _ => Cert.Kernel4Ideal.Proj.frame_all (F := Ideal) m ρ

/-- The reference leaves its arguments alone; it has no semaphores. -/
theorem frame_ri : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-! ## Equal results -/

section
open Cert.Kernel4Ideal Cert.Kernel4Ideal.Gen

variable (m : (ℓ : Loc nD τ sig) → Buf (Elt Ideal) ℓ) (ρ : Dev nD → PrngReg)

/-- The buffers when the kernel's program ends. -/
abbrev atEnd (c : Dev nD) (b : Ref sig .tc) := Pipeline.afterTail₀ cfgs (dats m) 0 (V0 m) [hostOps1] c b

/-- The kernel's results. -/
theorem results : θ_run defs (onTc (τ := τ) (main (F := Ideal))) ⟨m, fun _ => 0, ρ⟩ (fun r => ∀ c : Dev nD,
      r.2.mem ((c.tc : Thread nD τ).loc main_v0) = (dats m 0 c).arrAt 3 cfg0.N
      ∧ r.2.mem ((c.tc : Thread nD τ).loc main_v2) = atEnd m c main_v2
      ∧ r.2.mem ((c.tc : Thread nD τ).loc main_v4) = atEnd m c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 3,
      (h.1 c).2 main_v2 (Pipeline.mem_restRefs_of main_v2 rfl (by decide)),
      (h.1 c).2 main_v4 (Pipeline.mem_restRefs_of main_v4 rfl (by decide)), h.2 c⟩)
    (θ_run_and (run_main m ρ) (unchanged m ρ))

/-- The reference's projected rows are the kernel's. -/
theorem same_rows (c : Dev nD) :
    Cert.Reference4Ideal.Read.val_main_v48 (F := Ideal) (m ((c.tc : Thread nD τ).loc main_arg0)) (m ((c.tc : Thread nD τ).loc main_arg1))
      (m ((c.tc : Thread nD τ).loc main_arg2)) = (dats m 0 c).arrAt 3 cfg0.N := by
  funext i
  have hi : (ix2 (i 0) (i 1) : S8192x4096.Idx) = i := by
    funext a
    match a with
    | 0 => rfl
    | 1 => rfl
  rw [← hi]
  exact (ref_at _ _ _ (i 0) (i 1)).trans (final_apply m c (i 0) (i 1)).symm

/-- An index of four axes is its coordinates. -/
theorem eta4 (i : S16x256x8x64.Idx) : ix4 (i 0) (i 1) (i 2) (i 3) = i := by
  funext a
  match a with
  | 0 => rfl
  | 1 => rfl
  | 2 => rfl
  | 3 => rfl

/-- The reference's keys are the kernel's. -/
theorem same_keys (c : Dev nD) :
    Cert.Reference4Ideal.Read.val_main_v43 (F := Ideal) (m ((c.tc : Thread nD τ).loc main_arg0)) (m ((c.tc : Thread nD τ).loc main_arg1))
      (m ((c.tc : Thread nD τ).loc main_arg2)) = atEnd m c main_v2 := by
  funext i
  rw [← eta4 i]
  exact (keys_at _ _ _ (i 0) (i 1) (i 2) (i 3)).trans
    ((keys_apply m c (i 0) (i 1) (i 2) (i 3)).trans (final_apply m c _ _)).symm

/-- The reference's values are the kernel's. -/
theorem same_values (c : Dev nD) :
    Cert.Reference4Ideal.Read.val_main_v45 (F := Ideal) (m ((c.tc : Thread nD τ).loc main_arg0)) (m ((c.tc : Thread nD τ).loc main_arg1))
      (m ((c.tc : Thread nD τ).loc main_arg2)) = atEnd m c main_v4 := by
  funext i
  rw [← eta4 i]
  exact (values_at _ _ _ (i 0) (i 1) (i 2) (i 3)).trans
    ((values_apply m c (i 0) (i 1) (i 2) (i 3)).trans (final_apply m c _ _)).symm

end

/-- Kernel and reference end with equal results. -/
theorem algebraic : Cert.algebraic_Kernel4Ideal_Reference4Ideal := by
  intro m g m' g' _ hagree
  refine ⟨fun c => (dats m 0 c).arrAt 3 Cert.Kernel4Ideal.cfg0.N, fun c => atEnd m c Cert.Kernel4Ideal.main_v2,
    fun c => atEnd m c Cert.Kernel4Ideal.main_v4, results m g, ?_⟩
  refine (θ_run Cert.Reference4Ideal.defs _ _).mono (fun r h c => ?_) (Cert.Reference4Ideal.Value.run (F := Ideal) m' g')
  obtain ⟨hz, hk, hv, hargs⟩ := h c
  obtain ⟨h0, h1, h2⟩ := hagree c
  refine ⟨(hz.trans (Cert.Reference4Ideal.Read.val_main_v48_eq _ _ _)).trans (Eq.trans ?_ (same_rows m c)),
    (hk.trans (Cert.Reference4Ideal.Read.val_main_v43_eq _ _ _)).trans (Eq.trans ?_ (same_keys m c)),
    (hv.trans (Cert.Reference4Ideal.Read.val_main_v45_eq _ _ _)).trans (Eq.trans ?_ (same_values m c)), hargs⟩
  · exact congr (congr (congrArg (Cert.Reference4Ideal.Read.val_main_v48 (F := Ideal)) h0) h1) h2
  · exact congr (congr (congrArg (Cert.Reference4Ideal.Read.val_main_v43 (F := Ideal)) h0) h1) h2
  · exact congr (congr (congrArg (Cert.Reference4Ideal.Read.val_main_v45 (F := Ideal)) h0) h1) h2

end Cert.Proof.Proj
-- ==== Proof.ModSpec.lean ====
module

public import proofs.«01_k».proof.Proof.MergeSpec

/-!
# The modulation, element by element

Each of the eight row groups has a condition, the context's for the prompt's four and the sample's own for the others; it
passes the gated linear unit and an affine map per layer. What kernel and reference meet in.
-/

@[expose] public section

noncomputable section

namespace Cert.Mod

open Idealize.ShloMosaic Idealize.ShloMosaic.Tactic
open Cert.Merge (sigmAt)

/-- The sigmoid-weighted linear unit. -/
def siluAt (a : EReal) : EReal := a * sigmAt a

variable (X : (⟨2, ![4, 1024]⟩ : Shape).Idx → EReal) (C : (⟨1, ![1024]⟩ : Shape).Idx → EReal)
  (W : (⟨3, ![2, 1024, 6144]⟩ : Shape).Idx → EReal) (B : (⟨2, ![2, 6144]⟩ : Shape).Idx → EReal)

/-- Entry `d` of the condition of group `g`. -/
def condAt (g : Fin 8) (d : Fin 1024) : EReal := if h : g.val < 4 then C (ix1 d) else X (ix2 ⟨g.val - 4, by omega⟩ d)

theorem condAt_prompt (g : Fin 8) (d : Fin 1024) (h : g.val < 4) : condAt X C g d = C (ix1 d) := by
  unfold condAt
  rw [dif_pos h]

theorem condAt_sample (g : Fin 8) (d : Fin 1024) (h : ¬ g.val < 4) : condAt X C g d = X (ix2 ⟨g.val - 4, by omega⟩ d) := by
  unfold condAt
  rw [dif_neg h]

/-- Column `e` of layer `l`'s modulation of group `g`. -/
def modAt (l : Fin 2) (g : Fin 8) (e : Fin 6144) : EReal :=
  (∑ d : Fin 1024, siluAt (condAt X C g d) * W (ix3 l d e)) + B (ix2 l e)

end Cert.Mod
-- ==== Proof.ModArray.lean ====
module

public import proofs.«01_k».proof.Proof.Gen.Kernel5Ideal.Value
public import proofs.«01_k».proof.Proof.MergePoint
public import proofs.«01_k».proof.Proof.ModSpec
public import Idealize.ShloMosaic.Lib.Pipeline.Value
public import Idealize.ShloMosaic.Lib.StableHlo.ReadAt
public import Idealize.ShloMosaic.Lib.VecWindow
public import Idealize.ShloMosaic.PureOps.IdealRules

/-! # The modulation kernel's result array

Each of the eight grid points holds all conditions and a block of 1536 columns of one layer's weights and offsets, and writes
those columns of the layer's modulation. -/

@[expose] public section

set_option maxRecDepth 100000

noncomputable section

namespace Cert.Kernel5Ideal.Mod

open Idealize.ShloMosaic Idealize.ShloMosaic.TcCoe Idealize.ShloMosaic.Tactic
open Cert.Kernel5Ideal Cert.Kernel5Ideal.Gen Cert.Mod
open Cert.Merge (sigmAt)
open Idealize.ShloMosaic.Pipeline (Dat Cfg Window)

/-! ## A point's output block -/

section
variable (x0 : Vec Ideal S8x1024 .f32) (x1 : Vec Ideal S1x1024x1536 .f32) (x2 : Vec Ideal S1x1x1536 .f32)

/-- The point's output block, from what its blocks hold. -/
theorem out_at (g : Fin 8) (e : Fin 1536) :
    out0_3 x0 x1 x2 (ix3 0 g e) = (∑ d : Fin 1024, siluAt (x0 (ix2 g d)) * x1 (ix3 0 d e)) + x2 (ix3 0 0 e) := by
  unfold out0_3
  refine (congrFun (View.canon_unit_zero (by decide) _ _) (ix3 0 g e)).trans ?_
  unfold_payloads
  pointwise
  refine congrArg (· + _) (Finset.sum_congr rfl fun d _ => congrArg (· * _) ?_)
  exact congrArg (_ * ·) (Cert.Kernel3Ideal.Merge.sigm_sub _)

end

/-! ## The blocks -/

variable (m : (ℓ : Loc nD τ sig) → Buf (Elt Ideal) ℓ)

theorem index0 (t : Fin cfg0.N) : (cfg0.win 0).index t 0 = 0 ∧ (cfg0.win 0).index t 1 = 0 := by
  revert t; decide +kernel
theorem index1 (t : Fin cfg0.N) :
    (cfg0.win 1).index t 0 = t.val / 4 ∧ (cfg0.win 1).index t 1 = 0 ∧ (cfg0.win 1).index t 2 = t.val % 4 := by
  revert t; decide +kernel
theorem index2 (t : Fin cfg0.N) :
    (cfg0.win 2).index t 0 = t.val / 4 ∧ (cfg0.win 2).index t 1 = 0 ∧ (cfg0.win 2).index t 2 = t.val % 4 := by
  revert t; decide +kernel
theorem index3 (t : Fin cfg0.N) :
    (cfg0.win 3).index t 0 = t.val / 4 ∧ (cfg0.win 3).index t 1 = 0 ∧ (cfg0.win 3).index t 2 = t.val % 4 := by
  revert t; decide +kernel

theorem lt_points (t : Fin cfg0.N) : t.val < 8 := t.isLt

/-- The layer of a point, and column `e` of its column block. -/
def layer (t : Fin cfg0.N) : Fin 2 := ⟨t.val / 4, by have := lt_points t; omega⟩
def blockCol (t : Fin cfg0.N) (e : Fin 1536) : Fin 6144 := ⟨1536 * (t.val % 4) + e.val, by omega⟩

/-- The conditions as the call gets them. -/
theorem V_v2_apply (c : Dev nD) (g : Fin 8) (d : Fin 1024) :
    (V m c main_v2 : S8x1024.Idx → EReal) (ix2 g d)
      = condAt (m (c, main_arg0) : S4x1024.Idx → EReal) (m (c, main_arg1) : S1024.Idx → EReal) g d := by
  unfold V
  after_reads_at
  rfl

/-- The offsets as the call gets them. -/
theorem V_v3_apply (c : Dev nD) (l : Fin 2) (e : Fin 6144) :
    (V m c main_v3 : S2x1x6144.Idx → EReal) (ix3 l 0 e) = (m (c, main_arg3) : S2x6144.Idx → EReal) (ix2 l e) := by
  unfold V
  after_reads_at

/-- The conditions. -/
theorem iblk0_apply (c : Dev nD) (t : Fin cfg0.N) (g : Fin 8) (d : Fin 1024) :
    iblk m c 0 t (ix2 g d)
      = condAt (m (c, main_arg0) : S4x1024.Idx → EReal) (m (c, main_arg1) : S1024.Idx → EReal) g d := by
  refine Eq.trans ?_ (V_v2_apply m c g d)
  unfold iblk
  rw [View.read_apply]
  have h := index0 t
  refine congrArg (V m c main_v2 : S8x1024.Idx → EReal) (funext fun x => Fin.ext ?_)
  refine (Window.rect_emb_val (cfg0.win 0) t (ix2 g d) x).trans ?_
  match x with
  | 0 => rw [h.1]; show 0 * 8 + g.val = g.val; omega
  | 1 => rw [h.2]; show 0 * 1024 + d.val = d.val; omega

/-- The weights. -/
theorem iblk1_apply (c : Dev nD) (t : Fin cfg0.N) (d : Fin 1024) (e : Fin 1536) :
    iblk m c 1 t (ix3 0 d e) = (m (c, main_arg2) : S2x1024x6144.Idx → EReal) (ix3 (layer t) d (blockCol t e)) := by
  unfold iblk
  rw [View.read_apply, show V m c (Pipeline.arrRef spec0 1) = m (c, main_arg2) from V_main_arg2 m c]
  have h := index1 t
  refine congrArg (m (c, main_arg2) : S2x1024x6144.Idx → EReal) (funext fun x => Fin.ext ?_)
  refine (Window.rect_emb_val (cfg0.win 1) t (ix3 0 d e) x).trans ?_
  match x with
  | 0 => rw [h.1]; show t.val / 4 * 1 + 0 = t.val / 4; omega
  | 1 => rw [h.2.1]; show 0 * 1024 + d.val = d.val; omega
  | 2 => rw [h.2.2]; show t.val % 4 * 1536 + e.val = 1536 * (t.val % 4) + e.val; omega

/-- The offsets. -/
theorem iblk2_apply (c : Dev nD) (t : Fin cfg0.N) (e : Fin 1536) :
    iblk m c 2 t (ix3 0 0 e) = (m (c, main_arg3) : S2x6144.Idx → EReal) (ix2 (layer t) (blockCol t e)) := by
  refine Eq.trans ?_ (V_v3_apply m c (layer t) (blockCol t e))
  unfold iblk
  rw [View.read_apply]
  have h := index2 t
  refine congrArg (V m c main_v3 : S2x1x6144.Idx → EReal) (funext fun x => Fin.ext ?_)
  refine (Window.rect_emb_val (cfg0.win 2) t (ix3 0 0 e) x).trans ?_
  match x with
  | 0 => rw [h.1]; show t.val / 4 * 1 + 0 = t.val / 4; omega
  | 1 => rw [h.2.1]; rfl
  | 2 => rw [h.2.2]; show t.val % 4 * 1536 + e.val = 1536 * (t.val % 4) + e.val; omega

/-- The result array, for layer `l`, group `g` and column `e`. -/
theorem final_apply (c : Dev nD) (l : Fin 2) (g : Fin 8) (e : Fin 6144) :
    ((dats m 0 c).arrAt 3 cfg0.N : S2x8x6144.Idx → EReal) (ix3 l g e)
      = modAt (m (c, main_arg0) : S4x1024.Idx → EReal) (m (c, main_arg1) : S1024.Idx → EReal)
        (m (c, main_arg2) : S2x1024x6144.Idx → EReal) (m (c, main_arg3) : S2x6144.Idx → EReal) l g e := by
  have hN : l.val * 4 + e.val / 1536 < cfg0.N := by show _ < 8; omega
  obtain ⟨t, ht⟩ : ∃ t : Fin cfg0.N, t.val = l.val * 4 + e.val / 1536 := ⟨⟨_, hN⟩, rfl⟩
  have hl : layer t = l := Fin.ext (by show t.val / 4 = l.val; omega)
  have he : blockCol t ⟨e.val % 1536, by omega⟩ = e := Fin.ext (by show 1536 * (t.val % 4) + e.val % 1536 = e.val; omega)
  have hb := congrFun (Value.blocks3 m c t (flush0_3 t)) (ix3 0 g (⟨e.val % 1536, by omega⟩ : Fin 1536))
  rw [View.read_apply] at hb
  have hidx : (((cfg0.win 3).blk t).view.emb (ix3 0 g (⟨e.val % 1536, by omega⟩ : Fin 1536)) : S2x8x6144.Idx) = ix3 l g e := by
    have h := index3 t
    refine funext fun x => Fin.ext ?_
    refine (Window.rect_emb_val (cfg0.win 3) t _ x).trans ?_
    match x with
    | 0 => rw [h.1]; show t.val / 4 * 1 + 0 = l.val; omega
    | 1 => rw [h.2.1]; show 0 * 8 + g.val = g.val; omega
    | 2 => rw [h.2.2]; show t.val % 4 * 1536 + e.val % 1536 = e.val; omega
  rw [hidx] at hb
  refine Eq.trans hb ?_
  rw [Value.flushed3 m c t]
  refine (out_at _ _ _ g _).trans ?_
  unfold modAt
  simp only [iblk0_apply, iblk1_apply, iblk2_apply, hl, he]

end Cert.Kernel5Ideal.Mod
-- ==== Proof.ModRef.lean ====
module

public import proofs.«01_k».proof.Proof.Gen.Reference5Ideal.Read
public import proofs.«01_k».proof.Proof.ModSpec
public import Idealize.ShloMosaic.Lib.Pointwise
public import Idealize.ShloMosaic.PureOps.IdealRules

/-!
# The modulation's reference, element by element

The reference modulates 16 prompt sequences, all with the context's condition, and 4 sample sequences; a prompt group takes
the modulation of its first sequence.
-/

@[expose] public section

set_option maxRecDepth 100000

noncomputable section

namespace Cert.Reference5Ideal.Mod

open Idealize.ShloMosaic Idealize.ShloMosaic.TcCoe Idealize.SL.Sem Idealize.ShloMosaic.Tactic
open Cert.Reference5Ideal Cert.Reference5Ideal.Gen Cert.Reference5Ideal.Read Cert.Mod

variable (x0 : S4x1024.Idx → EReal) (x1 : S1024.Idx → EReal) (x2 : S2x1024x6144.Idx → EReal) (x3 : S2x6144.Idx → EReal)

/-- The prompt's conditions behind the unit. -/
theorem v2_at (b : Fin 16) (d : Fin 1024) : val_main_v2 (F := Ideal) x1 (ix2 b d) = siluAt (x1 (ix1 d)) := by
  unfold val_main_v2 val_main_call0_v5 val_main_call0_v4 val_main_call0_cst_0 val_main_call0_v3 val_main_call0_v2
    val_main_call0_cst val_main_call0_v1 val_main_call0_v0 val_main_v1 val_main_v0
  pointwise
  rfl

/-- The samples' conditions behind the unit. -/
theorem v11_at (b : Fin 4) (d : Fin 1024) : val_main_v11 (F := Ideal) x0 (ix2 b d) = siluAt (x0 (ix2 b d)) := by
  unfold val_main_v11 val_main_call1_v5 val_main_call1_v4 val_main_call1_cst_0 val_main_call1_v3 val_main_call1_v2
    val_main_call1_cst val_main_call1_v1 val_main_call1_v0
  pointwise
  rfl

/-- The second layer's conditions are the first one's. -/
theorem v24_eq : val_main_v24 (F := Ideal) x1 = val_main_v2 (F := Ideal) x1 := rfl
theorem v33_eq : val_main_v33 (F := Ideal) x0 = val_main_v11 (F := Ideal) x0 := rfl

/-- The first layer. -/
theorem v23_at (g : Fin 8) (e : Fin 6144) : val_main_v23 (F := Ideal) x0 x1 x2 x3 (ix2 g e) = modAt x0 x1 x2 x3 0 g e := by
  unfold val_main_v23 val_main_v22 val_main_v21 val_main_v20 val_main_v19 val_main_v18 val_main_v17 val_main_v16 val_main_v15
    val_main_v14 val_main_v13 val_main_v12 val_main_v10 val_main_v9 val_main_v8 val_main_v7 val_main_v6 val_main_v5
    val_main_v4 val_main_v3
  pointwise [v2_at, v11_at]
  unfold modAt
  split
  · rename_i h
    simp only [condAt_prompt x0 x1 g _ h]
  · rename_i h
    simp only [condAt_sample x0 x1 g _ h]

/-- The second layer. -/
theorem v45_at (g : Fin 8) (e : Fin 6144) : val_main_v45 (F := Ideal) x0 x1 x2 x3 (ix2 g e) = modAt x0 x1 x2 x3 1 g e := by
  unfold val_main_v45 val_main_v44 val_main_v43 val_main_v42 val_main_v41 val_main_v40 val_main_v39 val_main_v38 val_main_v37
    val_main_v36 val_main_v35 val_main_v34 val_main_v32 val_main_v31 val_main_v30 val_main_v29 val_main_v28 val_main_v27
    val_main_v26 val_main_v25
  rw [v24_eq, v33_eq]
  pointwise [v2_at, v11_at]
  unfold modAt
  split
  · rename_i h
    simp only [condAt_prompt x0 x1 g _ h]
  · rename_i h
    simp only [condAt_sample x0 x1 g _ h]

/-- Both layers. -/
theorem ref_at (l : Fin 2) (g : Fin 8) (e : Fin 6144) :
    val_main_v48 (F := Ideal) x0 x1 x2 x3 (ix3 l g e) = modAt x0 x1 x2 x3 l g e := by
  unfold val_main_v48 val_main_v47 val_main_v46
  pointwise [v23_at, v45_at]
  split
  · rename_i h
    exact congrArg (modAt x0 x1 x2 x3 · g e) (Fin.ext (by show 0 = l.val; omega))
  · rename_i h
    exact congrArg (modAt x0 x1 x2 x3 · g e) (Fin.ext (by show 1 = l.val; omega))

end Cert.Reference5Ideal.Mod
-- ==== Proof.ModClaim.lean ====
module

public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.ModArray
public import proofs.«01_k».proof.Proof.ModRef

/-! # The modulation's claims

Frames of the kernel, of its idealization and of the reference; and that kernel and reference end with equal results. -/

@[expose] public section

set_option maxRecDepth 100000

noncomputable section

namespace Cert.Proof.Mod

open Idealize.ShloMosaic Idealize.ShloMosaic.TcCoe Idealize.SL.Sem

instance : Cert.Kernel5.Facts := Cert.Kernel5.Gen.facts
instance : Cert.Kernel5Ideal.Facts := Cert.Kernel5Ideal.Gen.facts
instance : Cert.Reference5Ideal.Facts := Cert.Reference5Ideal.Gen.facts

theorem frame_k : Cert.quiescent_Kernel5 := fun m ρ _ => Cert.Kernel5.Gen.frame m ρ

theorem frame_ki : Cert.quiescent_Kernel5Ideal := fun m ρ _ => Cert.Kernel5Ideal.Gen.frame m ρ

/-- The reference leaves its arguments alone; it has no semaphores. -/
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- An array index of three axes is its coordinates. -/
theorem eta3 (i : Cert.Reference5Ideal.S2x8x6144.Idx) : ix3 (i 0) (i 1) (i 2) = i := by
  funext a
  match a with
  | 0 => rfl
  | 1 => rfl
  | 2 => rfl

/-- The reference's result is the kernel's. -/
theorem same (m : (ℓ : Loc Cert.Kernel5Ideal.nD Cert.Kernel5Ideal.τ Cert.Kernel5Ideal.sig) → Buf (Elt Ideal) ℓ)
    (c : Dev Cert.Kernel5Ideal.nD) :
    Cert.Reference5Ideal.Read.val_main_v48 (F := Ideal)
      (m ((c.tc : Thread _ Cert.Kernel5Ideal.τ).loc Cert.Kernel5Ideal.main_arg0))
      (m ((c.tc : Thread _ Cert.Kernel5Ideal.τ).loc Cert.Kernel5Ideal.main_arg1))
      (m ((c.tc : Thread _ Cert.Kernel5Ideal.τ).loc Cert.Kernel5Ideal.main_arg2))
      (m ((c.tc : Thread _ Cert.Kernel5Ideal.τ).loc Cert.Kernel5Ideal.main_arg3))
    = (Cert.Kernel5Ideal.Gen.dats m 0 c).arrAt 3 Cert.Kernel5Ideal.cfg0.N := by
  funext i
  rw [← eta3 i]
  exact (Cert.Reference5Ideal.Mod.ref_at _ _ _ _ (i 0) (i 1) (i 2)).trans
    (Cert.Kernel5Ideal.Mod.final_apply m c (i 0) (i 1) (i 2)).symm

/-- Kernel and reference end with equal results. -/
theorem algebraic : Cert.algebraic_Kernel5Ideal_Reference5Ideal := by
  intro m g m' g' _ hagree
  refine ⟨fun c => (Cert.Kernel5Ideal.Gen.dats m 0 c).arrAt 3 Cert.Kernel5Ideal.cfg0.N, Cert.Kernel5Ideal.Value.run_blocks
    m g, ?_⟩
  refine (θ_run Cert.Reference5Ideal.defs _ _).mono (fun r h c => ⟨?_, (h c).2⟩) (Cert.Reference5Ideal.Value.run (F :=
    Ideal) m' g')
  refine ((h c).1.trans (Cert.Reference5Ideal.Read.val_main_v48_eq m' c)).trans ?_
  refine Eq.trans ?_ (same m c)
  obtain ⟨h0, h1, h2, h3⟩ := hagree c
  exact congr (congr (congr (congrArg (Cert.Reference5Ideal.Read.val_main_v48 (F := Ideal)) h0) h1) h2) h3

end Cert.Proof.Mod
-- ==== Proof.lean ====
module

public import proofs.«01_k».proof.Defs
public import proofs.«01_k».proof.Proof.AttnClaim
public import proofs.«01_k».proof.Proof.FfnClaim
public import proofs.«01_k».proof.Proof.MergeClaim
public import proofs.«01_k».proof.Proof.ProjClaim
public import proofs.«01_k».proof.Proof.ModClaim

/-! # The claim, assembled

The attention's claims come from `Proof/AttnClaim.lean`, the feed-forward block's from `Proof/FfnClaim.lean`,
the merge's from `Proof/MergeClaim.lean`, the input projection's from `Proof/ProjClaim.lean`, the modulation's from
`Proof/ModClaim.lean`. -/

@[expose] public section

namespace Cert.Proof

/-- The five calls run without touching their arguments; the attention computes what its reference computes wherever the scores
    are finite, the feed-forward block, the merge, the input projection and the modulation what
    theirs compute. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite_scores.facts, Attn.frame_k, Attn.frame_ki, Attn.frame_ki_pre,
    Attn.frame_ri, Attn.frame_ri_pre, Ffn.frame_k, Ffn.frame_ki, Ffn.frame_ri, Merge.frame_k, Merge.frame_ki, Merge.frame_ri,
    Proj.frame_k, Proj.frame_ki, Proj.frame_ri, Mod.frame_k, Mod.frame_ki, Mod.frame_ri,
    Attn.preserves, Attn.algebraic, trivial, Ffn.algebraic, trivial, Merge.algebraic, trivial, Proj.algebraic, trivial, Mod.algebraic⟩

end Cert.Proof
